-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_mlp_finite [hPre_mlp_finite : Cert.Pre_mlp_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7)) (m ((c.tc : Thread Cert.MlpReferenceIdeal.nD Cert.MlpReferenceIdeal.τ).loc Cert.MlpReferenceIdeal.main_arg8)) (m ((c.tc : Thread Cert.MlpReferenceIdeal.nD Cert.MlpReferenceIdeal.τ).loc Cert.MlpReferenceIdeal.main_arg9)) (m ((c.tc : Thread Cert.MlpReferenceIdeal.nD Cert.MlpReferenceIdeal.τ).loc Cert.MlpReferenceIdeal.main_arg10)) (m ((c.tc : Thread Cert.MlpReferenceIdeal.nD Cert.MlpReferenceIdeal.τ).loc Cert.MlpReferenceIdeal.main_arg11)) (m ((c.tc : Thread Cert.MlpReferenceIdeal.nD Cert.MlpReferenceIdeal.τ).loc Cert.MlpReferenceIdeal.main_arg12)) (m ((c.tc : Thread Cert.MlpReferenceIdeal.nD Cert.MlpReferenceIdeal.τ).loc Cert.MlpReferenceIdeal.main_arg13))) = (fun _ => 1#1)

def Pre_Top (m : (ℓ : Loc Cert.Top.nD Cert.Top.τ Cert.Top.sig) → Buf (Elt Bits) ℓ) : Prop :=
  True

def Pre_TopIdeal (m : (ℓ : Loc Cert.TopIdeal.nD Cert.TopIdeal.τ Cert.TopIdeal.sig) → Buf (Elt Ideal) ℓ) : Prop :=
  True

def Pre_TopIdeal_three_nearest [hPre_three_nearest : Cert.Pre_three_nearest.Facts] (m : (ℓ : Loc Cert.TopIdeal.nD Cert.TopIdeal.τ Cert.TopIdeal.sig) → Buf (Elt Ideal) ℓ) : Prop :=
  ∀ c : Dev Cert.TopIdeal.nD,
    (Cert.Pre_three_nearest.fn (F := Ideal) (m ((c.tc : Thread Cert.TopIdeal.nD Cert.TopIdeal.τ).loc Cert.TopIdeal.main_arg0)) (m ((c.tc : Thread Cert.TopIdeal.nD Cert.TopIdeal.τ).loc Cert.TopIdeal.main_arg1))) = (fun _ => 1#1)

def Pre_TopReferenceIdeal (m : (ℓ : Loc Cert.TopReferenceIdeal.nD Cert.TopReferenceIdeal.τ Cert.TopReferenceIdeal.sig) → Buf (Elt Ideal) ℓ) : Prop :=
  True

def Pre_TopReferenceIdeal_three_nearest [hPre_three_nearest : Cert.Pre_three_nearest.Facts] (m : (ℓ : Loc Cert.TopReferenceIdeal.nD Cert.TopReferenceIdeal.τ Cert.TopReferenceIdeal.sig) → Buf (Elt Ideal) ℓ) : Prop :=
  ∀ c : Dev Cert.TopReferenceIdeal.nD,
    (Cert.Pre_three_nearest.fn (F := Ideal) (m ((c.tc : Thread Cert.TopReferenceIdeal.nD Cert.TopReferenceIdeal.τ).loc Cert.TopReferenceIdeal.main_arg0)) (m ((c.tc : Thread Cert.TopReferenceIdeal.nD Cert.TopReferenceIdeal.τ).loc Cert.TopReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12)
      ∧ r.2.mem ((c.tc : Thread Cert.MlpReferenceIdeal.nD Cert.MlpReferenceIdeal.τ).loc Cert.MlpReferenceIdeal.main_arg13) = m ((c.tc : Thread Cert.MlpReferenceIdeal.nD Cert.MlpReferenceIdeal.τ).loc Cert.MlpReferenceIdeal.main_arg13))
      ∧ r.2.sem = fun _ => 0)

def quiescent_MlpReferenceIdeal_pre_mlp_finite [hMlpReferenceIdeal : Cert.MlpReferenceIdeal.Facts] [hPre_mlp_finite : Cert.Pre_mlp_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_mlp_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12)
      ∧ r.2.mem ((c.tc : Thread Cert.MlpReferenceIdeal.nD Cert.MlpReferenceIdeal.τ).loc Cert.MlpReferenceIdeal.main_arg13) = m ((c.tc : Thread Cert.MlpReferenceIdeal.nD Cert.MlpReferenceIdeal.τ).loc Cert.MlpReferenceIdeal.main_arg13))
      ∧ r.2.sem = fun _ => 0)

def quiescent_Top [hTop : Cert.Top.Facts] : Prop :=
  ∀ (m : (ℓ : Loc Cert.Top.nD Cert.Top.τ Cert.Top.sig) → Buf (Elt Bits) ℓ) (g : Dev Cert.Top.nD → PrngReg), Pre_Top m →
    θ_run (Cert.Top.defs (F := Bits)) (onTc (τ := Cert.Top.τ) (Cert.Top.main (F := Bits))) ⟨m, fun _ => 0, g⟩ (fun r => (∀ c : Dev Cert.Top.nD,
      r.2.mem ((c.tc : Thread Cert.Top.nD Cert.Top.τ).loc Cert.Top.main_arg0) = m ((c.tc : Thread Cert.Top.nD Cert.Top.τ).loc Cert.Top.main_arg0)
      ∧ r.2.mem ((c.tc : Thread Cert.Top.nD Cert.Top.τ).loc Cert.Top.main_arg1) = m ((c.tc : Thread Cert.Top.nD Cert.Top.τ).loc Cert.Top.main_arg1))
      ∧ r.2.sem = fun _ => 0)

def quiescent_TopIdeal [hTopIdeal : Cert.TopIdeal.Facts] : Prop :=
  ∀ (m : (ℓ : Loc Cert.TopIdeal.nD Cert.TopIdeal.τ Cert.TopIdeal.sig) → Buf (Elt Ideal) ℓ) (g : Dev Cert.TopIdeal.nD → PrngReg), Pre_TopIdeal m →
    θ_run (Cert.TopIdeal.defs (F := Ideal)) (onTc (τ := Cert.TopIdeal.τ) (Cert.TopIdeal.main (F := Ideal))) ⟨m, fun _ => 0, g⟩ (fun r => (∀ c : Dev Cert.TopIdeal.nD,
      r.2.mem ((c.tc : Thread Cert.TopIdeal.nD Cert.TopIdeal.τ).loc Cert.TopIdeal.main_arg0) = m ((c.tc : Thread Cert.TopIdeal.nD Cert.TopIdeal.τ).loc Cert.TopIdeal.main_arg0)
      ∧ r.2.mem ((c.tc : Thread Cert.TopIdeal.nD Cert.TopIdeal.τ).loc Cert.TopIdeal.main_arg1) = m ((c.tc : Thread Cert.TopIdeal.nD Cert.TopIdeal.τ).loc Cert.TopIdeal.main_arg1))
      ∧ r.2.sem = fun _ => 0)

def quiescent_TopIdeal_pre_three_nearest [hTopIdeal : Cert.TopIdeal.Facts] [hPre_three_nearest : Cert.Pre_three_nearest.Facts] : Prop :=
  ∀ (m : (ℓ : Loc Cert.TopIdeal.nD Cert.TopIdeal.τ Cert.TopIdeal.sig) → Buf (Elt Ideal) ℓ) (g : Dev Cert.TopIdeal.nD → PrngReg), Pre_TopIdeal_three_nearest m →
    θ_run (Cert.TopIdeal.defs (F := Ideal)) (onTc (τ := Cert.TopIdeal.τ) (Cert.TopIdeal.main (F := Ideal))) ⟨m, fun _ => 0, g⟩ (fun r => (∀ c : Dev Cert.TopIdeal.nD,
      r.2.mem ((c.tc : Thread Cert.TopIdeal.nD Cert.TopIdeal.τ).loc Cert.TopIdeal.main_arg0) = m ((c.tc : Thread Cert.TopIdeal.nD Cert.TopIdeal.τ).loc Cert.TopIdeal.main_arg0)
      ∧ r.2.mem ((c.tc : Thread Cert.TopIdeal.nD Cert.TopIdeal.τ).loc Cert.TopIdeal.main_arg1) = m ((c.tc : Thread Cert.TopIdeal.nD Cert.TopIdeal.τ).loc Cert.TopIdeal.main_arg1))
      ∧ r.2.sem = fun _ => 0)

def quiescent_TopReferenceIdeal [hTopReferenceIdeal : Cert.TopReferenceIdeal.Facts] : Prop :=
  ∀ (m : (ℓ : Loc Cert.TopReferenceIdeal.nD Cert.TopReferenceIdeal.τ Cert.TopReferenceIdeal.sig) → Buf (Elt Ideal) ℓ) (g : Dev Cert.TopReferenceIdeal.nD → PrngReg), Pre_TopReferenceIdeal m →
    θ_run (Cert.TopReferenceIdeal.defs (F := Ideal)) (onTc (τ := Cert.TopReferenceIdeal.τ) (Cert.TopReferenceIdeal.main (F := Ideal))) ⟨m, fun _ => 0, g⟩ (fun r => (∀ c : Dev Cert.TopReferenceIdeal.nD,
      r.2.mem ((c.tc : Thread Cert.TopReferenceIdeal.nD Cert.TopReferenceIdeal.τ).loc Cert.TopReferenceIdeal.main_arg0) = m ((c.tc : Thread Cert.TopReferenceIdeal.nD Cert.TopReferenceIdeal.τ).loc Cert.TopReferenceIdeal.main_arg0)
      ∧ r.2.mem ((c.tc : Thread Cert.TopReferenceIdeal.nD Cert.TopReferenceIdeal.τ).loc Cert.TopReferenceIdeal.main_arg1) = m ((c.tc : Thread Cert.TopReferenceIdeal.nD Cert.TopReferenceIdeal.τ).loc Cert.TopReferenceIdeal.main_arg1))
      ∧ r.2.sem = fun _ => 0)

def quiescent_TopReferenceIdeal_pre_three_nearest [hTopReferenceIdeal : Cert.TopReferenceIdeal.Facts] [hPre_three_nearest : Cert.Pre_three_nearest.Facts] : Prop :=
  ∀ (m : (ℓ : Loc Cert.TopReferenceIdeal.nD Cert.TopReferenceIdeal.τ Cert.TopReferenceIdeal.sig) → Buf (Elt Ideal) ℓ) (g : Dev Cert.TopReferenceIdeal.nD → PrngReg), Pre_TopReferenceIdeal_three_nearest m →
    θ_run (Cert.TopReferenceIdeal.defs (F := Ideal)) (onTc (τ := Cert.TopReferenceIdeal.τ) (Cert.TopReferenceIdeal.main (F := Ideal))) ⟨m, fun _ => 0, g⟩ (fun r => (∀ c : Dev Cert.TopReferenceIdeal.nD,
      r.2.mem ((c.tc : Thread Cert.TopReferenceIdeal.nD Cert.TopReferenceIdeal.τ).loc Cert.TopReferenceIdeal.main_arg0) = m ((c.tc : Thread Cert.TopReferenceIdeal.nD Cert.TopReferenceIdeal.τ).loc Cert.TopReferenceIdeal.main_arg0)
      ∧ r.2.mem ((c.tc : Thread Cert.TopReferenceIdeal.nD Cert.TopReferenceIdeal.τ).loc Cert.TopReferenceIdeal.main_arg1) = m ((c.tc : Thread Cert.TopReferenceIdeal.nD Cert.TopReferenceIdeal.τ).loc Cert.TopReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Mlp_MlpIdeal : Prop :=
  True

def algebraic_MlpIdeal_MlpReferenceIdeal_pre_mlp_finite [hMlpIdeal : Cert.MlpIdeal.Facts] [hMlpReferenceIdeal : Cert.MlpReferenceIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_mlp_finite m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)
      ∧ m' ((c.tc : Thread Cert.MlpReferenceIdeal.nD Cert.MlpReferenceIdeal.τ).loc Cert.MlpReferenceIdeal.main_arg10) = m ((c.tc : Thread Cert.MlpIdeal.nD Cert.MlpIdeal.τ).loc Cert.MlpIdeal.main_arg10)
      ∧ m' ((c.tc : Thread Cert.MlpReferenceIdeal.nD Cert.MlpReferenceIdeal.τ).loc Cert.MlpReferenceIdeal.main_arg11) = m ((c.tc : Thread Cert.MlpIdeal.nD Cert.MlpIdeal.τ).loc Cert.MlpIdeal.main_arg11)
      ∧ m' ((c.tc : Thread Cert.MlpReferenceIdeal.nD Cert.MlpReferenceIdeal.τ).loc Cert.MlpReferenceIdeal.main_arg12) = m ((c.tc : Thread Cert.MlpIdeal.nD Cert.MlpIdeal.τ).loc Cert.MlpIdeal.main_arg12)
      ∧ m' ((c.tc : Thread Cert.MlpReferenceIdeal.nD Cert.MlpReferenceIdeal.τ).loc Cert.MlpReferenceIdeal.main_arg13) = m ((c.tc : Thread Cert.MlpIdeal.nD Cert.MlpIdeal.τ).loc Cert.MlpIdeal.main_arg13)) →
    ∃ (v0 : (c : Dev Cert.MlpIdeal.nD) → Buf (Elt Ideal) ((c.tc : Thread Cert.MlpIdeal.nD Cert.MlpIdeal.τ).loc Cert.MlpIdeal.main_v13)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v13) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v63) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9)
          ∧ r.2.mem ((c.tc : Thread Cert.MlpReferenceIdeal.nD Cert.MlpReferenceIdeal.τ).loc Cert.MlpReferenceIdeal.main_arg10) = m' ((c.tc : Thread Cert.MlpReferenceIdeal.nD Cert.MlpReferenceIdeal.τ).loc Cert.MlpReferenceIdeal.main_arg10)
          ∧ r.2.mem ((c.tc : Thread Cert.MlpReferenceIdeal.nD Cert.MlpReferenceIdeal.τ).loc Cert.MlpReferenceIdeal.main_arg11) = m' ((c.tc : Thread Cert.MlpReferenceIdeal.nD Cert.MlpReferenceIdeal.τ).loc Cert.MlpReferenceIdeal.main_arg11)
          ∧ r.2.mem ((c.tc : Thread Cert.MlpReferenceIdeal.nD Cert.MlpReferenceIdeal.τ).loc Cert.MlpReferenceIdeal.main_arg12) = m' ((c.tc : Thread Cert.MlpReferenceIdeal.nD Cert.MlpReferenceIdeal.τ).loc Cert.MlpReferenceIdeal.main_arg12)
          ∧ r.2.mem ((c.tc : Thread Cert.MlpReferenceIdeal.nD Cert.MlpReferenceIdeal.τ).loc Cert.MlpReferenceIdeal.main_arg13) = m' ((c.tc : Thread Cert.MlpReferenceIdeal.nD Cert.MlpReferenceIdeal.τ).loc Cert.MlpReferenceIdeal.main_arg13))

def preserves_Top_TopIdeal : Prop :=
  IdealRules.named_const.Statement Cert.TopIdeal.κ "mask" .f32 0x7F61B1E6#32 ⊤
  ∧ IdealRules.named_const.Statement Cert.TopIdeal.κ "eps2" .f32 0x2B8CBCCC#32 ((77371252064649 / 77371252455336267181195264 : ℝ) : EReal)

def algebraic_TopIdeal_TopReferenceIdeal_on_columns_written_pre_three_nearest [hTopIdeal : Cert.TopIdeal.Facts] [hTopReferenceIdeal : Cert.TopReferenceIdeal.Facts] [hPre_three_nearest : Cert.Pre_three_nearest.Facts] [hOn_columns_written : Cert.On_columns_written.Facts] : Prop :=
  ∀ (m : (ℓ : Loc Cert.TopIdeal.nD Cert.TopIdeal.τ Cert.TopIdeal.sig) → Buf (Elt Ideal) ℓ) (g : Dev Cert.TopIdeal.nD → PrngReg)
    (m' : (ℓ : Loc Cert.TopReferenceIdeal.nD Cert.TopReferenceIdeal.τ Cert.TopReferenceIdeal.sig) → Buf (Elt Ideal) ℓ) (g' : Dev Cert.TopReferenceIdeal.nD → PrngReg), Pre_TopIdeal_three_nearest m →
    (∀ c : Dev Cert.TopIdeal.nD,
      m' ((c.tc : Thread Cert.TopReferenceIdeal.nD Cert.TopReferenceIdeal.τ).loc Cert.TopReferenceIdeal.main_arg0) = m ((c.tc : Thread Cert.TopIdeal.nD Cert.TopIdeal.τ).loc Cert.TopIdeal.main_arg0)
      ∧ m' ((c.tc : Thread Cert.TopReferenceIdeal.nD Cert.TopReferenceIdeal.τ).loc Cert.TopReferenceIdeal.main_arg1) = m ((c.tc : Thread Cert.TopIdeal.nD Cert.TopIdeal.τ).loc Cert.TopIdeal.main_arg1)) →
    ∃ (v0 : (c : Dev Cert.TopIdeal.nD) → Buf (Elt Ideal) ((c.tc : Thread Cert.TopIdeal.nD Cert.TopIdeal.τ).loc Cert.TopIdeal.main_v4_0)) (v1 : (c : Dev Cert.TopIdeal.nD) → Buf (Elt Ideal) ((c.tc : Thread Cert.TopIdeal.nD Cert.TopIdeal.τ).loc Cert.TopIdeal.main_v4_1)),
      θ_run (Cert.TopIdeal.defs (F := Ideal)) (onTc (τ := Cert.TopIdeal.τ) (Cert.TopIdeal.main (F := Ideal))) ⟨m, fun _ => 0, g⟩ (fun r => ∀ c : Dev Cert.TopIdeal.nD,
          (∀ i : (⟨2, ![4, 8192]⟩ : Shape).Idx, (Cert.On_columns_written.fn (F := Ideal) (m ((c.tc : Thread Cert.TopIdeal.nD Cert.TopIdeal.τ).loc Cert.TopIdeal.main_arg0)) (m ((c.tc : Thread Cert.TopIdeal.nD Cert.TopIdeal.τ).loc Cert.TopIdeal.main_arg1))).1 i = 1#1 → r.2.mem ((c.tc : Thread Cert.TopIdeal.nD Cert.TopIdeal.τ).loc Cert.TopIdeal.main_v4_0) i = v0 c i)
          ∧ (∀ i : (⟨2, ![8192, 8]⟩ : Shape).Idx, (Cert.On_columns_written.fn (F := Ideal) (m ((c.tc : Thread Cert.TopIdeal.nD Cert.TopIdeal.τ).loc Cert.TopIdeal.main_arg0)) (m ((c.tc : Thread Cert.TopIdeal.nD Cert.TopIdeal.τ).loc Cert.TopIdeal.main_arg1))).2 i = 1#1 → r.2.mem ((c.tc : Thread Cert.TopIdeal.nD Cert.TopIdeal.τ).loc Cert.TopIdeal.main_v4_1) i = v1 c i)
          ∧ r.2.mem ((c.tc : Thread Cert.TopIdeal.nD Cert.TopIdeal.τ).loc Cert.TopIdeal.main_arg0) = m ((c.tc : Thread Cert.TopIdeal.nD Cert.TopIdeal.τ).loc Cert.TopIdeal.main_arg0)
          ∧ r.2.mem ((c.tc : Thread Cert.TopIdeal.nD Cert.TopIdeal.τ).loc Cert.TopIdeal.main_arg1) = m ((c.tc : Thread Cert.TopIdeal.nD Cert.TopIdeal.τ).loc Cert.TopIdeal.main_arg1))
      ∧ θ_run (Cert.TopReferenceIdeal.defs (F := Ideal)) (onTc (τ := Cert.TopReferenceIdeal.τ) (Cert.TopReferenceIdeal.main (F := Ideal))) ⟨m', fun _ => 0, g'⟩ (fun r => ∀ c : Dev Cert.TopReferenceIdeal.nD,
          (∀ i : (⟨2, ![4, 8192]⟩ : Shape).Idx, (Cert.On_columns_written.fn (F := Ideal) (m ((c.tc : Thread Cert.TopIdeal.nD Cert.TopIdeal.τ).loc Cert.TopIdeal.main_arg0)) (m ((c.tc : Thread Cert.TopIdeal.nD Cert.TopIdeal.τ).loc Cert.TopIdeal.main_arg1))).1 i = 1#1 → r.2.mem ((c.tc : Thread Cert.TopReferenceIdeal.nD Cert.TopReferenceIdeal.τ).loc Cert.TopReferenceIdeal.main_v26) i = v0 c i)
          ∧ (∀ i : (⟨2, ![8192, 8]⟩ : Shape).Idx, (Cert.On_columns_written.fn (F := Ideal) (m ((c.tc : Thread Cert.TopIdeal.nD Cert.TopIdeal.τ).loc Cert.TopIdeal.main_arg0)) (m ((c.tc : Thread Cert.TopIdeal.nD Cert.TopIdeal.τ).loc Cert.TopIdeal.main_arg1))).2 i = 1#1 → r.2.mem ((c.tc : Thread Cert.TopReferenceIdeal.nD Cert.TopReferenceIdeal.τ).loc Cert.TopReferenceIdeal.main_v27) i = v1 c i)
          ∧ r.2.mem ((c.tc : Thread Cert.TopReferenceIdeal.nD Cert.TopReferenceIdeal.τ).loc Cert.TopReferenceIdeal.main_arg0) = m' ((c.tc : Thread Cert.TopReferenceIdeal.nD Cert.TopReferenceIdeal.τ).loc Cert.TopReferenceIdeal.main_arg0)
          ∧ r.2.mem ((c.tc : Thread Cert.TopReferenceIdeal.nD Cert.TopReferenceIdeal.τ).loc Cert.TopReferenceIdeal.main_arg1) = m' ((c.tc : Thread Cert.TopReferenceIdeal.nD Cert.TopReferenceIdeal.τ).loc Cert.TopReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hMlp : Cert.Mlp.Facts) (hMlpIdeal : Cert.MlpIdeal.Facts) (hMlpReferenceIdeal : Cert.MlpReferenceIdeal.Facts) (hTop : Cert.Top.Facts) (hTopIdeal : Cert.TopIdeal.Facts) (hTopReferenceIdeal : Cert.TopReferenceIdeal.Facts) (hPre_in_range : Cert.Pre_in_range.Facts) (hPre_mlp_finite : Cert.Pre_mlp_finite.Facts) (hPre_three_nearest : Cert.Pre_three_nearest.Facts) (hOn_columns_written : Cert.On_columns_written.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpReferenceIdeal (hMlpReferenceIdeal := hMlpReferenceIdeal)
    ∧ quiescent_MlpReferenceIdeal_pre_mlp_finite (hMlpReferenceIdeal := hMlpReferenceIdeal) (hPre_mlp_finite := hPre_mlp_finite)
    ∧ quiescent_Top (hTop := hTop)
    ∧ quiescent_TopIdeal (hTopIdeal := hTopIdeal)
    ∧ quiescent_TopIdeal_pre_three_nearest (hTopIdeal := hTopIdeal) (hPre_three_nearest := hPre_three_nearest)
    ∧ quiescent_TopReferenceIdeal (hTopReferenceIdeal := hTopReferenceIdeal)
    ∧ quiescent_TopReferenceIdeal_pre_three_nearest (hTopReferenceIdeal := hTopReferenceIdeal) (hPre_three_nearest := hPre_three_nearest)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Mlp_MlpIdeal
    ∧ algebraic_MlpIdeal_MlpReferenceIdeal_pre_mlp_finite (hMlpIdeal := hMlpIdeal) (hMlpReferenceIdeal := hMlpReferenceIdeal) (hPre_mlp_finite := hPre_mlp_finite)
    ∧ preserves_Top_TopIdeal
    ∧ algebraic_TopIdeal_TopReferenceIdeal_on_columns_written_pre_three_nearest (hTopIdeal := hTopIdeal) (hTopReferenceIdeal := hTopReferenceIdeal) (hPre_three_nearest := hPre_three_nearest) (hOn_columns_written := hOn_columns_written)
-- ==== On_columns_written.lean ====
abbrev S2048x3 : Shape := ⟨2, ![2048, 3]⟩
abbrev S8192x3 : Shape := ⟨2, ![8192, 3]⟩
abbrev S_ : Shape := ⟨0, ![]⟩
abbrev S4x8192 : Shape := ⟨2, ![4, 8192]⟩
abbrev S8 : Shape := ⟨1, ![8]⟩
abbrev S8192x8 : Shape := ⟨2, ![8192, 8]⟩

class Facts : Prop where
  bcast_S_S4x8192 : S_.BroadcastsInDim S4x8192 (![] : Fin 0 → Fin S4x8192.rank)
  bcast_S_S8 : S_.BroadcastsInDim S8 (![] : Fin 0 → Fin S8.rank)
  bcast_S8_S8192x8_1 : S8.BroadcastsInDim S8192x8 (![1] : Fin 1 → Fin S8192x8.rank)

variable [Facts]

def fn {F : FTy → Type} [FloatOps F] (main_arg0 : FVec F S2048x3 .f32) (main_arg1 : FVec F S8192x3 .f32) : IVec S4x8192 1 × IVec S8192x8 1 :=
  let main_c : IVec S_ 1 := constantI S_ 1 1#1
  let main_v0 : IVec S4x8192 1 := broadcastInDim S4x8192 ![] bcast_S_S4x8192 main_c
  let main_v1 : IVec S8 32 := iotaInDim S8 32 0
  let main_c_0 : IVec S_ 32 := constantI S_ 32 3#32
  let main_v2 : IVec S8 32 := broadcastInDim S8 ![] bcast_S_S8 main_c_0
  let main_v3 : IVec S8 1 := cmpi .slt main_v1 main_v2
  let main_v4 : IVec S8192x8 1 := broadcastInDim S8192x8 ![1] bcast_S8_S8192x8_1 main_v3
  (main_v0, main_v4)
-- ==== Pre_in_range.lean ====
abbrev S2048x256 : Shape := ⟨2, ![2048, 256]⟩
abbrev S4x8192 : Shape := ⟨2, ![4, 8192]⟩
abbrev S3x8192 : Shape := ⟨2, ![3, 8192]⟩
abbrev S_ : Shape := ⟨0, ![]⟩

class Facts : Prop where
  slices_S4x8192_S3x8192_0_0 : S4x8192.Slices ![0, 0] S3x8192
  bcast_S_S3x8192 : S_.BroadcastsInDim S3x8192 (![] : Fin 0 → Fin S3x8192.rank)

variable [Facts]

def fn {F : FTy → Type} [FloatOps F] (main_arg0 : FVec F S2048x256 .f32) (main_arg1 : IVec S4x8192 32) : IVec S3x8192 1 :=
  let main_v0 : IVec S3x8192 32 := (extractStridedSlice S3x8192 ![0, 0] · slices_S4x8192_S3x8192_0_0) main_arg1
  let main_c : IVec S_ 32 := constantI S_ 32 0#32
  let main_v1 : IVec S3x8192 32 := broadcastInDim S3x8192 ![] bcast_S_S3x8192 main_c
  let main_v2 : IVec S3x8192 1 := cmpi .sge main_v0 main_v1
  let main_v3 : IVec S3x8192 32 := (extractStridedSlice S3x8192 ![0, 0] · slices_S4x8192_S3x8192_0_0) main_arg1
  let main_c_0 : IVec S_ 32 := constantI S_ 32 2048#32
  let main_v4 : IVec S3x8192 32 := broadcastInDim S3x8192 ![] bcast_S_S3x8192 main_c_0
  let main_v5 : IVec S3x8192 1 := cmpi .slt main_v3 main_v4
  let main_v6 : IVec S3x8192 1 := andi main_v2 main_v5
  main_v6
-- ==== Pre_mlp_finite.lean ====
abbrev S3x8192x256 : Shape := ⟨3, ![3, 8192, 256]⟩
abbrev S8192x8 : Shape := ⟨2, ![8192, 8]⟩
abbrev S8192x3 : Shape := ⟨2, ![8192, 3]⟩
abbrev S8192x128 : Shape := ⟨2, ![8192, 128]⟩
abbrev S512x387 : Shape := ⟨2, ![512, 387]⟩
abbrev S512 : Shape := ⟨1, ![512]⟩
abbrev S512x512 : Shape := ⟨2, ![512, 512]⟩
abbrev S256x512 : Shape := ⟨2, ![256, 512]⟩
abbrev S256 : Shape := ⟨1, ![256]⟩
abbrev S_ : Shape := ⟨0, ![]⟩

class Facts : Prop where
  bcast_S_S3x8192x256 : S_.BroadcastsInDim S3x8192x256 (![] : Fin 0 → Fin S3x8192x256.rank)
  reducesTo_S3x8192x256_S_d0_1_2 : S3x8192x256.ReducesTo [0, 1, 2] S_
  h_S_ : 0 < S_.numel
  slices_S8192x8_S8192x3_0_0 : S8192x8.Slices ![0, 0] S8192x3
  bcast_S_S8192x3 : S_.BroadcastsInDim S8192x3 (![] : Fin 0 → Fin S8192x3.rank)
  reducesTo_S8192x3_S_d0_1 : S8192x3.ReducesTo [0, 1] S_
  bcast_S_S8192x128 : S_.BroadcastsInDim S8192x128 (![] : Fin 0 → Fin S8192x128.rank)
  reducesTo_S8192x128_S_d0_1 : S8192x128.ReducesTo [0, 1] S_
  bcast_S_S512x387 : S_.BroadcastsInDim S512x387 (![] : Fin 0 → Fin S512x387.rank)
  reducesTo_S512x387_S_d0_1 : S512x387.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_v49 : IVec S_ 1) (main_v50 : FVec F S512 .f32) (main_cst_18 : FVec F S_ .f32) : IVec S_ 1 :=
  let main_v51 : FVec F S512 .f32 := broadcastInDim S512 ![] bcast_S_S512 main_cst_18
  let main_v52 : IVec S512 1 := cmpf .olt main_v50 main_v51
  let main_c_19 : IVec S_ 1 := constantI S_ 1 1#1
  let main_v53 : IVec S_ 1 := (fun x v => Host.reduce IntOp.andi x v reducesTo_S512_S_d0 h_S_) main_v52 main_c_19
  let main_v54 : IVec S_ 1 := andi main_v49 main_v53
  main_v54

def fn_part2 {F : FTy → Type} [FloatOps F] (main_arg7 : FVec F S512 .f32) (main_arg10 : FVec F S512 .f32) (main_arg11 : FVec F S512 .f32) (main_arg12 : FVec F S512 .f32) (main_v29 : IVec S_ 1) (main_v33 : IVec S_ 1) : IVec S_ 1 :=
  let main_v34 : IVec S_ 1 := andi main_v29 main_v33
  let main_v35 : FVec F S512 .f32 := Host.absf main_arg7
  let main_cst_12 : FVec F S_ .f32 := constant S_ .f32 0x7F800000#32
  let main_v36 : FVec F S512 .f32 := broadcastInDim S512 ![] bcast_S_S512 main_cst_12
  let main_v37 : IVec S512 1 := cmpf .olt main_v35 main_v36
  let main_c_13 : IVec S_ 1 := constantI S_ 1 1#1
  let main_v38 : IVec S_ 1 := (fun x v => Host.reduce IntOp.andi x v reducesTo_S512_S_d0 h_S_) main_v37 main_c_13
  let main_v39 : IVec S_ 1 := andi main_v34 main_v38
  let main_v40 : FVec F S512 .f32 := Host.absf main_arg10
  let main_cst_14 : FVec F S_ .f32 := constant S_ .f32 0x7F800000#32
  let main_v41 : FVec F S512 .f32 := broadcastInDim S512 ![] bcast_S_S512 main_cst_14
  let main_v42 : IVec S512 1 := cmpf .olt main_v40 main_v41
  let main_c_15 : IVec S_ 1 := constantI S_ 1 1#1
  let main_v43 : IVec S_ 1 := (fun x v => Host.reduce IntOp.andi x v reducesTo_S512_S_d0 h_S_) main_v42 main_c_15
  let main_v44 : IVec S_ 1 := andi main_v39 main_v43
  let main_v45 : FVec F S512 .f32 := Host.absf main_arg11
  let main_cst_16 : FVec F S_ .f32 := constant S_ .f32 0x7F800000#32
  let main_v46 : FVec F S512 .f32 := broadcastInDim S512 ![] bcast_S_S512 main_cst_16
  let main_v47 : IVec S512 1 := cmpf .olt main_v45 main_v46
  let main_c_17 : IVec S_ 1 := constantI S_ 1 1#1
  let main_v48 : IVec S_ 1 := (fun x v => Host.reduce IntOp.andi x v reducesTo_S512_S_d0 h_S_) main_v47 main_c_17
  let main_v49 : IVec S_ 1 := andi main_v44 main_v48
  let main_v50 : FVec F S512 .f32 := Host.absf main_arg12
  let main_cst_18 : FVec F S_ .f32 := constant S_ .f32 0x7F800000#32
  fn_part3 (F := F) main_v49 main_v50 main_cst_18

def fn_part1 {F : FTy → Type} [FloatOps F] (main_arg4 : FVec F S512x387 .f32) (main_arg5 : FVec F S512 .f32) (main_arg6 : FVec F S512x512 .f32) (main_arg7 : FVec F S512 .f32) (main_arg10 : FVec F S512 .f32) (main_arg11 : FVec F S512 .f32) (main_arg12 : FVec F S512 .f32) (main_v14 : IVec S_ 1) (main_v15 : FVec F S8192x128 .f32) (main_v16 : FVec F S8192x128 .f32) : IVec S_ 1 :=
  let main_v17 : IVec S8192x128 1 := cmpf .olt main_v15 main_v16
  let main_c_5 : IVec S_ 1 := constantI S_ 1 1#1
  let main_v18 : IVec S_ 1 := (fun x v => Host.reduce IntOp.andi x v reducesTo_S8192x128_S_d0_1 h_S_) main_v17 main_c_5
  let main_v19 : IVec S_ 1 := andi main_v14 main_v18
  let main_v20 : FVec F S512x387 .f32 := Host.absf main_arg4
  let main_cst_6 : FVec F S_ .f32 := constant S_ .f32 0x7F800000#32
  let main_v21 : FVec F S512x387 .f32 := broadcastInDim S512x387 ![] bcast_S_S512x387 main_cst_6
  let main_v22 : IVec S512x387 1 := cmpf .olt main_v20 main_v21
  let main_c_7 : IVec S_ 1 := constantI S_ 1 1#1
  let main_v23 : IVec S_ 1 := (fun x v => Host.reduce IntOp.andi x v reducesTo_S512x387_S_d0_1 h_S_) main_v22 main_c_7
  let main_v24 : IVec S_ 1 := andi main_v19 main_v23
  let main_v25 : FVec F S512 .f32 := Host.absf main_arg5
  let main_cst_8 : FVec F S_ .f32 := constant S_ .f32 0x7F800000#32
  let main_v26 : FVec F S512 .f32 := broadcastInDim S512 ![] bcast_S_S512 main_cst_8
  let main_v27 : IVec S512 1 := cmpf .olt main_v25 main_v26
  let main_c_9 : IVec S_ 1 := constantI S_ 1 1#1
  let main_v28 : IVec S_ 1 := (fun x v => Host.reduce IntOp.andi x v reducesTo_S512_S_d0 h_S_) main_v27 main_c_9
  let main_v29 : IVec S_ 1 := andi main_v24 main_v28
  let main_v30 : FVec F S512x512 .f32 := Host.absf main_arg6
  let main_cst_10 : FVec F S_ .f32 := constant S_ .f32 0x7F800000#32
  let main_v31 : FVec F S512x512 .f32 := broadcastInDim S512x512 ![] bcast_S_S512x512 main_cst_10
  let main_v32 : IVec S512x512 1 := cmpf .olt main_v30 main_v31
  let main_c_11 : IVec S_ 1 := constantI S_ 1 1#1
  let main_v33 : IVec S_ 1 := (fun x v => Host.reduce IntOp.andi x v reducesTo_S512x512_S_d0_1 h_S_) main_v32 main_c_11
  fn_part2 (F := F) main_arg7 main_arg10 main_arg11 main_arg12 main_v29 main_v33

def fn {F : FTy → Type} [FloatOps F] (main_arg0 : FVec F S3x8192x256 .f32) (main_arg1 : FVec F S8192x8 .f32) (main_arg2 : FVec F S8192x3 .f32) (main_arg3 : FVec F S8192x128 .f32) (main_arg4 : FVec F S512x387 .f32) (main_arg5 : FVec F S512 .f32) (main_arg6 : FVec F S512x512 .f32) (main_arg7 : FVec F S512 .f32) (main_arg8 : FVec F S256x512 .f32) (main_arg9 : FVec F S256 .f32) (main_arg10 : FVec F S512 .f32) (main_arg11 : FVec F S512 .f32) (main_arg12 : FVec F S512 .f32) (main_arg13 : FVec F S512 .f32) : IVec S_ 1 :=
  let main_v0 : FVec F S3x8192x256 .f32 := Host.absf main_arg0
  let main_cst : FVec F S_ .f32 := constant S_ .f32 0x7F800000#32
  let main_v1 : FVec F S3x8192x256 .f32 := broadcastInDim S3x8192x256 ![] bcast_S_S3x8192x256 main_cst
  let main_v2 : IVec S3x8192x256 1 := cmpf .olt main_v0 main_v1
  let main_c : IVec S_ 1 := constantI S_ 1 1#1
  let main_v3 : IVec S_ 1 := (fun x v => Host.reduce IntOp.andi x v reducesTo_S3x8192x256_S_d0_1_2 h_S_) main_v2 main_c
  let main_v4 : FVec F S8192x3 .f32 := (extractStridedSlice S8192x3 ![0, 0] · slices_S8192x8_S8192x3_0_0) main_arg1
  let main_v5 : FVec F S8192x3 .f32 := Host.absf main_v4
  let main_cst_0 : FVec F S_ .f32 := constant S_ .f32 0x7F800000#32
  let main_v6 : FVec F S8192x3 .f32 := broadcastInDim S8192x3 ![] bcast_S_S8192x3 main_cst_0
  let main_v7 : IVec S8192x3 1 := cmpf .olt main_v5 main_v6
  let main_c_1 : IVec S_ 1 := constantI S_ 1 1#1
  let main_v8 : IVec S_ 1 := (fun x v => Host.reduce IntOp.andi x v reducesTo_S8192x3_S_d0_1 h_S_) main_v7 main_c_1
  let main_v9 : IVec S_ 1 := andi main_v3 main_v8
  let main_v10 : FVec F S8192x3 .f32 := Host.absf main_arg2
  let main_cst_2 : FVec F S_ .f32 := constant S_ .f32 0x7F800000#32
  let main_v11 : FVec F S8192x3 .f32 := broadcastInDim S8192x3 ![] bcast_S_S8192x3 main_cst_2
  let main_v12 : IVec S8192x3 1 := cmpf .olt main_v10 main_v11
  let main_c_3 : IVec S_ 1 := constantI S_ 1 1#1
  let main_v13 : IVec S_ 1 := (fun x v => Host.reduce IntOp.andi x v reducesTo_S8192x3_S_d0_1 h_S_) main_v12 main_c_3
  let main_v14 : IVec S_ 1 := andi main_v9 main_v13
  let main_v15 : FVec F S8192x128 .f32 := Host.absf main_arg3
  let main_cst_4 : FVec F S_ .f32 := constant S_ .f32 0x7F800000#32
  let main_v16 : FVec F S8192x128 .f32 := broadcastInDim S8192x128 ![] bcast_S_S8192x128 main_cst_4
  fn_part1 (F := F) main_arg4 main_arg5 main_arg6 main_arg7 main_arg10 main_arg11 main_arg12 main_v14 main_v15 main_v16
-- ==== Pre_three_nearest.lean ====
abbrev S2048x3 : Shape := ⟨2, ![2048, 3]⟩
abbrev S8192x3 : Shape := ⟨2, ![8192, 3]⟩
abbrev S1x2048x3 : Shape := ⟨3, ![1, 2048, 3]⟩
abbrev S8192x1x3 : Shape := ⟨3, ![8192, 1, 3]⟩
abbrev S8192x2048x3 : Shape := ⟨3, ![8192, 2048, 3]⟩
abbrev S_ : Shape := ⟨0, ![]⟩
abbrev S8192x2048 : Shape := ⟨2, ![8192, 2048]⟩
abbrev S8192x1 : Shape := ⟨2, ![8192, 1]⟩
abbrev S8192 : Shape := ⟨1, ![8192]⟩

class Facts : Prop where
  bcast_S2048x3_S1x2048x3_1_2 : S2048x3.BroadcastsInDim S1x2048x3 (![1, 2] : Fin 2 → Fin S1x2048x3.rank)
  bcast_S8192x3_S8192x1x3_0_2 : S8192x3.BroadcastsInDim S8192x1x3 (![0, 2] : Fin 2 → Fin S8192x1x3.rank)
  bcast_S1x2048x3_S8192x2048x3_0_1_2 : S1x2048x3.BroadcastsInDim S8192x2048x3 (![0, 1, 2] : Fin 3 → Fin S8192x2048x3.rank)
  bcast_S8192x1x3_S8192x2048x3_0_1_2 : S8192x1x3.BroadcastsInDim S8192x2048x3 (![0, 1, 2] : Fin 3 → Fin S8192x2048x3.rank)
  reducesTo_S8192x2048x3_S8192x2048_d2 : S8192x2048x3.ReducesTo [2] S8192x2048
  h_S_ : 0 < S_.numel
  slices_S8192x2048_S8192x1_0_0 : S8192x2048.Slices ![0, 0] S8192x1
  shapeCasts_S8192x1_S8192 : S8192x1.ShapeCasts S8192
  slices_S8192x2048_S8192x1_0_1 : S8192x2048.Slices ![0, 1] S8192x1
  slices_S8192x2048_S8192x1_0_2 : S8192x2048.Slices ![0, 2] S8192x1
  bcast_S_S8192 : S_.BroadcastsInDim S8192 (![] : Fin 0 → Fin S8192.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_norm {F : FTy → Type} [FloatOps F] (arg0 : FVec F S8192x2048x3 .f32) : FVec F S8192x2048 .f32 :=
  let v0 : FVec F S8192x2048x3 .f32 := mulf arg0 arg0
  let cst : FVec F S_ .f32 := constant S_ .f32 0x00000000#32
  let v1 : FVec F S8192x2048 .f32 := (fun x v => Host.reduceAdd x v reducesTo_S8192x2048x3_S8192x2048_d2 h_S_) v0 cst
  let v2 : FVec F S8192x2048 .f32 := Host.sqrt v1
  v2

def fn_sort {F : FTy → Type} [FloatOps F] (arg0 : FVec F S8192x2048 .f32) : FVec F S8192x2048 .f32 :=
  let v0 : FVec F S8192x2048 .f32 := (fun x => Host.sort S8192x2048 1 comparator_f32_d1 x) arg0
  v0

def fn {F : FTy → Type} [FloatOps F] (main_arg0 : FVec F S2048x3 .f32) (main_arg1 : FVec F S8192x3 .f32) : IVec S8192 1 :=
  let main_v0 : FVec F S1x2048x3 .f32 := broadcastInDim S1x2048x3 ![1, 2] bcast_S2048x3_S1x2048x3_1_2 main_arg0
  let main_v1 : FVec F S8192x1x3 .f32 := broadcastInDim S8192x1x3 ![0, 2] bcast_S8192x3_S8192x1x3_0_2 main_arg1
  let main_v2 : FVec F S8192x2048x3 .f32 := broadcastInDim S8192x2048x3 ![0, 1, 2] bcast_S1x2048x3_S8192x2048x3_0_1_2 main_v0
  let main_v3 : FVec F S8192x2048x3 .f32 := broadcastInDim S8192x2048x3 ![0, 1, 2] bcast_S8192x1x3_S8192x2048x3_0_1_2 main_v1
  let main_v4 : FVec F S8192x2048x3 .f32 := subf main_v2 main_v3
  let main_v5 : FVec F S8192x2048 .f32 := fn_norm (F := F) main_v4
  let main_v6 : FVec F S8192x2048 .f32 := fn_sort (F := F) main_v5
  let main_v7 : FVec F S8192x1 .f32 := (extractStridedSlice S8192x1 ![0, 0] · slices_S8192x2048_S8192x1_0_0) main_v6
  let main_v8 : FVec F S8192 .f32 := shapeCast S8192 main_v7 shapeCasts_S8192x1_S8192
  let main_v9 : FVec F S8192x1 .f32 := (extractStridedSlice S8192x1 ![0, 1] · slices_S8192x2048_S8192x1_0_1) main_v6
  let main_v10 : FVec F S8192 .f32 := shapeCast S8192 main_v9 shapeCasts_S8192x1_S8192
  let main_v11 : IVec S8192 1 := cmpf .olt main_v8 main_v10
  let main_v12 : FVec F S8192x1 .f32 := (extractStridedSlice S8192x1 ![0, 1] · slices_S8192x2048_S8192x1_0_1) main_v6
  let main_v13 : FVec F S8192 .f32 := shapeCast S8192 main_v12 shapeCasts_S8192x1_S8192
  let main_v14 : FVec F S8192x1 .f32 := (extractStridedSlice S8192x1 ![0, 2] · slices_S8192x2048_S8192x1_0_2) main_v6
  let main_v15 : FVec F S8192 .f32 := shapeCast S8192 main_v14 shapeCasts_S8192x1_S8192
  let main_v16 : IVec S8192 1 := cmpf .olt main_v13 main_v15
  let main_v17 : IVec S8192 1 := andi main_v11 main_v16
  let main_v18 : FVec F S8192x1 .f32 := (extractStridedSlice S8192x1 ![0, 2] · slices_S8192x2048_S8192x1_0_2) main_v6
  let main_v19 : FVec F S8192 .f32 := shapeCast S8192 main_v18 shapeCasts_S8192x1_S8192
  let main_cst : FVec F S_ .f32 := constant S_ .f32 0x7F800000#32
  let main_v20 : FVec F S8192 .f32 := broadcastInDim S8192 ![] bcast_S_S8192 main_cst
  let main_v21 : IVec S8192 1 := cmpf .olt main_v19 main_v20
  let main_v22 : IVec S8192 1 := andi main_v17 main_v21
  main_v22
-- ==== Kernel.lean ====
abbrev S2048x256 : Shape := ⟨2, ![2048, 256]⟩
abbrev S4x8192 : Shape := ⟨2, ![4, 8192]⟩
abbrev S1x32768 : Shape := ⟨2, ![1, 32768]⟩
abbrev S2048x2x128 : Shape := ⟨3, ![2048, 2, 128]⟩
abbrev S24576x2x128 : Shape := ⟨3, ![24576, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x2x128 : Shape := ⟨4, ![1, 128, 2, 128]⟩
abbrev S128x2x128 : Shape := ⟨3, ![128, 2, 128]⟩
abbrev S128 : Shape := ⟨1, ![128]⟩
abbrev S3x8192x256 : Shape := ⟨3, ![3, 8192, 256]⟩

abbrev nBuf : Table → Nat
  | .hbm => 6
  | .local .scVector .vmem => 2
  | _ => 0

abbrev bufTy : (tb : Table) → Fin (nBuf tb) → BufTy
  | .hbm, ⟨0, _⟩ => ⟨S2048x256, .f32⟩
  | .hbm, ⟨1, _⟩ => ⟨S4x8192, .i32⟩
  | .hbm, ⟨2, _⟩ => ⟨S1x32768, .i32⟩
  | .hbm, ⟨3, _⟩ => ⟨S2048x2x128, .f32⟩
  | .hbm, ⟨4, _⟩ => ⟨S24576x2x128, .f32⟩
  | .hbm, ⟨5, _⟩ => ⟨S3x8192x256, .f32⟩
  | .local .scVector .vmem, ⟨0, _⟩ => ⟨S2x1x128, .i32⟩
  | .local .scVector .vmem, ⟨1, _⟩ => ⟨S2x128x2x128, .f32⟩
  | _, _ => ⟨S2048x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c6_i32_27_r0 : BitVec 32 := 6#32
  let v32_r0 : BitVec 32 := Scalar.addi c0_i32_26_r0 c6_i32_27_r0
  let c1_i32_28_r0 : BitVec 32 := 1#32
  ⟨c0_i32_26_r0, v32_r0, c1_i32_28_r0⟩
def k0_off4 (arg6_r0 : BitVec 32) : Fin 3 → Nat :=
  let c2_i32_103_r0 : BitVec 32 := 2#32
  let v144_r0 : BitVec 32 := Scalar.remui arg6_r0 c2_i32_103_r0
  let c0_i32_105_r0 : BitVec 32 := 0#32
  let c0_i32_106_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c6_i32_66_r0 : BitVec 32 := 6#32
  let v74_r0 : BitVec 1 := Scalar.cmpi .eq v73_r0 c6_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c5_i32_72_r0 : BitVec 32 := 5#32
  let v83_r0 : BitVec 1 := Scalar.cmpi .sge arg5_r0 c5_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k0_off5 (i : grid0.Coords) (arg10_r0 : BitVec 32) : Fin 2 → Nat :=
  let c0_i32_107_r0 : BitVec 32 := 0#32
  let c128_i32_104_r0 : BitVec 32 := 128#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c6_i32_66_r0 : BitVec 32 := 6#32
  let v74_r0 : BitVec 1 := Scalar.cmpi .eq v73_r0 c6_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v76_r0 : BitVec 32 := Scalar.addi v75_r0 v4
  let v145_r0 : BitVec 32 := Scalar.muli c128_i32_104_r0 v76_r0
  ![0, v145_r0.toNat]
def k0_off6 (arg6_r0 : BitVec 32) : Fin 1 → Nat :=
  let c2_i32_103_r0 : BitVec 32 := 2#32
  let v144_r0 : BitVec 32 := Scalar.remui arg6_r0 c2_i32_103_r0
  ![v144_r0.toNat]
def k0_off7 (arg7_r0 : BitVec 32) : Fin 3 → Nat :=
  let c2_i32_104_r0 : BitVec 32 := 2#32
  let v145_r0 : BitVec 32 := Scalar.remui arg7_r0 c2_i32_104_r0
  let c0_i32_105_r0 : BitVec 32 := 0#32
  let c0_i32_106_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c5_i32_63_r0 : BitVec 32 := 5#32
  let v70_r0 : BitVec 32 := Scalar.select v69_r0 c5_i32_63_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k0_off8 (i : grid0.Coords) (arg10_r0 : BitVec 32) : Fin 2 → Nat :=
  let c0_i32_107_r0 : BitVec 32 := 0#32
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let v144_r0 : BitVec 32 := Scalar.muli c128_i32_103_r0 v66_r0
  ![0, v144_r0.toNat]
def k0_off9 (arg7_r0 : BitVec 32) : Fin 1 → Nat :=
  let c2_i32_104_r0 : BitVec 32 := 2#32
  let v145_r0 : BitVec 32 := Scalar.remui arg7_r0 c2_i32_104_r0
  ![v145_r0.toNat]
def k0_off10 (arg8_r0 : BitVec 32) : Fin 4 → Nat :=
  let c2_i32_85_r0 : BitVec 32 := 2#32
  let v109_r0 : BitVec 32 := Scalar.remui arg8_r0 c2_i32_85_r0
  let c0_i32_103_r1 : BitVec 32 := 0#32
  let c0_i32_104_r1 : BitVec 32 := 0#32
  let c0_i32_105_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_84_r0 : BitVec 32 := 2#32
  let v108_r0 : BitVec 32 := Scalar.remui arg7_r0 c2_i32_84_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_103_r0 : BitVec 32 := 2#32
  let v144_r0 : BitVec 32 := Scalar.remui arg8_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c6_i32_66_r0 : BitVec 32 := 6#32
  let v74_r0 : BitVec 1 := Scalar.cmpi .eq v73_r0 c6_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c5_i32_59_r0 : BitVec 32 := 5#32
  let v65_r0 : BitVec 1 := Scalar.cmpi .eq arg5_r0 c5_i32_59_r0
  let v116_r0 : BitVec 1 := Scalar.ori v115_r0 v65_r0
  let v117_r0 : BitVec 32 := Scalar.extui v116_r0
  let c0_i32_88_r0 : BitVec 32 := 0#32
  let v118_r0 : BitVec 1 := Scalar.cmpi .ne v117_r0 c0_i32_88_r0
  v118_r0

def k0_off13 (i : grid0.Coords) (arg10_r0 : BitVec 32) : Fin 3 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let v145_r0 : BitVec 32 := Scalar.muli c128_i32_104_r0 v66_r0
  let c0_i32_108_r0 : BitVec 32 := 0#32
  let c0_i32_109_r0 : BitVec 32 := 0#32
  ![v145_r0.toNat, 0, 0]
def k0_off14 (arg8_r0 : BitVec 32) : Fin 1 → Nat :=
  let c2_i32_103_r0 : BitVec 32 := 2#32
  let v144_r0 : BitVec 32 := Scalar.remui arg8_r0 c2_i32_103_r0
  ![v144_r0.toNat]
def k0_off15 (arg9_r0 : BitVec 32) : Fin 4 → Nat :=
  let c2_i32_103_r0 : BitVec 32 := 2#32
  let v144_r0 : BitVec 32 := Scalar.remui arg9_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c5_i32_63_r0 : BitVec 32 := 5#32
  let v70_r0 : BitVec 32 := Scalar.select v69_r0 c5_i32_63_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let true_94_r0 : BitVec 1 := 1#1
  let v129_r0 : BitVec 1 := Scalar.xori v64_r0 true_94_r0
  let v130_r0 : BitVec 1 := Scalar.andi v128_r0 v129_r0
  let v131_r0 : BitVec 32 := Scalar.extui v130_r0
  let c0_i32_95_r0 : BitVec 32 := 0#32
  let v132_r0 : BitVec 1 := Scalar.cmpi .ne v131_r0 c0_i32_95_r0
  v132_r0

def k0_off16 (i : grid0.Coords) (arg10_r0 : BitVec 32) : Fin 3 → Nat :=
  let c128_i32_104_r0 : BitVec 32 := 128#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c5_i32_63_r0 : BitVec 32 := 5#32
  let v70_r0 : BitVec 32 := Scalar.select v69_r0 c5_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v71_r0 : BitVec 32 := Scalar.addi v70_r0 v4
  let v145_r0 : BitVec 32 := Scalar.muli c128_i32_104_r0 v71_r0
  let c0_i32_108_r0 : BitVec 32 := 0#32
  let c0_i32_109_r0 : BitVec 32 := 0#32
  ![v145_r0.toNat, 0, 0]
def k0_off17 (arg9_r0 : BitVec 32) : Fin 1 → Nat :=
  let c2_i32_103_r0 : BitVec 32 := 2#32
  let v144_r0 : BitVec 32 := Scalar.remui arg9_r0 c2_i32_103_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S24576x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S24576x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S24576x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S24576x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  let c0_i32_50_r0 : BitVec 32 := 0#32
  ![v54_r0.toNat, 0, 0, 0]

def k0_off19 (i : grid0.Coords) (v33_4_r0 : BitVec 32) : Fin 3 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c5_i32_33_r0 : BitVec 32 := 5#32
  let v37_r0 : BitVec 32 := Scalar.select v36_r0 c5_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c6_i32 : BitVec 32 := 6#32
  let v4 : BitVec 32 := Scalar.muli v3 c6_i32
  let v38_r0 : BitVec 32 := Scalar.addi v37_r0 v4
  let v55_r0 : BitVec 32 := Scalar.muli c128_i32_47_r0 v38_r0
  let c0_i32_51_r0 : BitVec 32 := 0#32
  let c0_i32_52_r0 : BitVec 32 := 0#32
  ![v55_r0.toNat, 0, 0]

def k0_chk5 (i : grid0.Coords) (v33_4_r0 : BitVec 32) : Prop :=
  (∀ a, (k0_off19 i v33_4_r0) a + S128x2x128.size a ≤ S24576x2x128.size a)
theorem k0_off19_inb : ∀ (i : grid0.Coords) (v33_4_r0 : BitVec 32) (k0_hw5 : k0_chk5 i v33_4_r0), ∀ a, (k0_off19 i v33_4_r0) a + S128x2x128.size a ≤ S24576x2x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 4 → Nat :=
  let c2_i32_46_r0 : BitVec 32 := 2#32
  let v54_r0 : BitVec 32 := Scalar.remui v33_3_r0 c2_i32_46_r0
  let c0_i32_55_r0 : BitVec 32 := 0#32
  let c0_i32_56_r0 : BitVec 32 := 0#32
  let c0_i32_57_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2048x256 : Shape := ⟨2, ![2048, 256]⟩
abbrev S4x8192 : Shape := ⟨2, ![4, 8192]⟩
abbrev S3x8192 : Shape := ⟨2, ![3, 8192]⟩
abbrev S_ : Shape := ⟨0, ![]⟩
abbrev S3x8192x1 : Shape := ⟨3, ![3, 8192, 1]⟩
abbrev S3x8192x256 : Shape := ⟨3, ![3, 8192, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S4x8192, .i32⟩
  | .hbm, ⟨2, _⟩ => ⟨S3x8192, .i32⟩
  | .hbm, ⟨3, _⟩ => ⟨S_, .i32⟩
  | .hbm, ⟨4, _⟩ => ⟨S3x8192, .i32⟩
  | .hbm, ⟨5, _⟩ => ⟨S3x8192, .i1⟩
  | .hbm, ⟨6, _⟩ => ⟨S_, .i32⟩
  | .hbm, ⟨7, _⟩ => ⟨S3x8192, .i32⟩
  | .hbm, ⟨8, _⟩ => ⟨S3x8192, .i32⟩
  | .hbm, ⟨9, _⟩ => ⟨S3x8192, .i32⟩
  | .hbm, ⟨10, _⟩ => ⟨S3x8192x1, .i32⟩
  | .hbm, ⟨11, _⟩ => ⟨S3x8192x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Mlp.lean ====
abbrev S3x8192x256 : Shape := ⟨3, ![3, 8192, 256]⟩
abbrev S8192x8 : Shape := ⟨2, ![8192, 8]⟩
abbrev S8192x3 : Shape := ⟨2, ![8192, 3]⟩
abbrev S8192x128 : Shape := ⟨2, ![8192, 128]⟩
abbrev S512x387 : Shape := ⟨2, ![512, 387]⟩
abbrev S512 : Shape := ⟨1, ![512]⟩
abbrev S512x512 : Shape := ⟨2, ![512, 512]⟩
abbrev S256x512 : Shape := ⟨2, ![256, 512]⟩
abbrev S256 : Shape := ⟨1, ![256]⟩
abbrev S387x512 : Shape := ⟨2, ![387, 512]⟩
abbrev S3x512 : Shape := ⟨2, ![3, 512]⟩
abbrev S128x512 : Shape := ⟨2, ![128, 512]⟩
abbrev S1x512 : Shape := ⟨2, ![1, 512]⟩
abbrev S512x256 : Shape := ⟨2, ![512, 256]⟩
abbrev S1x256 : Shape := ⟨2, ![1, 256]⟩
abbrev S8192x256 : Shape := ⟨2, ![8192, 256]⟩
abbrev S3x512x256 : Shape := ⟨3, ![3, 512, 256]⟩
abbrev S512x8 : Shape := ⟨2, ![512, 8]⟩
abbrev S512x3 : Shape := ⟨2, ![512, 3]⟩
abbrev S512x128 : Shape := ⟨2, ![512, 128]⟩
abbrev S8192x512 : Shape := ⟨2, ![8192, 512]⟩
abbrev S8x512 : Shape := ⟨2, ![8, 512]⟩
abbrev S512x1 : Shape := ⟨2, ![512, 1]⟩
abbrev S1x512x256 : Shape := ⟨3, ![1, 512, 256]⟩

abbrev nBuf : Space → Nat
  | .hbm => 28
  | .vmem => 27
  | .smem => 0
  | _ => 0

abbrev bufTy : (tb : Table) → Fin (tcTables nBuf tb) → BufTy
  | .hbm, ⟨0, _⟩ => ⟨S3x8192x256, .f32⟩
  | .hbm, ⟨1, _⟩ => ⟨S8192x8, .f32⟩
  | .hbm, ⟨2, _⟩ => ⟨S8192x3, .f32⟩
  | .hbm, ⟨3, _⟩ => ⟨S8192x128, .f32⟩
  | .hbm, ⟨4, _⟩ => ⟨S512x387, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S387x512, .f32⟩
  | .hbm, ⟨15, _⟩ => ⟨S3x512, .f32⟩
  | .hbm, ⟨16, _⟩ => ⟨S128x512, .f32⟩
  | .hbm, ⟨17, _⟩ => ⟨S256x512, .f32⟩
  | .hbm, ⟨18, _⟩ => ⟨S1x512, .f32⟩
  | .hbm, ⟨19, _⟩ => ⟨S512x512, .f32⟩
  | .hbm, ⟨20, _⟩ => ⟨S1x512, .f32⟩
  | .hbm, ⟨21, _⟩ => ⟨S512x256, .f32⟩
  | .hbm, ⟨22, _⟩ => ⟨S1x256, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S8192x256, .f32⟩
  | .local _ .vmem, ⟨0, _⟩ => ⟨S3x512x256, .f32⟩
  | .local _ .vmem, ⟨1, _⟩ => ⟨S3x512x256, .f32⟩
  | .local _ .vmem, ⟨2, _⟩ => ⟨S512x8, .f32⟩
  | .local _ .vmem, ⟨3, _⟩ => ⟨S512x8, .f32⟩
  | .local _ .vmem, ⟨4, _⟩ => ⟨S512x3, .f32⟩
  | .local _ .vmem, ⟨5, _⟩ => ⟨S512x3, .f32⟩
  | .local _ .vmem, ⟨6, _⟩ => ⟨S512x128, .f32⟩
  | .local _ .vmem, ⟨7, _⟩ => ⟨S512x128, .f32⟩
  | .local _ .vmem, ⟨8, _⟩ => ⟨S3x512, .f32⟩
  | .local _ .vmem, ⟨9, _⟩ => ⟨S128x512, .f32⟩
  | .local _ .vmem, ⟨10, _⟩ => ⟨S256x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x256, .f32⟩
  | .local _ .vmem, ⟨15, _⟩ => ⟨S1x256, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x256, .f32⟩
  | .local _ .vmem, ⟨21, _⟩ => ⟨S512x256, .f32⟩
  | .local _ .vmem, ⟨22, _⟩ => ⟨S8192x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S8x512, .f32⟩
  | _, _ => ⟨S3x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![3, 16], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c512_i32 : BitVec 32 := 512#32
  let v0 : BitVec 32 := Scalar.muli arg1 c512_i32
  let v67 : Index := Scalar.indexCast v0
  let c0_30 : Index := 0#32
  ![v67.toNat, 0]
def k0_cond3 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off2 (i : grid0.Coords) : Fin 2 → Nat :=
  let arg1 : BitVec 32 := BitVec.ofNat 32 (i 1).val
  let c512_i32 : BitVec 32 := 512#32
  let v0 : BitVec 32 := Scalar.muli arg1 c512_i32
  let v13 : Index := Scalar.indexCast v0
  let c0 : Index := 0#32
  ![v13.toNat, 0]
def k0_cond5 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_off3 (i : grid0.Coords) : Fin 2 → Nat :=
  let arg1 : BitVec 32 := BitVec.ofNat 32 (i 1).val
  let c512_i32 : BitVec 32 := 512#32
  let v0 : BitVec 32 := Scalar.muli arg1 c512_i32
  let v13 : Index := Scalar.indexCast v0
  let c0 : Index := 0#32
  ![v13.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S3x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MlpReferenceIdeal.lean ====
abbrev S3x8192x256 : Shape := ⟨3, ![3, 8192, 256]⟩
abbrev S8192x8 : Shape := ⟨2, ![8192, 8]⟩
abbrev S8192x3 : Shape := ⟨2, ![8192, 3]⟩
abbrev S8192x128 : Shape := ⟨2, ![8192, 128]⟩
abbrev S512x387 : Shape := ⟨2, ![512, 387]⟩
abbrev S512 : Shape := ⟨1, ![512]⟩
abbrev S512x512 : Shape := ⟨2, ![512, 512]⟩
abbrev S256x512 : Shape := ⟨2, ![256, 512]⟩
abbrev S256 : Shape := ⟨1, ![256]⟩
abbrev S3x8192 : Shape := ⟨2, ![3, 8192]⟩
abbrev S3x8192x1 : Shape := ⟨3, ![3, 8192, 1]⟩
abbrev S_ : Shape := ⟨0, ![]⟩
abbrev S8192x256 : Shape := ⟨2, ![8192, 256]⟩
abbrev S8192x387 : Shape := ⟨2, ![8192, 387]⟩
abbrev S387x512 : Shape := ⟨2, ![387, 512]⟩
abbrev S8192x512 : Shape := ⟨2, ![8192, 512]⟩
abbrev S1x512 : Shape := ⟨2, ![1, 512]⟩
abbrev S512x256 : Shape := ⟨2, ![512, 256]⟩
abbrev S1x256 : Shape := ⟨2, ![1, 256]⟩

abbrev nBuf : Space → Nat
  | .hbm => 131
  | .vmem => 0
  | .smem => 0
  | _ => 0

abbrev hbmTy0_0 (i : Nat) : BufTy := match i % 128 with
  | 0 => ⟨S3x8192x256, .f32⟩
  | 1 => ⟨S8192x8, .f32⟩
  | 2 => ⟨S8192x3, .f32⟩
  | 3 => ⟨S8192x128, .f32⟩
  | 4 => ⟨S512x387, .f32⟩
  | 5 => ⟨S512, .f32⟩
  | 6 => ⟨S512x512, .f32⟩
  | 7 => ⟨S512, .f32⟩
  | 8 => ⟨S256x512, .f32⟩
  | 9 => ⟨S256, .f32⟩
  | 10 => ⟨S512, .f32⟩
  | 11 => ⟨S512, .f32⟩
  | 12 => ⟨S512, .f32⟩
  | 13 => ⟨S512, .f32⟩
  | 14 => ⟨S8192x3, .f32⟩
  | 15 => ⟨S3x8192, .f32⟩
  | 16 => ⟨S3x8192x1, .f32⟩
  | 17 => ⟨S3x8192x256, .f32⟩
  | 18 => ⟨S3x8192x256, .f32⟩
  | 19 => ⟨S_, .f32⟩
  | 20 => ⟨S8192x256, .f32⟩
  | 21 => ⟨S8192x387, .f32⟩
  | 22 => ⟨S387x512, .f32⟩
  | 23 => ⟨S8192x512, .f32⟩
  | 24 => ⟨S1x512, .f32⟩
  | 25 => ⟨S8192x512, .f32⟩
  | 26 => ⟨S8192x512, .f32⟩
  | 27 => ⟨S_, .f32⟩
  | 28 => ⟨S512, .f32⟩
  | 29 => ⟨S_, .f32⟩
  | 30 => ⟨S512, .f32⟩
  | 31 => ⟨S512, .f32⟩
  | 32 => ⟨S_, .i32⟩
  | 33 => ⟨S_, .f32⟩
  | 34 => ⟨S512, .f32⟩
  | 35 => ⟨S1x512, .f32⟩
  | 36 => ⟨S_, .f32⟩
  | 37 => ⟨S1x512, .f32⟩
  | 38 => ⟨S1x512, .f32⟩
  | 39 => ⟨S8192x512, .f32⟩
  | 40 => ⟨S8192x512, .f32⟩
  | 41 => ⟨S8192x512, .f32⟩
  | 42 => ⟨S_, .f32⟩
  | 43 => ⟨S_, .f32⟩
  | 44 => ⟨S_, .f32⟩
  | 45 => ⟨S_, .f32⟩
  | 46 => ⟨S512, .f32⟩
  | 47 => ⟨S512, .f32⟩
  | 48 => ⟨S512, .f32⟩
  | 49 => ⟨S_, .f32⟩
  | 50 => ⟨S_, .i1⟩
  | 51 => ⟨S_, .f32⟩
  | 52 => ⟨S_, .f32⟩
  | 53 => ⟨S512, .f32⟩
  | 54 => ⟨S512, .f32⟩
  | 55 => ⟨S1x512, .f32⟩
  | 56 => ⟨S8192x512, .f32⟩
  | 57 => ⟨S8192x512, .f32⟩
  | 58 => ⟨S_, .f32⟩
  | 59 => ⟨S512, .f32⟩
  | 60 => ⟨S512, .f32⟩
  | 61 => ⟨S512, .f32⟩
  | 62 => ⟨S1x512, .f32⟩
  | 63 => ⟨S8192x512, .f32⟩
  | 64 => ⟨S8192x512, .f32⟩
  | 65 => ⟨S1x512, .f32⟩
  | 66 => ⟨S8192x512, .f32⟩
  | 67 => ⟨S8192x512, .f32⟩
  | 68 => ⟨S1x512, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S512x512, .f32⟩
  | 75 => ⟨S8192x512, .f32⟩
  | 76 => ⟨S1x512, .f32⟩
  | 77 => ⟨S8192x512, .f32⟩
  | 78 => ⟨S8192x512, .f32⟩
  | 79 => ⟨S_, .f32⟩
  | 80 => ⟨S512, .f32⟩
  | 81 => ⟨S_, .f32⟩
  | 82 => ⟨S512, .f32⟩
  | 83 => ⟨S512, .f32⟩
  | 84 => ⟨S_, .i32⟩
  | 85 => ⟨S_, .f32⟩
  | 86 => ⟨S512, .f32⟩
  | 87 => ⟨S1x512, .f32⟩
  | 88 => ⟨S_, .f32⟩
  | 89 => ⟨S1x512, .f32⟩
  | 90 => ⟨S1x512, .f32⟩
  | 91 => ⟨S8192x512, .f32⟩
  | 92 => ⟨S8192x512, .f32⟩
  | 93 => ⟨S8192x512, .f32⟩
  | 94 => ⟨S_, .f32⟩
  | 95 => ⟨S_, .f32⟩
  | 96 => ⟨S_, .f32⟩
  | 97 => ⟨S_, .f32⟩
  | 98 => ⟨S512, .f32⟩
  | 99 => ⟨S512, .f32⟩
  | 100 => ⟨S512, .f32⟩
  | 101 => ⟨S_, .f32⟩
  | 102 => ⟨S_, .i1⟩
  | 103 => ⟨S_, .f32⟩
  | 104 => ⟨S_, .f32⟩
  | 105 => ⟨S512, .f32⟩
  | 106 => ⟨S512, .f32⟩
  | 107 => ⟨S1x512, .f32⟩
  | 108 => ⟨S8192x512, .f32⟩
  | 109 => ⟨S8192x512, .f32⟩
  | 110 => ⟨S_, .f32⟩
  | 111 => ⟨S512, .f32⟩
  | 112 => ⟨S512, .f32⟩
  | 113 => ⟨S512, .f32⟩
  | 114 => ⟨S1x512, .f32⟩
  | 115 => ⟨S8192x512, .f32⟩
  | 116 => ⟨S8192x512, .f32⟩
  | 117 => ⟨S1x512, .f32⟩
  | 118 => ⟨S8192x512, .f32⟩
  | 119 => ⟨S8192x512, .f32⟩
  | 120 => ⟨S1x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S512x256, .f32⟩
  | 127 => ⟨S8192x256, .f32⟩
  | _ => ⟨S3x8192x256, .f32⟩

abbrev hbmTy0_1 (i : Nat) : BufTy := match i % 128 with
  | 0 => ⟨S1x256, .f32⟩
  | 1 => ⟨S8192x256, .f32⟩
  | 2 => ⟨S8192x256, .f32⟩
  | _ => ⟨S3x8192x256, .f32⟩

abbrev hbmTy (i : Nat) : BufTy := match i / 128 with
  | 0 => hbmTy0_0 i
  | 1 => hbmTy0_1 i
  | _ => ⟨S3x8192x256, .f32⟩

abbrev bufTy : (tb : Table) → Fin (tcTables nBuf tb) → BufTy
  | .hbm, ⟨i, _⟩ => hbmTy i
  | _, _ => ⟨S3x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_2 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_3 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_4 : Ref sig .tc := ⟨.hbm, 79, rfl⟩
abbrev main_v38 : Ref sig .tc := ⟨.hbm, 80, rfl⟩
abbrev main_cst_5 : Ref sig .tc := ⟨.hbm, 81, rfl⟩
abbrev main_v39 : Ref sig .tc := ⟨.hbm, 82, rfl⟩
abbrev main_v40 : Ref sig .tc := ⟨.hbm, 83, rfl⟩
abbrev main_c_6 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_cst_3 : Ref sig .tc := ⟨.hbm, 101, rfl⟩
abbrev main_call1_v12 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_cst_7 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_cst_8 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩

abbrev nD : Nat := 1
abbrev τ : Topo := Topo.v7x

variable {F : FTy → Type} [FloatOps F]
-- ==== Top.lean ====
abbrev S2048x3 : Shape := ⟨2, ![2048, 3]⟩
abbrev S8192x3 : Shape := ⟨2, ![8192, 3]⟩
abbrev S_ : Shape := ⟨0, ![]⟩
abbrev S8x2048 : Shape := ⟨2, ![8, 2048]⟩
abbrev S3x2048 : Shape := ⟨2, ![3, 2048]⟩
abbrev S1 : Shape := ⟨1, ![1]⟩
abbrev S4x8192 : Shape := ⟨2, ![4, 8192]⟩
abbrev S8192x8 : Shape := ⟨2, ![8192, 8]⟩
abbrev S512x3 : Shape := ⟨2, ![512, 3]⟩
abbrev S4x512 : Shape := ⟨2, ![4, 512]⟩
abbrev S512x8 : Shape := ⟨2, ![512, 8]⟩
abbrev S512x1 : Shape := ⟨2, ![512, 1]⟩
abbrev S512 : Shape := ⟨1, ![512]⟩
abbrev S1x2048 : Shape := ⟨2, ![1, 2048]⟩
abbrev S2048 : Shape := ⟨1, ![2048]⟩
abbrev S512x2048 : Shape := ⟨2, ![512, 2048]⟩
abbrev S512x4 : Shape := ⟨2, ![512, 4]⟩

abbrev nBuf : Space → Nat
  | .hbm => 10
  | .vmem => 7
  | .smem => 0
  | _ => 0

abbrev bufTy : (tb : Table) → Fin (tcTables nBuf tb) → BufTy
  | .hbm, ⟨0, _⟩ => ⟨S2048x3, .f32⟩
  | .hbm, ⟨1, _⟩ => ⟨S8192x3, .f32⟩
  | .hbm, ⟨2, _⟩ => ⟨S_, .f32⟩
  | .hbm, ⟨3, _⟩ => ⟨S8x2048, .f32⟩
  | .hbm, ⟨4, _⟩ => ⟨S3x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S4x8192, .i32⟩
  | .hbm, ⟨9, _⟩ => ⟨S8192x8, .f32⟩
  | .local _ .vmem, ⟨0, _⟩ => ⟨S512x3, .f32⟩
  | .local _ .vmem, ⟨1, _⟩ => ⟨S512x3, .f32⟩
  | .local _ .vmem, ⟨2, _⟩ => ⟨S8x2048, .f32⟩
  | .local _ .vmem, ⟨3, _⟩ => ⟨S4x512, .i32⟩
  | .local _ .vmem, ⟨4, _⟩ => ⟨S4x512, .i32⟩
  | .local _ .vmem, ⟨5, _⟩ => ⟨S512x8, .f32⟩
  | .local _ .vmem, ⟨6, _⟩ => ⟨S512x8, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TopIdeal.lean ====
variable {F : FTy → Type} [FloatOps F] [Named F]
def κ : String → Option EReal := fun
  | "eps2" => some ((77371252064649 / 77371252455336267181195264 : ℝ) : EReal)
  | "mask" => some ⊤
  | _ => none
-- ==== TopReferenceIdeal.lean ====
abbrev S2048x3 : Shape := ⟨2, ![2048, 3]⟩
abbrev S8192x3 : Shape := ⟨2, ![8192, 3]⟩
abbrev S4 : Shape := ⟨1, ![4]⟩
abbrev S1x2048x3 : Shape := ⟨3, ![1, 2048, 3]⟩
abbrev S8192x1x3 : Shape := ⟨3, ![8192, 1, 3]⟩
abbrev S8192x2048x3 : Shape := ⟨3, ![8192, 2048, 3]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S4x1 : Shape := ⟨2, ![4, 1]⟩
abbrev S8192x4 : Shape := ⟨2, ![8192, 4]⟩
abbrev S4x8192 : Shape := ⟨2, ![4, 8192]⟩
abbrev S8192x8 : Shape := ⟨2, ![8192, 8]⟩

abbrev nBuf : Space → Nat
  | .hbm => 46
  | .vmem => 0
  | .smem => 0
  | _ => 0

abbrev bufTy : (tb : Table) → Fin (tcTables nBuf tb) → BufTy
  | .hbm, ⟨0, _⟩ => ⟨S2048x3, .f32⟩
  | .hbm, ⟨1, _⟩ => ⟨S8192x3, .f32⟩
  | .hbm, ⟨2, _⟩ => ⟨S4, .i32⟩
  | .hbm, ⟨3, _⟩ => ⟨S1x2048x3, .f32⟩
  | .hbm, ⟨4, _⟩ => ⟨S8192x1x3, .f32⟩
  | .hbm, ⟨5, _⟩ => ⟨S8192x2048x3, .f32⟩
  | .hbm, ⟨6, _⟩ => ⟨S8192x2048x3, .f32⟩
  | .hbm, ⟨7, _⟩ => ⟨S8192x2048x3, .f32⟩
  | .hbm, ⟨8, _⟩ => ⟨S8192x2048x3, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .i32⟩
  | .hbm, ⟨13, _⟩ => ⟨S8192x2048, .f32⟩
  | .hbm, ⟨14, _⟩ => ⟨S8192x2048, .i32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .i1⟩
  | .hbm, ⟨19, _⟩ => ⟨S_, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x3, .f32⟩
  | .hbm, ⟨24, _⟩ => ⟨S8192x3, .f32⟩
  | .hbm, ⟨25, _⟩ => ⟨S_, .f32⟩
  | .hbm, ⟨26, _⟩ => ⟨S8192x3, .f32⟩
  | .hbm, ⟨27, _⟩ => ⟨S8192x3, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x3, .f32⟩
  | .hbm, ⟨32, _⟩ => ⟨S8192x3, .f32⟩
  | .hbm, ⟨33, _⟩ => ⟨S_, .i32⟩
  | .hbm, ⟨34, _⟩ => ⟨S4, .i32⟩
  | .hbm, ⟨35, _⟩ => ⟨S4, .i1⟩
  | .hbm, ⟨36, _⟩ => ⟨S_, .i32⟩
  | .hbm, ⟨37, _⟩ => ⟨S4, .i32⟩
  | .hbm, ⟨38, _⟩ => ⟨S4, .i32⟩
  | .hbm, ⟨39, _⟩ => ⟨S4, .i32⟩
  | .hbm, ⟨40, _⟩ => ⟨S4x1, .i32⟩
  | .hbm, ⟨41, _⟩ => ⟨S8192x4, .i32⟩
  | .hbm, ⟨42, _⟩ => ⟨S4x8192, .i32⟩
  | .hbm, ⟨43, _⟩ => ⟨S_, .i32⟩
  | .hbm, ⟨44, _⟩ => ⟨S_, .f32⟩
  | .hbm, ⟨45, _⟩ => ⟨S8192x8, .f32⟩
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v5 : Ref sig .tc := ⟨.hbm, 11, rfl⟩
abbrev main_call1_v0 : Ref sig .tc := ⟨.hbm, 12, rfl⟩
abbrev main_call1_v1_0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_call3_v0 : Ref sig .tc := ⟨.hbm, 20, rfl⟩
abbrev main_call3_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_call4_v0 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Proof.Words.lean ====
/-
  The words a tile's loop carries and the offsets it computes from them, in closed form. A tile works through six blocks of 128
  rows; before trip `k` its five carried words are the numbers below (`w6` … `w10`), so every slot, semaphore and block offset of
  the trip is a function of `k` and of the tile's coordinates alone. Each closed form is checked over all tiles and all trips.
-/
module

public import proofs.«01_k».proof.Defs
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

theorem trips_eq : k0_t1_loop.trips = 6 := by decide +kernel

/-- A trip number as a trip of the printed loop. -/
abbrev trip (k : Fin 6) : Fin k0_t1_loop.trips := Fin.cast trips_eq.symm k

/-- The counter of index blocks asked for, before trip `k`: one ahead, capped at six. -/
def w6 (k : ℕ) : BitVec 32 := BitVec.ofNat 32 (min (k + 1) 6)
/-- The counters of index blocks and of output blocks begun: `k`. -/
def w7 (k : ℕ) : BitVec 32 := BitVec.ofNat 32 k
/-- The counter of output blocks waited for: one behind. -/
def w9 (k : ℕ) : BitVec 32 := BitVec.ofNat 32 (k - 1)
/-- The block within the tile, wrapping after the last. -/
def w10 (k : ℕ) : BitVec 32 := BitVec.ofNat 32 (k % 6)

/-- The tile's first block as the kernel computes it. -/
def base (i : grid0.Coords) : BitVec 32 :=
  Scalar.muli (Scalar.addi (Scalar.addi 0#32 (Scalar.muli (BitVec.ofNat 32 (i 1).val) 1#32)) (Scalar.muli (BitVec.ofNat 32 (i 0).val) 16#32)) 6#32

/-- The tile's number, and the number of its block `k`. -/
abbrev tid (i : grid0.Coords) : ℕ := (i 1).val + 16 * (i 0).val
abbrev blk (i : grid0.Coords) (k : ℕ) : ℕ := 6 * tid i + k

theorem off1_eq : k0_off1 = ![0 % 2, 0, 0] := by decide +kernel
theorem off2_eq : ∀ i : grid0.Coords, k0_off2 i = ![0, 128 * blk i 0] := by decide +kernel
theorem off3_eq : k0_off3 = ![0 % 2] := by decide +kernel
theorem off4_eq : ∀ k : Fin 6, k.val < 5 → k0_off4 (w6 k.val) = ![(k.val + 1) % 2, 0, 0] := by decide +kernel
theorem off5_eq : ∀ (i : grid0.Coords) (k : Fin 6), k.val < 5 → k0_off5 i (w10 k.val) = ![0, 128 * blk i (k.val + 1)] := by decide +kernel
theorem off6_eq : ∀ k : Fin 6, k.val < 5 → k0_off6 (w6 k.val) = ![(k.val + 1) % 2] := by decide +kernel
theorem off7_eq : ∀ k : Fin 6, k0_off7 (w7 k.val) = ![k.val % 2, 0, 0] := by decide +kernel
theorem off8_eq : ∀ (i : grid0.Coords) (k : Fin 6), k0_off8 i (w10 k.val) = ![0, 128 * blk i k.val] := by decide +kernel
theorem off9_eq : ∀ k : Fin 6, k0_off9 (w7 k.val) = ![k.val % 2] := by decide +kernel
theorem off10_eq : ∀ k : Fin 6, k0_off10 (w7 k.val) = ![k.val % 2, 0, 0, 0] := by decide +kernel
theorem off11_eq : ∀ k : Fin 6, k0_off11 (w7 k.val) = ![k.val % 2, 0, 0] := by decide +kernel
theorem off12_eq : ∀ k : Fin 6, k0_off12 (w7 k.val) = ![k.val % 2, 0, 0, 0] := by decide +kernel
theorem off13_eq : ∀ (i : grid0.Coords) (k : Fin 6), k0_off13 i (w10 k.val) = ![128 * blk i k.val, 0, 0] := by decide +kernel
theorem off14_eq : ∀ k : Fin 6, k0_off14 (w7 k.val) = ![k.val % 2] := by decide +kernel
theorem off15_eq : ∀ k : Fin 6, 0 < k.val → k0_off15 (w9 k.val) = ![(k.val + 1) % 2, 0, 0, 0] := by decide +kernel
theorem off16_eq : ∀ (i : grid0.Coords) (k : Fin 6), 0 < k.val → k0_off16 i (w10 k.val) = ![128 * blk i (k.val - 1), 0, 0] := by decide +kernel
theorem off17_eq : ∀ k : Fin 6, 0 < k.val → k0_off17 (w9 k.val) = ![(k.val + 1) % 2] := by decide +kernel
theorem off19_eq : ∀ i : grid0.Coords, k0_off19 i (w10 6) = ![128 * blk i 5, 0, 0] := by decide +kernel
theorem off20_eq : k0_off20 (w9 6) = ![1 % 2] := by decide +kernel
theorem off21_eq : k0_off21 (w9 6) = ![1 % 2, 0, 0, 0] := by decide +kernel

theorem chk1_ok : ∀ (i : grid0.Coords) (k : Fin 6), k0_chk1 i (trip k) (w6 k.val) (w7 k.val) (w7 k.val) (w9 k.val) (w10 k.val) := by decide +kernel
theorem chk2_ok : ∀ k : Fin 6, k0_chk2 (w7 k.val) := by decide +kernel
theorem chk3_ok : ∀ k : Fin 6, k0_chk3 (w7 k.val) := by decide +kernel
theorem chk4_ok : k0_chk4 (w9 6) := by decide +kernel
theorem chk5_ok : ∀ i : grid0.Coords, k0_chk5 i (w10 6) := by decide +kernel

/-- The next index block is asked for in every trip but the last. -/
theorem cond1_iff : ∀ (i : grid0.Coords) (k : Fin 6), k0_cond1 i (trip k) (w10 k.val) = 1#1 ↔ k.val < 5 := by decide +kernel
/-- Every trip waits for its index block and issues its output block. -/
theorem cond2_ok : ∀ (i : grid0.Coords) (k : Fin 6), k0_cond2 i (trip k) (w10 k.val) = 1#1 := by decide +kernel
theorem cond5_ok : ∀ (i : grid0.Coords) (k : Fin 6), k0_cond5 i (trip k) (w10 k.val) = 1#1 := by decide +kernel
/-- The previous output block is waited for in every trip but the first. -/
theorem cond7_iff : ∀ (i : grid0.Coords) (k : Fin 6), k0_cond7 i (trip k) (w10 k.val) = 1#1 ↔ 0 < k.val := by decide +kernel

end Cert.Proof.Words

end
-- ==== Proof.Setup.lean ====
/-
  The launch as the run's theorem sees it, and the buffers the tiles work on: the table of rows, the list of row numbers, the
  gathered rows, and each tile's two index slots and two row slots.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Words

@[expose] public section

noncomputable section

namespace Cert.Proof.Setup

open Cert.KernelIdeal Cert.KernelIdeal.Gen Cert.Proof.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resource algebra's carrier. -/
abbrev MM (F : FTy → Type) : Type := MT nD τ sig (HIx 1) (Elt F) ℕ UU ℕ

abbrev EH : Emb UH (MT nD τ sig (HIx 1) (Elt F) ℕ UU ℕ) := embL

/-! ## The buffers -/

abbrev tabM : Memref sig .scVector .hbm S2048x2x128 .f32 := Memref.whole main_v1_scv
abbrev idxM : Memref sig .scVector .hbm S1x32768 .i32 := Memref.whole main_v0_scv
abbrev outM : Memref sig .scVector .hbm S24576x2x128 .f32 := Memref.whole main_v2_scv
abbrev ibM : Memref sig .scVector .vmem S2x1x128 .i32 := Memref.whole cc0_scoped0
abbrev rbM : Memref sig .scVector .vmem S2x128x2x128 .f32 := Memref.whole cc0_scoped2

/-- The slot a trip works in. -/
def sl (k : ℕ) : Fin 2 := ⟨k % 2, Nat.mod_lt _ (by decide)⟩
theorem sl_add_two (k : ℕ) : sl (k + 1 + 1) = sl k := Fin.ext (show (k + 1 + 1) % 2 = k % 2 by omega)

theorem ib_inb (p : Fin 2) : ∀ a, (![p.val, 0, 0] : Fin 3 → ℕ) a + S1x1x128.size a ≤ S2x1x128.size a := by revert p; decide +kernel
theorem rb_inb (p : Fin 2) : ∀ a, (![p.val, 0, 0, 0] : Fin 4 → ℕ) a + S1x128x2x128.size a ≤ S2x128x2x128.size a := by revert p; decide +kernel
theorem sem_inb (p : Fin 2) : ∀ a, (![p.val] : Fin 1 → ℕ) a + S1.size a ≤ S2.size a := by revert p; decide +kernel
theorem idx_inb (b : Fin 192) : ∀ a, (![0, 128 * b.val] : Fin 2 → ℕ) a + S1x128.size a ≤ S1x32768.size a := by revert b; decide +kernel
theorem out_inb (b : Fin 192) : ∀ a, (![128 * b.val, 0, 0] : Fin 3 → ℕ) a + S128x2x128.size a ≤ S24576x2x128.size a := by revert b; decide +kernel

/-- Index slot `p`, row slot `p`, block `b` of the row numbers, block `b` of the gathered rows. -/
abbrev iSlot (p : Fin 2) : Memref sig .scVector .vmem S1x128 .i32 :=
  (ibM.slice (Rect.unit (s := S2x1x128) ![p.val, 0, 0] S1x1x128.size (ib_inb p)) (fun _ => rfl)).squeeze S1x128 squeezes_S1x1x128_S1x128
abbrev rSlot (p : Fin 2) : Memref sig .scVector .vmem S128x2x128 .f32 :=
  (rbM.slice (Rect.unit (s := S2x128x2x128) ![p.val, 0, 0, 0] S1x128x2x128.size (rb_inb p)) (fun _ => rfl)).squeeze S128x2x128 squeezes_S1x128x2x128_S128x2x128
abbrev iBlk (b : Fin 192) : Memref sig .scVector .hbm S1x128 .i32 :=
  idxM.slice (Rect.unit (s := S1x32768) ![0, 128 * b.val] S1x128.size (idx_inb b)) (fun _ => rfl)
abbrev oBlk (b : Fin 192) : Memref sig .scVector .hbm S128x2x128 .f32 :=
  outM.slice (Rect.unit (s := S24576x2x128) ![128 * b.val, 0, 0] S128x2x128.size (out_inb b)) (fun _ => rfl)
/-- The index slot as the list of row numbers the stream reads, and the whole table as it names it. -/
abbrev iList (p : Fin 2) : Memref sig .scVector .vmem S128 .i32 :=
  ((iSlot p).slice (Rect.unit (s := S1x128) ![0, 0] S1x128.size inb_S1x128_S1x128_0_0) (fun _ => rfl)).squeeze S128 squeezes_S1x128_S128
abbrev tabAll : Memref sig .scVector .hbm S2048x2x128 .f32 :=
  tabM.slice (Rect.unit (s := S2048x2x128) ![0, 0, 0] S2048x2x128.size inb_S2048x2x128_S2048x2x128_0_0_0) (fun _ => rfl)

/-- The semaphores of index slot `p`, of row slot `p`, and of the gather. -/
abbrev iSem (p : Fin 2) : DmaSem sig := ((cc0_scoped1.slice (Rect.unit (s := S2) ![p.val] S1.size (sem_inb p))).squeeze S_ squeezes_S1_S_).sem
abbrev rSem (p : Fin 2) : DmaSem sig := ((cc0_scoped3.slice (Rect.unit (s := S2) ![p.val] S1.size (sem_inb p))).squeeze S_ squeezes_S1_S_).sem
abbrev gSem : DmaSem sig := cc0_scoped4.sem

/-- The core and subcore of a tile's coordinates, its thread, and the block numbers of its trips. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem blk_lt (L : grid0.Coords) (k : ℕ) (h : k < 6) : blk L k < 192 := by
  have h0 : (L 0).val < 2 := (L 0).isLt
  have h1 : (L 1).val < 16 := (L 1).isLt
  simp only [blk, tid]; omega
/-- Block `k` of the tile (the last block past the end). -/
def bk (L : grid0.Coords) (k : ℕ) : Fin 192 := ⟨blk L (min k 5), blk_lt L _ (by omega)⟩
theorem bk_val (L : grid0.Coords) (k : ℕ) (h : k < 6) : (bk L k).val = blk L k := by
  unfold bk; simp only [show min k 5 = k by omega]

/-! ## The gathered rows -/

abbrev tabLoc (d : Dev nD) : Loc nD τ sig := (SparseCore.T d).loc main_v1
abbrev idxLoc (d : Dev nD) : Loc nD τ sig := (SparseCore.T d).loc main_v0
abbrev outLoc (d : Dev nD) : Loc nD τ sig := (SparseCore.T d).loc main_v2

/-- The place of entry `j` in the list of row numbers, and of lane `(a, b)` of row `r` in the table. -/
def ixI (j : ℕ) (h : j < 32768) : S1x32768.Idx := fun a => match a with
  | 0 => ⟨0, by decide⟩
  | 1 => ⟨j, h⟩
def ixT (r : ℕ) (h : r < 2048) (y : Fin 2) (z : Fin 128) : S2048x2x128.Idx := fun a => match a with
  | 0 => ⟨r, h⟩
  | 1 => y
  | 2 => z

/-- Row `x 0` of the gathered rows is the table's row the list's entry `x 0` names. -/
def rowsOf (X : S1x32768.Idx → BitVec 32) (Tb : S2048x2x128.Idx → F .f32) : S24576x2x128.Idx → F .f32 := fun x =>
  Tb (ixT ((X (ixI (x 0).val (lt_of_lt_of_le (x 0).isLt (by decide)))).toNat % 2048) (Nat.mod_lt _ (by decide)) (x 1) (x 2))

/-- Every row number the kernel reads names a row of the table. -/
def InRange (X : S1x32768.Idx → BitVec 32) : Prop := ∀ j (h : j < 24576), (X (ixI j (by omega))).toNat < 2048

end Cert.Proof.Setup

end
-- ==== Proof.Tile.lean ====
/-
  One tile's operations: fetching a block of row numbers into an index slot, gathering the rows they name into a row slot, and
  writing that slot out, each asked for and waited for, with what the buffers then hold.
-/
module

public import proofs.«01_k».proof.Proof.Setup

@[expose] public section

noncomputable section

namespace Cert.Proof.Tile

open Cert.KernelIdeal Cert.KernelIdeal.Gen Cert.Proof.Words Cert.Proof.Setup

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Where the views' elements lie -/

theorem idx_lt (b : Fin 192) (y : S128.Idx) : 128 * b.val + (y 0).val < 32768 := by
  have h1 := b.isLt; have h2 : (y 0).val < 128 := (y 0).isLt; omega
theorem idx_lt' (b : Fin 192) (y : S128.Idx) : 128 * b.val + (y 0).val < 24576 := by
  have h1 := b.isLt; have h2 : (y 0).val < 128 := (y 0).isLt; omega

/-- Entry `y` of the list is lane `y` of the slot. -/
def lane (y : S128.Idx) : S1x128.Idx :=
  (Rect.unit (s := S1x128) ![0, 0] S1x128.size inb_S1x128_S1x128_0_0).emb (Shape.reshapeEquiv squeezes_S1x128_S128.numel_eq y)
/-- The list's place `y`. -/
def ixL (y : Fin 128) : S128.Idx := fun a => match a with | 0 => y
theorem ixL_eq (y : S128.Idx) : ixL (y 0) = y := by
  funext a; match a with | 0 => rfl
theorem lane_ixL : ∀ y : Fin 128, (lane (ixL y) 1).val = y.val := by decide +kernel
theorem lane_one (y : S128.Idx) : (lane y 1).val = (y 0).val := by rw [← ixL_eq y]; exact lane_ixL (y 0)

theorem iList_read (p : Fin 2) (d : Dev nD) (L : grid0.Coords) (f : Buf (Elt F) ((iSlot p).view.loc (thr d L))) (y : S128.Idx) :
    (iList p).view.read (Elt F) f y = (iSlot p).view.read (Elt F) f (lane y) := rfl

theorem iBlk_read (b : Fin 192) (X : S1x32768.Idx → BitVec 32) (y : S1x128.Idx) (h : 128 * b.val + (y 1).val < 32768) :
    (iBlk b).view.read (Elt F) X y = X (ixI (128 * b.val + (y 1).val) h) := by
  refine (View.read_apply _ _).trans ((cast_eq _ _).trans (congrArg X (funext fun a => Fin.ext ?_)))
  match a with
  | 0 => show (![0, 128 * b.val] : Fin 2 → ℕ) 0 + 1 * (y 0).val = 0; have : (y 0).val < 1 := (y 0).isLt; simp; omega
  | 1 => show (![0, 128 * b.val] : Fin 2 → ℕ) 1 + 1 * (y 1).val = _; simp; rfl

/-- Element `x` of output block `b` lies at row `128 b + x 0`. -/
theorem oBlk_emb_zero (b : Fin 192) (x : S128x2x128.Idx) : ((oBlk b).view.emb x 0).val = 128 * b.val + (x 0).val := by
  show (![128 * b.val, 0, 0] : Fin 3 → ℕ) 0 + 1 * (x 0).val = _; simp
theorem oBlk_emb_one (b : Fin 192) (x : S128x2x128.Idx) : (oBlk b).view.emb x 1 = x 1 := by
  refine Fin.ext ?_; show (![128 * b.val, 0, 0] : Fin 3 → ℕ) 1 + 1 * (x 1).val = _; simp
theorem oBlk_emb_two (b : Fin 192) (x : S128x2x128.Idx) : (oBlk b).view.emb x 2 = x 2 := by
  refine Fin.ext ?_; show (![128 * b.val, 0, 0] : Fin 3 → ℕ) 2 + 1 * (x 2).val = _; simp
theorem mem_oBlk (b : Fin 192) (x : S24576x2x128.Idx) :
    x ∈ (oBlk b).view.set ↔ 128 * b.val ≤ (x 0).val ∧ (x 0).val < 128 * b.val + 128 := by
  show x ∈ ((View.whole main_v2_scv).slice (Rect.unit (s := S24576x2x128) ![128 * b.val, 0, 0] S128x2x128.size (out_inb b))).set ↔ _
  rw [View.set_slice_whole, Rect.mem_set_unit]
  constructor
  · intro h; exact h 0
  · intro h a
    match a with
    | 0 => exact h
    | 1 => have := (x 1).isLt; exact ⟨Nat.zero_le _, by simpa using this⟩
    | 2 => have := (x 2).isLt; exact ⟨Nat.zero_le _, by simpa using this⟩

theorem tabAll_emb (x : S2048x2x128.Idx) : tabAll.view.emb x = x := by
  funext a; refine Fin.ext ?_
  show (![0, 0, 0] : Fin 3 → ℕ) a + 1 * (x a).val = _
  match a with
  | 0 => simp
  | 1 => simp
  | 2 => simp

/-- The list entry at a position is the position's own. -/
theorem rowMajor_zero : ∀ j : Fin S128.numel, ((S128.rowMajor.symm j) 0).val = j.val := by decide +kernel

/-- What the gather brings: row `x 0` of the block is the row of the table the list names. -/
theorem gathered (b : Fin 192) (X : S1x32768.Idx → BitVec 32) (Tb : S2048x2x128.Idx → F .f32) (hX : InRange X)
    (g : S128.Idx → BitVec 32) (hg : ∀ y : S128.Idx, g y = X (ixI (128 * b.val + (y 0).val) (idx_lt b y)))
    (hn : S128.numel = S128x2x128.size gathers_S2048x2x128_S128x2x128.axis')
    (hin : ∀ x, (g x).toNat < S2048x2x128.size gathers_S2048x2x128_S128x2x128.axis) (x : S128x2x128.Idx) :
    SparseCore.gatherPayload (F := F) (e := .f32) gathers_S2048x2x128_S128x2x128 (tabAll.view.read (Elt F) Tb) (SparseCore.rows (F := F) g hn hin) x
      = rowsOf X Tb ((oBlk b).view.emb x) := by
  refine Eq.trans (b := Tb (gathers_S2048x2x128_S128x2x128.idx (SparseCore.rows (F := F) g hn hin) x)) ?_ ?_
  · exact (View.read_apply _ _).trans ((cast_eq _ _).trans (congrArg Tb (tabAll_emb _)))
  · refine congrArg Tb (funext fun a => Fin.ext ?_)
    match a with
    | 0 =>
      have e := Shape.Gathers.idx_axis gathers_S2048x2x128_S128x2x128 (SparseCore.rows (F := F) g hn hin) x
      refine (congrArg Fin.val e).trans ?_
      show (g _).toNat = (X (ixI ((oBlk b).view.emb x 0).val _)).toNat % 2048
      rw [hg]
      have hr : ∀ (j : Fin 128), ((S128.rowMajor.symm (j.cast hn.symm)) 0).val = j.val := fun j => rowMajor_zero _
      have hz := oBlk_emb_zero b x
      have key : ∀ (u v : ℕ) (hu hv), u = v → X (ixI u hu) = X (ixI v hv) := by intro u v hu hv e; subst e; rfl
      have e2 := key _ _ (idx_lt b (S128.rowMajor.symm ((x gathers_S2048x2x128_S128x2x128.axis').cast hn.symm)))
        (lt_of_lt_of_le ((oBlk b).view.emb x 0).isLt (show (24576 : ℕ) ≤ 32768 by decide)) (by
          rw [hz]; exact congrArg (128 * b.val + ·) (hr (x 0)))
      refine (congrArg BitVec.toNat e2).trans (Nat.mod_eq_of_lt ?_).symm
      exact hX _ ((oBlk b).view.emb x 0).isLt
    | 1 => exact (Shape.Gathers.idx_of_ne gathers_S2048x2x128_S128x2x128 (SparseCore.rows (F := F) g hn hin) x 1 (by decide)).trans (congrArg Fin.val (oBlk_emb_one b x)).symm
    | 2 => exact (Shape.Gathers.idx_of_ne gathers_S2048x2x128_S128x2x128 (SparseCore.rows (F := F) g hn hin) x 2 (by decide)).trans (congrArg Fin.val (oBlk_emb_two b x)).symm

theorem iCredit_pos (p : Fin 2) : 0 < (iSlot p).view.dmaCredit := by revert p; decide
theorem oCredit_pos (b : Fin 192) : 0 < (oBlk b).view.dmaCredit := Nat.lt_of_lt_of_eq (show 0 < (oBlk 0).view.dmaCredit by decide) rfl

/-! ## What the tile holds -/

variable (d : Dev nD) (L : grid0.Coords)
variable (Tb : Buf (Elt F) (tabLoc d)) (X : Buf (Elt F) (idxLoc d)) (Y : Buf (Elt F) (outLoc d))

/-- Index slot `p` holds block `b` of the row numbers. -/
def slotHolds (p : Fin 2) (b : Fin 192) : sProp (MM F) :=
  iprop(∃ f : Buf (Elt F) ((iSlot p).view.loc (thr d L)), ⌜∀ y : S128.Idx, (iList p).view.read (Elt F) f y = (X : S1x32768.Idx → BitVec 32) (ixI (128 * b.val + (y 0).val) (idx_lt b y))⌝
    ∗ ((iSlot p).view.loc (thr d L) ↦[(iSlot p).view.set]{fullShare} f))
/-- Row slot `p` at some contents, and at block `b` of the gathered rows. -/
def rowAny (p : Fin 2) : sProp (MM F) := iprop(∃ f, (rSlot p).view.loc (thr d L) ↦[(rSlot p).view.set]{fullShare} f)
def rowHolds (p : Fin 2) (b : Fin 192) : sProp (MM F) :=
  iprop(∃ f : Buf (Elt F) ((rSlot p).view.loc (thr d L)), ⌜∀ x, (rSlot p).view.read (Elt F) f x = rowsOf X Tb ((oBlk b).view.emb x)⌝
    ∗ ((rSlot p).view.loc (thr d L) ↦[(rSlot p).view.set]{fullShare} f))

/-- An index slot with nothing under way: its contents, its semaphore at zero, its share of the row numbers. -/
def idleI (q : PosShare TreeShare) (p : Fin 2) : sProp (MM F) :=
  iprop((∃ f, (iSlot p).view.loc (thr d L) ↦[(iSlot p).view.set]{fullShare} f) ∗ semVal (thr d L, .dma (iSem p)) 0 ∗ (idxLoc d ↦{q} X))
/-- An index slot with the fetch of block `b` under way. -/
def flyI (q : PosShare TreeShare) (p : Fin 2) (b : Fin 192) : sProp (MM F) :=
  iprop(Transfers.Flight countersEmb (thr d L) (.dma (iSem p)) (default : HIx 1) (iSlot p).view.dmaCredit
      iprop(slotHolds d L X p b ∗ (idxLoc d ↦[(iBlk b).view.set]{q} X))
    ∗ (idxLoc d ↦[Finset.univ \ (iBlk b).view.set]{q} X))
/-- An index slot with block `b` landed. -/
def readyI (q : PosShare TreeShare) (p : Fin 2) (b : Fin 192) : sProp (MM F) :=
  iprop(slotHolds d L X p b ∗ semVal (thr d L, .dma (iSem p)) 0 ∗ (idxLoc d ↦{q} X))
/-- A row slot with nothing under way, and with its write-out to block `b` under way. -/
def idleR (p : Fin 2) : sProp (MM F) := iprop(rowAny (F := F) d L p ∗ semVal (thr d L, .dma (rSem p)) 0)
def flyR (p : Fin 2) (b : Fin 192) : sProp (MM F) :=
  Transfers.Flight countersEmb (thr d L) (.dma (rSem p)) (default : HIx 1) (oBlk b).view.dmaCredit
    iprop((outLoc d ↦[(oBlk b).view.set]{fullShare} rowsOf X Tb) ∗ rowAny (F := F) d L p)
/-- What the tile owes, its waits so far among those it began with or the launch's own. -/
def owesN (O : CellTallies nD τ sig (HIx 1)) (W : Waits sig (HIx 1)) : sProp (MM F) :=
  iprop(∃ W', ⌜∀ p ∈ W', p ∈ W ∨ p.2 = none⌝ ∗ owes (thr d L) O W')

theorem readyI_idleI (q : PosShare TreeShare) (p : Fin 2) (b : Fin 192) : readyI d L X q p b ⊢ idleI d L X q p := by
  unfold readyI idleI slotHolds
  iintro ⟨⟨%f, %hf, H⟩, Hs, HX⟩
  isplitl [H]; · iexists f; iexact H
  isplitl [Hs]; · iexact Hs
  iexact HX

variable [FloatOps F]

/-! ## The operations -/

variable {α : Type} {Q : α → sProp (MM F)} {k : PUnit → Prog (TpuEff nD τ sig (Elt F) Λ₀ (.scVector (cV L) (jV L))) α}

/-- Asking for block `b` of the row numbers into slot `p`. -/
theorem wp_issueI (q : PosShare TreeShare) (p : Fin 2) (b : Fin 192) {o4 : Fin 3 → ℕ} {o5 : Fin 2 → ℕ} {o6 : Fin 1 → ℕ}
    (h4 : ∀ a, o4 a + S1x1x128.size a ≤ S2x1x128.size a) (h5 : ∀ a, o5 a + S1x128.size a ≤ S1x32768.size a) (h6 : ∀ a, o6 a + S1.size a ≤ S2.size a)
    (e4 : o4 = ![p.val, 0, 0]) (e5 : o5 = ![0, 128 * b.val]) (e6 : o6 = ![p.val]) {hs hd hsem} :
    idleI d L X q p ⊢ iprop((flyI d L X q p b -∗ wp frame (wpE (defs₀ (F := F)) 𝒱₀ (thr d L) none) Set.univ (k ⟨⟩) Q)
      -∗ wp frame (wpE (defs₀ (F := F)) 𝒱₀ (thr d L) none) Set.univ
        (.op (.enqueueDma (idxM.slice (Rect.unit (s := S1x32768) o5 S1x128.size h5) (fun _ => rfl))
          (.here ((ibM.slice (Rect.unit (s := S2x1x128) o4 S1x1x128.size h4) (fun _ => rfl)).squeeze S1x128 squeezes_S1x1x128_S1x128))
          (.dma ((cc0_scoped1.slice (Rect.unit (s := S2) o6 S1.size h6)).squeeze S_ squeezes_S1_S_).sem) hs hd hsem) k) Q) := by
  subst e4 e5 e6
  unfold idleI
  iintro ⟨⟨%f, Hf⟩, Hs, HX⟩ Hk
  ihave HX' := (pointsTo_split_subset (q := q) (f := X) (S := Finset.univ) (Finset.subset_univ (iBlk b).view.set)).1 $$ HX
  icases HX' with ⟨HXb, HXr⟩
  iapply (Transfers.wp_dmaLocal countersEmb 𝒱₀ (thr d L) none (src := iBlk b) (dst := iSlot p) (via := .same) (default : HIx 1) (iSlot p).view.dmaCredit rfl (iCredit_pos p) (Finset.Subset.refl _)) $$ [HXb Hf Hs]
  · isplitl [HXb]; · iexact HXb
    isplitl [Hf]; · iexact Hf
    iexact Hs
  iintro Hfl
  iapply Hk
  unfold flyI
  isplitl [Hfl]
  · iapply (Transfers.Flight_mono countersEmb (thr d L) ?_) $$ Hfl
    iintro ⟨H, HXb⟩
    isplitl [H]
    · unfold slotHolds
      iexists _; isplitr; swap; · iexact H
      ipureintro
      intro y
      rw [iList_read, View.read_write_univ]
      refine (iBlk_read (F := F) b X (lane y) ?_).trans ?_
      all_goals have e1 := lane_one y
      · rw [e1]; exact idx_lt b y
      · congr 2; rw [e1]
    · iexact HXb
  · iexact HXr

/-- Waiting for it. -/
theorem wp_waitI (O : CellTallies nD τ sig (HIx 1)) (W : Waits sig (HIx 1)) (q : PosShare TreeShare) (p : Fin 2) (b : Fin 192) {o4 : Fin 3 → ℕ} {o5 : Fin 2 → ℕ} {o6 : Fin 1 → ℕ}
    (h4 : ∀ a, o4 a + S1x1x128.size a ≤ S2x1x128.size a) (h5 : ∀ a, o5 a + S1x128.size a ≤ S1x32768.size a) (h6 : ∀ a, o6 a + S1.size a ≤ S2.size a)
    (e4 : o4 = ![p.val, 0, 0]) (e5 : o5 = ![0, 128 * b.val]) (e6 : o6 = ![p.val]) {hs hd} :
    iprop(Transfers.MayWaits (thr d L) (default : HIx 1) O ∗ owesN (F := F) d L O W ∗ flyI d L X q p b) ⊢ iprop((iprop(owesN (F := F) d L O W ∗ readyI d L X q p b) -∗ wp frame (wpE (defs₀ (F := F)) 𝒱₀ (thr d L) none) Set.univ (k ⟨⟩) Q)
      -∗ wp frame (wpE (defs₀ (F := F)) 𝒱₀ (thr d L) none) Set.univ
        (.op (.waitDma2 ((cc0_scoped1.slice (Rect.unit (s := S2) o6 S1.size h6)).squeeze S_ squeezes_S1_S_).sem
          (idxM.slice (Rect.unit (s := S1x32768) o5 S1x128.size h5) (fun _ => rfl))
          ((ibM.slice (Rect.unit (s := S2x1x128) o4 S1x1x128.size h4) (fun _ => rfl)).squeeze S1x128 squeezes_S1x1x128_S1x128) hs hd) k) Q) := by
  subst e4 e5 e6
  unfold owesN flyI
  iintro ⟨#Hmw, ⟨%W', %hW, HO⟩, Hfl, HXr⟩ Hk
  iapply (Transfers.wp_waitLocalO countersEmb 𝒱₀ (thr d L) none (default : HIx 1) rfl) $$ [Hfl HO]
  · isplitl [Hfl]; · iexact Hfl
    isplitl [HO]; · iexact HO
    iapply (Transfers.MayWaits.elim (SemLoc.dma (iSem p))) $$ Hmw
  iintro ⟨⟨Hsl, HXb⟩, Hs, HO⟩
  iapply Hk
  isplitl [HO]
  · iexists _; isplitr; swap; · iexact HO
    ipureintro
    intro x hx
    rcases Finset.mem_insert.mp hx with rfl | hx
    · exact .inr rfl
    · exact hW x hx
  unfold readyI
  isplitl [Hsl]; · iexact Hsl
  isplitl [Hs]; · iexact Hs
  iapply (pointsTo_split_subset (q := q) (f := X) (S := Finset.univ) (Finset.subset_univ (iBlk b).view.set)).2 $$ [HXb HXr]
  isplitl [HXb]; · iexact HXb
  iexact HXr

theorem rowsN (p : Fin 2) : ∀ h : S2048x2x128.Gathers 0 S128x2x128,
    ∑ j, ((rSlot p).slice (S128x2x128.rowRect h.axis' j) (S128x2x128.stride_rowRect h.axis' j)).view.dmaCredit = (rSlot p).view.dmaCredit := by
  revert p; decide +kernel

/-- The gather of the rows slot `p` names into row slot `p`. -/
theorem wp_gather (O : CellTallies nD τ sig (HIx 1)) (W : Waits sig (HIx 1)) (qt : PosShare TreeShare) (p : Fin 2) (b : Fin 192) (hX : InRange X)
    {o10 : Fin 4 → ℕ} {o11 : Fin 3 → ℕ}
    (h10 : ∀ a, o10 a + S1x128x2x128.size a ≤ S2x128x2x128.size a) (h11 : ∀ a, o11 a + S1x1x128.size a ≤ S2x1x128.size a)
    (e10 : o10 = ![p.val, 0, 0, 0]) (e11 : o11 = ![p.val, 0, 0]) {hp hsrc he hsp hs hd} :
    iprop(Transfers.MayWaits (thr d L) (default : HIx 1) O ∗ owesN (F := F) d L O W ∗ (tabLoc d ↦{qt} Tb) ∗ slotHolds d L X p b ∗ rowAny (F := F) d L p
        ∗ semVal (thr d L, .dma gSem) 0)
      ⊢ iprop((iprop(owesN (F := F) d L O W ∗ (tabLoc d ↦{qt} Tb) ∗ slotHolds d L X p b ∗ rowHolds d L Tb X p b ∗ semVal (thr d L, .dma gSem) 0)
          -∗ wp frame (wpE (defs₀ (F := F)) 𝒱₀ (thr d L) none) Set.univ (k ⟨⟩) Q)
      -∗ wp frame (wpE (defs₀ (F := F)) 𝒱₀ (thr d L) none) Set.univ
        (SparseCore.enqueueIndirectGather hp tabAll
          ((rbM.slice (Rect.unit (s := S2x128x2x128) o10 S1x128x2x128.size h10) (fun _ => rfl)).squeeze S128x2x128 squeezes_S1x128x2x128_S128x2x128)
          gathers_S2048x2x128_S128x2x128
          ((((ibM.slice (Rect.unit (s := S2x1x128) o11 S1x1x128.size h11) (fun _ => rfl)).squeeze S1x128 squeezes_S1x1x128_S1x128).slice
            (Rect.unit (s := S1x128) ![0, 0] S1x128.size inb_S1x128_S1x128_0_0) (fun _ => rfl)).squeeze S128 squeezes_S1x128_S128)
          rfl gSem hsrc he hsp >>= fun _ =>
         SparseCore.waitIndirectGather gSem tabAll
          ((rbM.slice (Rect.unit (s := S2x128x2x128) o10 S1x128x2x128.size h10) (fun _ => rfl)).squeeze S128x2x128 squeezes_S1x128x2x128_S128x2x128)
          hs hd >>= k) Q) := by
  subst e10 e11
  unfold owesN slotHolds rowAny
  iintro ⟨#Hmw, ⟨%W', %hW, HO⟩, HT, ⟨%fo, %hfo, Hi⟩, ⟨%fr, Hr⟩, Hs⟩ Hk
  ihave HT' := (pointsTo_split_subset (q := qt) (f := Tb) (S := Finset.univ) (Finset.subset_univ tabAll.view.set)).1 $$ HT
  icases HT' with ⟨HTs, HTr⟩
  have hset : (iList p).view.set = (iSlot p).view.set := by
    show (((iSlot p).view.slice (Rect.unit (s := S1x128) ![0, 0] S1x128.size inb_S1x128_S1x128_0_0)).reshape S128 squeezes_S1x128_S128.numel_eq).set = _
    rw [View.set_reshape, View.set_slice,
      show (Rect.unit (s := S1x128) ![0, 0] S1x128.size inb_S1x128_S1x128_0_0).set = Finset.univ from Finset.eq_univ_iff_forall.mpr fun x =>
        Rect.mem_set_unit.mpr fun a => ⟨by match a with | 0 => exact Nat.zero_le _ | 1 => exact Nat.zero_le _, by
          have := (x a).isLt; match a, this with | 0, h => simpa using h | 1, h => simpa using h⟩]
    rfl
  have hin : ∀ x, ((iList p).view.read (Elt F) fo x).toNat < S2048x2x128.size gathers_S2048x2x128_S128x2x128.axis := by
    intro x; rw [hfo]; exact hX _ (idx_lt' b x)
  iapply (SparseCore.wp_indirectGatherLocal countersEmb 𝒱₀ (thr d L) none (src := tabAll) (dst := rSlot p) (offs := iList p) (hg := gathers_S2048x2x128_S128x2x128) (default : HIx 1)
      (rSlot p).view.dmaCredit (rowsN p _) (by decide) hin) $$ [HTs Hi Hr Hs]
  · isplitl [HTs]; · iexact HTs
    isplitl [Hr]; · iexact Hr
    isplitl [Hi]
    · rw [hset]; iexact Hi
    iexact Hs
  iintro Hfl
  iapply (Transfers.wp_waitLocalO countersEmb 𝒱₀ (thr d L) none (default : HIx 1) (rfl : (rSlot p).view.dmaCredit = _)) $$ [Hfl HO]
  · isplitl [Hfl]; · iexact Hfl
    isplitl [HO]; · iexact HO
    iapply (Transfers.MayWaits.elim (SemLoc.dma gSem)) $$ Hmw
  iintro ⟨⟨Hr, HTs, Hi⟩, Hs, HO⟩
  iapply Hk
  isplitl [HO]
  · iexists _; isplitr; swap; · iexact HO
    ipureintro
    intro x hx
    rcases Finset.mem_insert.mp hx with rfl | hx
    · exact .inr rfl
    · exact hW x hx
  isplitl [HTs HTr]
  · iapply (pointsTo_split_subset (q := qt) (f := Tb) (S := Finset.univ) (Finset.subset_univ tabAll.view.set)).2 $$ [HTs HTr]
    isplitl [HTs]; · iexact HTs
    iexact HTr
  isplitl [Hi]
  · iexists fo; isplitr; · ipureintro; exact hfo
    rw [hset]; iexact Hi
  isplitl [Hr]
  · unfold rowHolds
    iexists _; isplitr; swap; · iexact Hr
    ipureintro
    intro x
    rw [View.read_write_univ]
    exact gathered b X Tb hX _ hfo _ _ x
  iexact Hs

/-- Asking for row slot `p` to be written out to block `b`. -/
theorem wp_issueO (p : Fin 2) (b : Fin 192) {o12 : Fin 4 → ℕ} {o13 : Fin 3 → ℕ} {o14 : Fin 1 → ℕ}
    (h12 : ∀ a, o12 a + S1x128x2x128.size a ≤ S2x128x2x128.size a) (h13 : ∀ a, o13 a + S128x2x128.size a ≤ S24576x2x128.size a) (h14 : ∀ a, o14 a + S1.size a ≤ S2.size a)
    (e12 : o12 = ![p.val, 0, 0, 0]) (e13 : o13 = ![128 * b.val, 0, 0]) (e14 : o14 = ![p.val]) {hs hd hsem} :
    iprop(rowHolds d L Tb X p b ∗ semVal (thr d L, .dma (rSem p)) 0 ∗ (outLoc d ↦[(oBlk b).view.set]{fullShare} Y))
      ⊢ iprop((flyR d L Tb X p b -∗ wp frame (wpE (defs₀ (F := F)) 𝒱₀ (thr d L) none) Set.univ (k ⟨⟩) Q)
      -∗ wp frame (wpE (defs₀ (F := F)) 𝒱₀ (thr d L) none) Set.univ
        (.op (.enqueueDma
          ((rbM.slice (Rect.unit (s := S2x128x2x128) o12 S1x128x2x128.size h12) (fun _ => rfl)).squeeze S128x2x128 squeezes_S1x128x2x128_S128x2x128)
          (.here (outM.slice (Rect.unit (s := S24576x2x128) o13 S128x2x128.size h13) (fun _ => rfl)))
          (.dma ((cc0_scoped3.slice (Rect.unit (s := S2) o14 S1.size h14)).squeeze S_ squeezes_S1_S_).sem) hs hd hsem) k) Q) := by
  subst e12 e13 e14
  unfold rowHolds
  iintro ⟨⟨%f, %hf, Hf⟩, Hs, HY⟩ Hk
  iapply (Transfers.wp_dmaLocal countersEmb 𝒱₀ (thr d L) none (src := rSlot p) (dst := oBlk b) (via := .same) (default : HIx 1) (oBlk b).view.dmaCredit rfl (oCredit_pos b) (Finset.Subset.refl _)) $$ [HY Hf Hs]
  · isplitl [Hf]; · iexact Hf
    isplitl [HY]; · iexact HY
    iexact Hs
  iintro Hfl
  iapply Hk
  unfold flyR
  iapply (Transfers.Flight_mono countersEmb (thr d L) ?_) $$ Hfl
  iintro ⟨HY, Hf⟩
  isplitl [HY]
  · have hc : ∀ i ∈ (oBlk b).view.set, (oBlk b).view.write (Elt F) Y ((rSlot p).view.read (Elt F) f) Finset.univ i = rowsOf X Tb i := by
      intro i hi
      obtain ⟨x, -, rfl⟩ := Finset.mem_map.mp hi
      rw [View.write_emb_of_mem _ _ (Finset.mem_univ x), hf x]
      exact cast_eq _ _
    iapply (Entails.of_eq (pointsTo_congr hc)) $$ HY
  · unfold rowAny; iexists f; iexact Hf

/-- Waiting for it. -/
theorem wp_waitO (O : CellTallies nD τ sig (HIx 1)) (W : Waits sig (HIx 1)) (p : Fin 2) (b : Fin 192) {o12 : Fin 4 → ℕ} {o13 : Fin 3 → ℕ} {o14 : Fin 1 → ℕ}
    (h12 : ∀ a, o12 a + S1x128x2x128.size a ≤ S2x128x2x128.size a) (h13 : ∀ a, o13 a + S128x2x128.size a ≤ S24576x2x128.size a) (h14 : ∀ a, o14 a + S1.size a ≤ S2.size a)
    (e12 : o12 = ![p.val, 0, 0, 0]) (e13 : o13 = ![128 * b.val, 0, 0]) (e14 : o14 = ![p.val]) {hs hd} :
    iprop(Transfers.MayWaits (thr d L) (default : HIx 1) O ∗ owesN (F := F) d L O W ∗ flyR d L Tb X p b)
      ⊢ iprop((iprop(owesN (F := F) d L O W ∗ (outLoc d ↦[(oBlk b).view.set]{fullShare} rowsOf X Tb) ∗ idleR (F := F) d L p)
          -∗ wp frame (wpE (defs₀ (F := F)) 𝒱₀ (thr d L) none) Set.univ (k ⟨⟩) Q)
      -∗ wp frame (wpE (defs₀ (F := F)) 𝒱₀ (thr d L) none) Set.univ
        (.op (.waitDma2 ((cc0_scoped3.slice (Rect.unit (s := S2) o14 S1.size h14)).squeeze S_ squeezes_S1_S_).sem
          ((rbM.slice (Rect.unit (s := S2x128x2x128) o12 S1x128x2x128.size h12) (fun _ => rfl)).squeeze S128x2x128 squeezes_S1x128x2x128_S128x2x128)
          (outM.slice (Rect.unit (s := S24576x2x128) o13 S128x2x128.size h13) (fun _ => rfl)) hs hd) k) Q) := by
  subst e12 e13 e14
  unfold owesN flyR
  iintro ⟨#Hmw, ⟨%W', %hW, HO⟩, Hfl⟩ Hk
  iapply (Transfers.wp_waitLocalO countersEmb 𝒱₀ (thr d L) none (default : HIx 1) rfl) $$ [Hfl HO]
  · isplitl [Hfl]; · iexact Hfl
    isplitl [HO]; · iexact HO
    iapply (Transfers.MayWaits.elim (SemLoc.dma (rSem p))) $$ Hmw
  iintro ⟨⟨HY, Hr⟩, Hs, HO⟩
  iapply Hk
  isplitl [HO]
  · iexists _; isplitr; swap; · iexact HO
    ipureintro
    intro x hx
    rcases Finset.mem_insert.mp hx with rfl | hx
    · exact .inr rfl
    · exact hW x hx
  isplitl [HY]; · iexact HY
  unfold idleR
  isplitl [Hr]; · iexact Hr
  iexact Hs

end Cert.Proof.Tile

end
-- ==== Proof.Trip.lean ====
/-
  One tile's task: the pipelined loop over its six blocks. Before trip `k` block `k` of the row numbers is on its way into its
  slot, the write-out of block `k - 1` is on its way out of the other row slot, the rows before that block are at the gathered
  rows and the rows from block `k` on are as they were.
-/
module

public import proofs.«01_k».proof.Proof.Tile

@[expose] public section

noncomputable section

namespace Cert.Proof.Tile

open Cert.KernelIdeal Cert.KernelIdeal.Gen Cert.Proof.Words Cert.Proof.Setup

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The rows from `a` up to `b` of the gathered rows. -/
def rng (a b : ℕ) : Finset S24576x2x128.Idx := Finset.univ.filter fun x => a ≤ (x 0).val ∧ (x 0).val < b
theorem mem_rng {a b : ℕ} {x : S24576x2x128.Idx} : x ∈ rng a b ↔ a ≤ (x 0).val ∧ (x 0).val < b := by simp [rng]
theorem rng_union {a b c : ℕ} (h : a ≤ b) (h' : b ≤ c) : rng a c = rng a b ∪ rng b c := by
  ext x; simp only [Finset.mem_union, mem_rng]; omega
theorem rng_disjoint (a b c : ℕ) : Disjoint (rng a b) (rng b c) := by
  rw [Finset.disjoint_left]; intro x; simp only [mem_rng]; omega
theorem rng_empty {a b : ℕ} (h : b ≤ a) : rng a b = ∅ := by
  ext x; simp only [mem_rng, Finset.notMem_empty, iff_false]; omega
theorem oBlk_rng (b : Fin 192) : (oBlk b).view.set = rng (128 * b.val) (128 * b.val + 128) := by
  ext x; rw [mem_oBlk]; exact mem_rng.symm

variable (d : Dev nD) (L : grid0.Coords)
variable (Tb : Buf (Elt F) (tabLoc d)) (X : Buf (Elt F) (idxLoc d)) (Y : Buf (Elt F) (outLoc d))

theorem out_split (f : Buf (Elt F) (outLoc d)) {a b c : ℕ} (h : a ≤ b) (h' : b ≤ c) :
    (outLoc d ↦[rng a c]{fullShare} f : sProp (MM F)) ⊣⊢ iprop((outLoc d ↦[rng a b]{fullShare} f) ∗ (outLoc d ↦[rng b c]{fullShare} f)) := by
  rw [rng_union h h']; exact pointsTo_union (rng_disjoint a b c)

/-- The tile's share of the row numbers, one half per index slot. -/
def qI (q : PosShare TreeShare) (p : Fin 2) : PosShare TreeShare := if p = 0 then q.left else q.right

variable (O : CellTallies nD τ sig (HIx 1)) (W : Waits sig (HIx 1)) (qt q : PosShare TreeShare)

/-- What the tile holds before trip `k`. -/
def inv (k : ℕ) (acc : BitVec 32 × BitVec 32 × BitVec 32 × BitVec 32 × BitVec 32) : sProp (MM F) :=
  iprop(⌜acc = (w6 k, w7 k, w7 k, w9 k, w10 k)⌝ ∗ Transfers.MayWaits (thr d L) (default : HIx 1) O ∗ owesN (F := F) d L O W
    ∗ (tabLoc d ↦{qt} Tb) ∗ semVal (thr d L, .dma gSem) 0
    ∗ (if k < 6 then flyI d L X (qI q (sl k)) (sl k) (bk L k) else idleI d L X (qI q (sl k)) (sl k))
    ∗ idleI d L X (qI q (sl (k + 1))) (sl (k + 1))
    ∗ idleR (F := F) d L (sl k)
    ∗ (if 0 < k then flyR d L Tb X (sl (k + 1)) (bk L (k - 1)) else idleR (F := F) d L (sl (k + 1)))
    ∗ (outLoc d ↦[rng (128 * blk L 0) (128 * blk L (k - 1))]{fullShare} rowsOf X Tb)
    ∗ (outLoc d ↦[rng (128 * blk L k) (128 * blk L 6)]{fullShare} Y))

variable [FloatOps F]

omit [FloatOps F] in
/-- A step taken only if `c` holds, at the head of a program: either way it takes `P` and leaves `I`. -/
theorem wp_opt (D : Defs nD τ sig (Elt F) Λ₀) {c : Prop} [Decidable c] {α γ : Type} {e : c → TpuEff nD τ sig (Elt F) Λ₀ (.scVector (cV L) (jV L)) PUnit} {r : γ}
    {k : γ → Prog (TpuEff nD τ sig (Elt F) Λ₀ (.scVector (cV L) (jV L))) α} {Q : α → sProp (MM F)} (P I : sProp (MM F))
    (h : ∀ Q' : sProp (MM F), P ⊢ iprop((I -∗ Q') -∗ wp frame (wpE D 𝒱₀ (thr d L) none) Set.univ
      (dite c (fun h => .op (e h) fun _ => .ret ⟨⟩) (fun _ => .ret ⟨⟩) : Prog (TpuEff nD τ sig (Elt F) Λ₀ (.scVector (cV L) (jV L))) PUnit) (fun _ => Q'))) :
    P ⊢ iprop((I -∗ wp frame (wpE D 𝒱₀ (thr d L) none) Set.univ (k r) Q)
      -∗ wp frame (wpE D 𝒱₀ (thr d L) none) Set.univ ((dite c (fun h => .op (e h) fun _ => .ret r) (fun _ => .ret r) : Prog (TpuEff nD τ sig (Elt F) Λ₀ (.scVector (cV L) (jV L))) γ).bind k) Q) := by
  have e1 : ((dite c (fun h => .op (e h) fun _ => .ret r) (fun _ => .ret r) : Prog (TpuEff nD τ sig (Elt F) Λ₀ (.scVector (cV L) (jV L))) γ).bind k : Prog (TpuEff nD τ sig (Elt F) Λ₀ (.scVector (cV L) (jV L))) α)
      = (dite c (fun h => .op (e h) fun _ => .ret ⟨⟩) (fun _ => .ret ⟨⟩) : Prog (TpuEff nD τ sig (Elt F) Λ₀ (.scVector (cV L) (jV L))) PUnit) >>= fun _ => k r := by
    by_cases h : c
    · rw [dif_pos h, dif_pos h]; rfl
    · rw [dif_neg h, dif_neg h]; rfl
  rw [e1, wp_bind]
  exact h _
omit [FloatOps F] in
theorem wp_opt_last (D : Defs nD τ sig (Elt F) Λ₀) {c : Prop} [Decidable c] {γ : Type} {e : c → TpuEff nD τ sig (Elt F) Λ₀ (.scVector (cV L) (jV L)) PUnit} {r : γ}
    {Q : γ → sProp (MM F)} (P I : sProp (MM F))
    (h : ∀ Q' : sProp (MM F), P ⊢ iprop((I -∗ Q') -∗ wp frame (wpE D 𝒱₀ (thr d L) none) Set.univ
      (dite c (fun h => .op (e h) fun _ => .ret ⟨⟩) (fun _ => .ret ⟨⟩) : Prog (TpuEff nD τ sig (Elt F) Λ₀ (.scVector (cV L) (jV L))) PUnit) (fun _ => Q'))) :
    P ⊢ iprop((I -∗ Q r)
      -∗ wp frame (wpE D 𝒱₀ (thr d L) none) Set.univ (dite c (fun h => .op (e h) fun _ => .ret r) (fun _ => .ret r) : Prog (TpuEff nD τ sig (Elt F) Λ₀ (.scVector (cV L) (jV L))) γ) Q) := by
  have e1 : (dite c (fun h => .op (e h) fun _ => .ret r) (fun _ => .ret r) : Prog (TpuEff nD τ sig (Elt F) Λ₀ (.scVector (cV L) (jV L))) γ)
      = (dite c (fun h => .op (e h) fun _ => .ret r) (fun _ => .ret r) : Prog (TpuEff nD τ sig (Elt F) Λ₀ (.scVector (cV L) (jV L))) γ).bind .ret := by
    by_cases h : c
    · rw [dif_pos h]; rfl
    · rw [dif_neg h]; rfl
  rw [e1]
  iintro HP HK
  iapply (wp_opt d L D P I h) $$ HP
  iintro HI
  rw [wp_ret]; imodintro
  iapply HK $$ HI

set_option maxHeartbeats 4000000 in
/-- One trip. -/
theorem trip_step (hX : InRange X) (k : Fin k0_t1_loop.trips) (acc : BitVec 32 × BitVec 32 × BitVec 32 × BitVec 32 × BitVec 32) :
    inv d L Tb X Y O W qt q k.val acc
      ⊢ wp frame (wpE (defs₀ (F := F)) 𝒱₀ (thr d L) none) Set.univ
          (k0_t1_body L tabM (Memref.isWhole_whole _) idxM (Memref.isWhole_whole _) outM (Memref.isWhole_whole _) ibM (Memref.isWhole_whole _) cc0_scoped1
            rbM (Memref.isWhole_whole _) cc0_scoped3 cc0_scoped4 (base L) k acc)
          (inv d L Tb X Y O W qt q (k.val + 1)) := by
  obtain ⟨j, rfl⟩ : ∃ j : Fin 6, k = trip j := ⟨Fin.cast trips_eq k, rfl⟩
  have hj := j.isLt
  show inv d L Tb X Y O W qt q j.val acc ⊢ wp _ _ _ _ (inv d L Tb X Y O W qt q (j.val + 1))
  unfold inv
  rw [if_pos hj, sl_add_two, if_pos (Nat.succ_pos _), Nat.add_sub_cancel]
  iintro ⟨%hacc, #Hmw, HO, HT, Hg, HfI, HiI, HiR, HfR, Hd, Ht⟩
  subst hacc
  unfold k0_t1_body
  simp only [k0_part1_eq_skeleton, k0_part2_eq_skeleton]
  unfold k0_part1_skel k0_part2_skel
  simp only [dif_pos (cond2_ok L j), dif_pos (cond5_ok L j), ite_self, Prog.lift, Prog.bind_op, Prog.bind_ret, Prog.pure_eq_ret, Prog.bind_assoc]
  iapply (wp_assume 𝒱₀ (thr d L) none Set.univ (chk3_ok j))
  iapply (wp_assume 𝒱₀ (thr d L) none Set.univ (chk2_ok j))
  iapply (wp_assume 𝒱₀ (thr d L) none Set.univ (chk1_ok L j))
  -- the next block of row numbers
  iapply (wp_opt d L (defs₀ (F := F)) (idleI d L X (qI q (sl (j.val + 1))) (sl (j.val + 1)))
    (if j.val + 1 < 6 then flyI d L X (qI q (sl (j.val + 1))) (sl (j.val + 1)) (bk L (j.val + 1)) else idleI d L X (qI q (sl (j.val + 1))) (sl (j.val + 1))) ?_) $$ [HiI]
  · intro Q'
    by_cases h : j.val < 5
    · rw [dif_pos ((cond1_iff L j).mpr h), if_pos (by omega : j.val + 1 < 6)]
      iintro HiI HK
      iapply (wp_issueI d L X (qI q (sl (j.val + 1))) (sl (j.val + 1)) (bk L (j.val + 1)) _ _ _ (off4_eq j h)
        ((off5_eq L j h).trans (by rw [bk_val L _ (by omega)])) (off6_eq j h)) $$ HiI
      iintro H
      rw [wp_ret]; imodintro; iapply HK $$ H
    · rw [dif_neg (fun e => h ((cond1_iff L j).mp e)), if_neg (by omega : ¬ j.val + 1 < 6), wp_ret]
      iintro H HK; imodintro; iapply HK $$ H
  · iexact HiI
  iintro HnI
  simp only [Prog.bind_op, Prog.bind_ret, Prog.pure_eq_ret, Prog.bind_assoc]
  -- its own block lands
  iapply (wp_waitI d L X O W (qI q (sl j.val)) (sl j.val) (bk L j.val) _ _ _ (off7_eq j)
    ((off8_eq L j).trans (by rw [bk_val L _ hj])) (off9_eq j)) $$ [HO HfI]
  · isplitr; · iexact Hmw
    isplitl [HO]; · iexact HO
    iexact HfI
  iintro ⟨HO, HrI⟩
  -- the rows it names
  unfold readyI idleR
  icases HrI with ⟨Hsl, Hsem, HXq⟩
  icases HiR with ⟨Hrow, Hrs⟩
  iapply (wp_gather d L Tb X O W qt (sl j.val) (bk L j.val) hX _ _ (off10_eq j) (off11_eq j)) $$ [HO HT Hsl Hrow Hg]
  · isplitr; · iexact Hmw
    isplitl [HO]; · iexact HO
    isplitl [HT]; · iexact HT
    isplitl [Hsl]; · iexact Hsl
    isplitl [Hrow]; · iexact Hrow
    iexact Hg
  iintro ⟨HO, HT, Hsl, Hrow, Hg⟩
  -- their write-out
  ihave Ht' := (out_split d Y (show 128 * blk L j.val ≤ 128 * blk L (j.val + 1) by simp only [blk]; omega)
    (show 128 * blk L (j.val + 1) ≤ 128 * blk L 6 by simp only [blk]; omega)).1 $$ Ht
  icases Ht' with ⟨Hb, Ht⟩
  have hb : rng (128 * blk L j.val) (128 * blk L (j.val + 1)) = (oBlk (bk L j.val)).view.set := by
    rw [oBlk_rng, bk_val L _ hj]; rfl
  ihave Hb' := (Entails.of_eq (congrArg (fun S => (outLoc d ↦[S]{fullShare} Y : sProp (MM F))) hb)) $$ Hb
  iapply (wp_issueO d L Tb X Y (sl j.val) (bk L j.val) _ _ _ (off12_eq j) ((off13_eq L j).trans (by rw [bk_val L _ hj])) (off14_eq j)) $$ [Hrow Hrs Hb']
  · isplitl [Hrow]; · iexact Hrow
    isplitl [Hrs]; · iexact Hrs
    iexact Hb'
  iintro HnR
  simp only [Prog.bind_op, Prog.bind_ret, Prog.pure_eq_ret, Prog.bind_assoc]
  -- the previous block's write-out
  iapply (wp_opt_last d L (defs₀ (F := F))
    (iprop(Transfers.MayWaits (thr d L) (default : HIx 1) O ∗ owesN (F := F) d L O W
      ∗ (if 0 < j.val then flyR d L Tb X (sl (j.val + 1)) (bk L (j.val - 1)) else idleR (F := F) d L (sl (j.val + 1)))))
    (iprop(owesN (F := F) d L O W ∗ (outLoc d ↦[rng (128 * blk L (j.val - 1)) (128 * blk L j.val)]{fullShare} rowsOf X Tb) ∗ idleR (F := F) d L (sl (j.val + 1)))) ?_)
      $$ [HO HfR]
  · intro Q'
    by_cases h : 0 < j.val
    · rw [dif_pos ((cond7_iff L j).mpr h), if_pos h]
      iintro ⟨#Hmw, HO, HfR⟩ HK
      iapply (wp_waitO d L Tb X O W (sl (j.val + 1)) (bk L (j.val - 1)) _ _ _ (off15_eq j h)
        ((off16_eq L j h).trans (by rw [bk_val L _ (by omega)])) (off17_eq j h)) $$ [HO HfR]
      · isplitr; · iexact Hmw
        isplitl [HO]; · iexact HO
        iexact HfR
      have hb' : (oBlk (bk L (j.val - 1))).view.set = rng (128 * blk L (j.val - 1)) (128 * blk L j.val) := by
        rw [oBlk_rng, bk_val L _ (by omega)]; congr 1; simp only [blk]; omega
      rw [hb']
      iintro H
      rw [wp_ret]; imodintro; iapply HK $$ H
    · rw [dif_neg (fun e => h ((cond7_iff L j).mp e)), if_neg h, wp_ret,
        rng_empty (show 128 * blk L j.val ≤ 128 * blk L (j.val - 1) by simp only [blk]; omega), pointsTo_empty]
      iintro ⟨#Hmw, HO, H⟩ HK; imodintro; iapply HK
      isplitl [HO]; · iexact HO
      isplitr; · iempintro
      iexact H
  · isplitr; · iexact Hmw
    isplitl [HO]; · iexact HO
    iexact HfR
  iintro ⟨HO, Hd', HiR⟩
  isplitr
  · ipureintro
    clear * - L j
    revert L j; decide +kernel
  isplitr; · iexact Hmw
  isplitl [HO]; · iexact HO
  isplitl [HT]; · iexact HT
  isplitl [Hg]; · iexact Hg
  isplitl [HnI]; · iexact HnI
  isplitl [Hsl Hsem HXq]
  · iapply (readyI_idleI d L X (qI q (sl j.val)) (sl j.val) (bk L j.val))
    unfold readyI
    isplitl [Hsl]; · iexact Hsl
    isplitl [Hsem]; · iexact Hsem
    iexact HXq
  unfold idleR
  isplitl [HiR]; · iexact HiR
  isplitl [HnR]; · iexact HnR
  isplitl [Hd Hd']
  · iapply (out_split d (rowsOf X Tb) (show 128 * blk L 0 ≤ 128 * blk L (j.val - 1) by simp only [blk]; omega)
      (show 128 * blk L (j.val - 1) ≤ 128 * blk L j.val by simp only [blk]; omega)).2
    isplitl [Hd]; · iexact Hd
    iexact Hd'
  iexact Ht

end Cert.Proof.Tile

end
-- ==== Proof.Body.lean ====
/-
  One tile's task: the first fetch, the six trips, the last write-out, from the tile's shares of the table and of the row numbers
  and its own rows, to those rows gathered.
-/
module

public import proofs.«01_k».proof.Proof.Trip

@[expose] public section

noncomputable section

namespace Cert.Proof.Tile

open Cert.KernelIdeal Cert.KernelIdeal.Gen Cert.Proof.Words Cert.Proof.Setup

open Idealize.ShloMosaic
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The two slots of a buffer -/

theorem mem_iSlot (p : Fin 2) (x : S2x1x128.Idx) : x ∈ (iSlot p).view.set ↔ (x 0).val = p.val := by
  show x ∈ (((View.whole cc0_scoped0).slice (Rect.unit (s := S2x1x128) ![p.val, 0, 0] S1x1x128.size (ib_inb p))).reshape S1x128 squeezes_S1x1x128_S1x128.numel_eq).set ↔ _
  rw [View.set_reshape, View.set_slice_whole, Rect.mem_set_unit]
  constructor
  · intro h; have := h 0; simp at this; omega
  · intro h a
    match a with
    | 0 => simp; omega
    | 1 => have := (x 1).isLt; exact ⟨Nat.zero_le _, by simpa using this⟩
    | 2 => have := (x 2).isLt; exact ⟨Nat.zero_le _, by simpa using this⟩
theorem mem_rSlot (p : Fin 2) (x : S2x128x2x128.Idx) : x ∈ (rSlot p).view.set ↔ (x 0).val = p.val := by
  show x ∈ (((View.whole cc0_scoped2).slice (Rect.unit (s := S2x128x2x128) ![p.val, 0, 0, 0] S1x128x2x128.size (rb_inb p))).reshape S128x2x128 squeezes_S1x128x2x128_S128x2x128.numel_eq).set ↔ _
  rw [View.set_reshape, View.set_slice_whole, Rect.mem_set_unit]
  constructor
  · intro h; have := h 0; simp at this; omega
  · intro h a
    match a with
    | 0 => simp; omega
    | 1 => have := (x 1).isLt; exact ⟨Nat.zero_le _, by simpa using this⟩
    | 2 => have := (x 2).isLt; exact ⟨Nat.zero_le _, by simpa using this⟩
    | 3 => have := (x 3).isLt; exact ⟨Nat.zero_le _, by simpa using this⟩
theorem iSlot_disjoint : Disjoint (iSlot 0).view.set (iSlot 1).view.set :=
  Finset.disjoint_left.mpr fun x h h' => absurd (((mem_iSlot 0 x).mp h).symm.trans ((mem_iSlot 1 x).mp h')) (by decide)
theorem rSlot_disjoint : Disjoint (rSlot 0).view.set (rSlot 1).view.set :=
  Finset.disjoint_left.mpr fun x h h' => absurd (((mem_rSlot 0 x).mp h).symm.trans ((mem_rSlot 1 x).mp h')) (by decide)
theorem iSlot_cover : (Finset.univ : Finset S2x1x128.Idx) = (iSlot 0).view.set ∪ (iSlot 1).view.set := by
  refine (Finset.eq_univ_iff_forall.mpr fun x => ?_).symm
  have h : (x 0).val < 2 := (x 0).isLt
  rcases (show (x 0).val = 0 ∨ (x 0).val = 1 by omega) with h | h
  · exact Finset.mem_union_left _ ((mem_iSlot 0 x).mpr h)
  · exact Finset.mem_union_right _ ((mem_iSlot 1 x).mpr h)
theorem rSlot_cover : (Finset.univ : Finset S2x128x2x128.Idx) = (rSlot 0).view.set ∪ (rSlot 1).view.set := by
  refine (Finset.eq_univ_iff_forall.mpr fun x => ?_).symm
  have h : (x 0).val < 2 := (x 0).isLt
  rcases (show (x 0).val = 0 ∨ (x 0).val = 1 by omega) with h | h
  · exact Finset.mem_union_left _ ((mem_rSlot 0 x).mpr h)
  · exact Finset.mem_union_right _ ((mem_rSlot 1 x).mpr h)

variable (d : Dev nD) (L : grid0.Coords)

theorem ib_split (f : Buf (Elt F) ((thr d L).loc cc0_scoped0)) :
    ((thr d L).loc cc0_scoped0 ↦{fullShare} f : sProp (MM F))
      ⊢ iprop((∃ f, (iSlot 0).view.loc (thr d L) ↦[(iSlot 0).view.set]{fullShare} f) ∗ (∃ f, (iSlot 1).view.loc (thr d L) ↦[(iSlot 1).view.set]{fullShare} f)) := by
  have e : ((thr d L).loc cc0_scoped0 ↦{fullShare} f : sProp (MM F)) = ((thr d L).loc cc0_scoped0 ↦[(iSlot 0).view.set ∪ (iSlot 1).view.set]{fullShare} f) := by
    rw [← iSlot_cover]
  rw [e]
  refine (pointsTo_union iSlot_disjoint).1.trans ?_
  iintro ⟨H0, H1⟩
  isplitl [H0]; · iexists f; iexact H0
  iexists f; iexact H1
theorem rb_split (f : Buf (Elt F) ((thr d L).loc cc0_scoped2)) :
    ((thr d L).loc cc0_scoped2 ↦{fullShare} f : sProp (MM F)) ⊢ iprop(rowAny (F := F) d L 0 ∗ rowAny (F := F) d L 1) := by
  have e : ((thr d L).loc cc0_scoped2 ↦{fullShare} f : sProp (MM F)) = ((thr d L).loc cc0_scoped2 ↦[(rSlot 0).view.set ∪ (rSlot 1).view.set]{fullShare} f) := by
    rw [← rSlot_cover]
  rw [e]
  refine (pointsTo_union rSlot_disjoint).1.trans ?_
  unfold rowAny
  iintro ⟨H0, H1⟩
  isplitl [H0]; · iexists f; iexact H0
  iexists f; iexact H1
theorem ib_join :
    (iprop((∃ f, (iSlot 0).view.loc (thr d L) ↦[(iSlot 0).view.set]{fullShare} f) ∗ (∃ f, (iSlot 1).view.loc (thr d L) ↦[(iSlot 1).view.set]{fullShare} f)) : sProp (MM F))
      ⊢ iprop(∃ f, (thr d L).loc cc0_scoped0 ↦{fullShare} f) := by
  iintro ⟨⟨%f, H0⟩, ⟨%g, H1⟩⟩
  have e : ∀ h : Buf (Elt F) ((thr d L).loc cc0_scoped0), ((thr d L).loc cc0_scoped0 ↦{fullShare} h : sProp (MM F))
      = ((thr d L).loc cc0_scoped0 ↦[(iSlot 0).view.set ∪ (iSlot 1).view.set]{fullShare} h) := fun h => by rw [← iSlot_cover]
  ihave H := (pointsTo_join (ℓ := (thr d L).loc cc0_scoped0) (q := fullShare) (f := f) (g := g) iSlot_disjoint) $$ [H0 H1]
  · isplitl [H0]; · iexact H0
    iexact H1
  iexists _
  iapply (Entails.of_eq (e _).symm) $$ H
theorem rb_join :
    (iprop(rowAny (F := F) d L 0 ∗ rowAny (F := F) d L 1) : sProp (MM F)) ⊢ iprop(∃ f, (thr d L).loc cc0_scoped2 ↦{fullShare} f) := by
  unfold rowAny
  iintro ⟨⟨%f, H0⟩, ⟨%g, H1⟩⟩
  have e : ∀ h : Buf (Elt F) ((thr d L).loc cc0_scoped2), ((thr d L).loc cc0_scoped2 ↦{fullShare} h : sProp (MM F))
      = ((thr d L).loc cc0_scoped2 ↦[(rSlot 0).view.set ∪ (rSlot 1).view.set]{fullShare} h) := fun h => by rw [← rSlot_cover]
  ihave H := (pointsTo_join (ℓ := (thr d L).loc cc0_scoped2) (q := fullShare) (f := f) (g := g) rSlot_disjoint) $$ [H0 H1]
  · isplitl [H0]; · iexact H0
    iexact H1
  iexists _
  iapply (Entails.of_eq (e _).symm) $$ H

/-! ## The tile's own semaphores and buffers -/

abbrev cell (s : DmaSem sig) : GSem nD τ sig := (thr d L, .dma s)

theorem mem_cells (s : DmaSem sig) (h : (SemLoc.dma s : SemLoc sig).isScoped .scVector = true) : cell d L s ∈ ownCells (thr d L) :=
  mem_ownCells.mpr ⟨rfl, h⟩
theorem cell_ne {s t : DmaSem sig} (h : s ≠ t) : cell d L s ≠ cell d L t := fun e => h (SemLoc.dma.inj (Prod.ext_iff.mp e).2)

/-- The other semaphores a subcore owns. -/
def otherSems : sProp (MM F) :=
  bigSep ((((((ownCells (thr d L)).erase (cell d L (iSem 0))).erase (cell d L (iSem 1))).erase (cell d L (rSem 0))).erase (cell d L (rSem 1))).erase (cell d L gSem)) fun g => semVal g 0
/-- The other buffers a subcore owns. -/
def otherBufs : sProp (MM F) :=
  bigSep (((ownRefs (τ := τ) (.scVector (cV L) (jV L))).erase ((Proc.scVector (cV L) (jV L)).devRef cc0_scoped0)).erase ((Proc.scVector (cV L) (jV L)).devRef cc0_scoped2))
    fun b => iprop(∃ f, ((d, b) : Loc nD τ sig) ↦{fullShare} f)

theorem ownSems0_V :
    (ownSems0 (thr d L) : sProp (MM F))
      = iprop(semVal (cell d L (iSem 0)) 0 ∗ semVal (cell d L (iSem 1)) 0 ∗ semVal (cell d L (rSem 0)) 0 ∗ semVal (cell d L (rSem 1)) 0 ∗ semVal (cell d L gSem) 0
          ∗ otherSems (F := F) d L) := by
  unfold SparseCore.Cfg.ownSems0 otherSems
  have n1 := cell_ne d L (show iSem 1 ≠ iSem 0 by decide)
  have n2 := cell_ne d L (show rSem 0 ≠ iSem 0 by decide)
  have n3 := cell_ne d L (show rSem 0 ≠ iSem 1 by decide)
  have n4 := cell_ne d L (show rSem 1 ≠ iSem 0 by decide)
  have n5 := cell_ne d L (show rSem 1 ≠ iSem 1 by decide)
  have n6 := cell_ne d L (show rSem 1 ≠ rSem 0 by decide)
  have n7 := cell_ne d L (show gSem ≠ iSem 0 by decide)
  have n8 := cell_ne d L (show gSem ≠ iSem 1 by decide)
  have n9 := cell_ne d L (show gSem ≠ rSem 0 by decide)
  have n10 := cell_ne d L (show gSem ≠ rSem 1 by decide)
  rw [SparseCore.bigSep_erase' (mem_cells d L (iSem 0) (by decide)),
    SparseCore.bigSep_erase' (Finset.mem_erase.mpr ⟨n1, mem_cells d L (iSem 1) (by decide)⟩),
    SparseCore.bigSep_erase' (Finset.mem_erase.mpr ⟨n3, Finset.mem_erase.mpr ⟨n2, mem_cells d L (rSem 0) (by decide)⟩⟩),
    SparseCore.bigSep_erase' (Finset.mem_erase.mpr ⟨n6, Finset.mem_erase.mpr ⟨n5, Finset.mem_erase.mpr ⟨n4, mem_cells d L (rSem 1) (by decide)⟩⟩⟩),
    SparseCore.bigSep_erase' (Finset.mem_erase.mpr ⟨n10, Finset.mem_erase.mpr ⟨n9, Finset.mem_erase.mpr ⟨n8, Finset.mem_erase.mpr ⟨n7, mem_cells d L gSem (by decide)⟩⟩⟩⟩)]

theorem ownBufs_V :
    (ownBufs (thr d L) : sProp (MM F))
      = iprop((∃ f, (thr d L).loc cc0_scoped0 ↦{fullShare} f) ∗ (∃ f, (thr d L).loc cc0_scoped2 ↦{fullShare} f) ∗ otherBufs (F := F) d L) := by
  unfold SparseCore.Cfg.ownBufs otherBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The task -/

variable (Tb : Buf (Elt F) (tabLoc d)) (X : Buf (Elt F) (idxLoc d)) (Y : Buf (Elt F) (outLoc d))
variable (O : CellTallies nD τ sig (HIx 1)) (W : Waits sig (HIx 1)) (qt q : PosShare TreeShare)
variable [FloatOps F]

/-- The prologue asks for the first block. -/
theorem part3_step (qh : PosShare TreeShare) {Q : BitVec 32 → sProp (MM F)} :
    idleI d L X qh 0 ⊢ iprop((flyI d L X qh 0 (bk L 0) -∗ Q (base L))
      -∗ wp frame (wpE (defs₀ (F := F)) 𝒱₀ (thr d L) none) Set.univ
        (k0_part3 L tabM (Memref.isWhole_whole _) idxM (Memref.isWhole_whole _) outM (Memref.isWhole_whole _) ibM (Memref.isWhole_whole _) cc0_scoped1
            rbM (Memref.isWhole_whole _) cc0_scoped3 cc0_scoped4) Q) := by
  simp only [k0_part3_eq_skeleton]; unfold k0_part3_skel base
  simp only [Prog.lift, Prog.bind_op, Prog.bind_ret, Prog.pure_eq_ret, Prog.bind_assoc]
  iintro H HK
  iapply (wp_issueI d L X qh 0 (bk L 0) _ _ _ off1_eq ((off2_eq L).trans (by rw [bk_val L 0 (by decide)])) off3_eq) $$ H
  iintro H
  rw [wp_ret]; imodintro
  iapply HK $$ H

/-- The loop, then the side conditions of the epilogue's offsets. -/
theorem part4_step (hX : InRange X) {Q : (Σ' (a : BitVec 32) (b : BitVec 32) (_ : k0_chk5 L b), k0_chk4 a) → sProp (MM F)} :
    inv d L Tb X Y O W qt q 0 (w6 0, w7 0, w7 0, w9 0, w10 0) ⊢ iprop((inv d L Tb X Y O W qt q 6 (w6 6, w7 6, w7 6, w9 6, w10 6) -∗ Q ⟨w9 6, w10 6, chk5_ok L, chk4_ok⟩)
      -∗ wp frame (wpE (defs₀ (F := F)) 𝒱₀ (thr d L) none) Set.univ
        (k0_part4 L tabM (Memref.isWhole_whole _) idxM (Memref.isWhole_whole _) outM (Memref.isWhole_whole _) ibM (Memref.isWhole_whole _) cc0_scoped1
            rbM (Memref.isWhole_whole _) cc0_scoped3 cc0_scoped4 (base L)) Q) := by
  simp only [k0_part4_eq_skeleton]; unfold k0_part4_skel
  simp only [show (Scalar.addi 0#32 1#32, 0#32, 0#32, 0#32, 0#32) = (w6 0, w7 0, w7 0, w9 0, w10 0) by decide +kernel]
  iintro H HK
  iapply (Scf.wp_for_bind frame (wpE (defs₀ (F := F)) 𝒱₀ (thr d L) none) Set.univ _ _ _ _ _ _ (inv d L Tb X Y O W qt q)
    (fun k acc => trip_step d L Tb X Y O W qt q hX k acc)) $$ H
  iintro %acc H
  ihave H := (show inv d L Tb X Y O W qt q k0_t1_loop.trips acc ⊢ iprop(⌜acc = (w6 6, w7 6, w7 6, w9 6, w10 6)⌝ ∗ inv d L Tb X Y O W qt q 6 acc) by
    rw [trips_eq]
    iintro H
    unfold inv
    icases H with ⟨%h, H⟩
    isplitr; · ipureintro; exact h
    isplitr; · ipureintro; exact h
    iexact H) $$ H
  icases H with ⟨%hacc, H⟩
  subst hacc
  have h5 := chk5_ok L
  have h4 := chk4_ok
  simp only
  sl_exec
  rw [wp_ret]; imodintro
  iapply HK $$ H

/-- What the tile takes and brings back: its share of the table, its share of the row numbers, its own rows at `f`. -/
def tilePts (f : Buf (Elt F) (outLoc d)) : sProp (MM F) :=
  iprop((tabLoc d ↦{qt} Tb) ∗ (idxLoc d ↦{q} X) ∗ (outLoc d ↦[rng (128 * blk L 0) (128 * blk L 6)]{fullShare} f))

set_option maxHeartbeats 4000000 in
/-- The task on one tile leaves its rows gathered, everything else as it was. -/
theorem tile_body (hX : InRange X) (hO : ∀ g, O g none = 0) :
    iprop(levAts (K (F := F)).L (K (F := F)).lev ∗ emp ∗ tilePts d L Tb X qt q Y
        ∗ scopedBufs (thr d L) ∗ scopedSems0 (thr d L) ∗ owes (thr d L) O W)
      ⊢ wp frame (wpE (defs₀ (F := F)) 𝒱₀ (thr d L) none) Set.univ
          (cc0__gather L tabM (Memref.isWhole_whole _) idxM (Memref.isWhole_whole _) outM (Memref.isWhole_whole _) ibM (Memref.isWhole_whole _) cc0_scoped1
            rbM (Memref.isWhole_whole _) cc0_scoped3 cc0_scoped4)
          fun _ => iprop(tilePts d L Tb X qt q (rowsOf X Tb)
            ∗ scopedBufs (thr d L) ∗ scopedSems0 (thr d L)
            ∗ ∃ W', ⌜∀ p ∈ W', p ∈ W ∨ p.2 = none⌝ ∗ owes (thr d L) O W') := by
  simp only [cc0__gather_eq_skeleton]; unfold cc0__gather_skel tilePts
  rw [(K (F := F)).scopedBufs_V Setup.facts d (cV L) (jV L), SparseCore.Cfg.scopedSems0_V (Val := Elt F) d (cV L) (jV L), ownSems0_V, ownBufs_V]
  iintro ⟨#Hlv, -, ⟨HT, HX, HY⟩, ⟨⟨%fi, Hib⟩, ⟨%fr, Hrb⟩, Hbufs⟩, ⟨Hi0, Hi1, Hr0, Hr1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave Hib := (ib_split d L fi) $$ Hib
  icases Hib with ⟨Hib0, Hib1⟩
  ihave Hrb := (rb_split d L fr) $$ Hrb
  icases Hrb with ⟨Hrb0, Hrb1⟩
  ihave HX := (pointsTo_share (PosShare.mem_left_op_right q)).1 $$ HX
  icases HX with ⟨HX0, HX1⟩
  rw [wp_bind]
  iapply (part3_step d L X q.left) $$ [Hib0 Hi0 HX0]
  · unfold idleI
    isplitl [Hib0]; · iexact Hib0
    isplitl [Hi0]; · iexact Hi0
    iexact HX0
  iintro Hfl
  rw [wp_bind]
  iapply (part4_step d L Tb X Y O W qt q hX) $$ [Hfl Hib1 Hi1 HX1 Hrb0 Hr0 Hrb1 Hr1 HT Hg HY HO]
  · unfold inv
    isplitr; · ipureintro; rfl
    isplitr; · iexact Hmw
    isplitl [HO]
    · unfold owesN; iexists W; isplitr; · ipureintro; exact fun p hp => .inl hp
      iexact HO
    isplitl [HT]; · iexact HT
    isplitl [Hg]; · iexact Hg
    isplitl [Hfl]
    · iapply (Entails.of_eq (show flyI d L X q.left 0 (bk L 0) = (if 0 < 6 then flyI d L X (qI q (sl 0)) (sl 0) (bk L 0) else idleI d L X (qI q (sl 0)) (sl 0)) from rfl)) $$ Hfl
    isplitl [Hib1 Hi1 HX1]
    · unfold idleI
      isplitl [Hib1]; · iexact Hib1
      isplitl [Hi1]; · iexact Hi1
      iexact HX1
    isplitl [Hrb0 Hr0]
    · unfold idleR
      isplitl [Hrb0]; · iexact Hrb0
      iexact Hr0
    isplitl [Hrb1 Hr1]
    · iapply (Entails.of_eq (show idleR (F := F) d L 1 = (if 0 < 0 then flyR d L Tb X (sl (0 + 1)) (bk L (0 - 1)) else idleR (F := F) d L (sl (0 + 1))) from rfl))
      unfold idleR
      isplitl [Hrb1]; · iexact Hrb1
      iexact Hr1
    isplitr
    · rw [rng_empty (Nat.le_refl _), pointsTo_empty]; iempintro
    iexact HY
  iintro H
  simp only [Prog.lift, Prog.bind_op, Prog.bind_ret, Prog.pure_eq_ret, Prog.bind_assoc]
  ihave H := (show inv d L Tb X Y O W qt q 6 (w6 6, w7 6, w7 6, w9 6, w10 6) ⊢ iprop(
      Transfers.MayWaits (thr d L) (default : HIx 1) O ∗ owesN (F := F) d L O W ∗ (tabLoc d ↦{qt} Tb) ∗ semVal (thr d L, .dma gSem) 0
      ∗ idleI d L X q.left 0 ∗ idleI d L X q.right 1 ∗ idleR (F := F) d L 0 ∗ flyR d L Tb X 1 (bk L 5)
      ∗ (outLoc d ↦[rng (128 * blk L 0) (128 * blk L 5)]{fullShare} rowsOf X Tb)) by
    unfold inv
    rw [if_neg (by decide), if_pos (by decide)]
    iintro ⟨-, Hm, HO, HT, Hg, Ha, Hb, Hc, Hd, He, -⟩
    isplitl [Hm]; · iexact Hm
    isplitl [HO]; · iexact HO
    isplitl [HT]; · iexact HT
    isplitl [Hg]; · iexact Hg
    isplitl [Ha]; · iexact Ha
    isplitl [Hb]; · iexact Hb
    isplitl [Hc]; · iexact Hc
    isplitl [Hd]; · iexact Hd
    iexact He) $$ H
  icases H with ⟨-, HO, HT, Hg, HI0, HI1, HR0, HfR, HD⟩
  iapply (wp_waitO d L Tb X O W 1 (bk L 5) _ _ _ off21_eq ((off19_eq L).trans (by rw [bk_val L 5 (by decide)])) off20_eq) $$ [HO HfR]
  · isplitr; · iexact Hmw
    isplitl [HO]; · iexact HO
    iexact HfR
  iintro ⟨HO, HD', HR1⟩
  rw [wp_ret]; imodintro
  unfold idleI idleR owesN
  icases HI0 with ⟨Hib0, Hi0, HX0⟩
  icases HI1 with ⟨Hib1, Hi1, HX1⟩
  icases HR0 with ⟨Hrb0, Hr0⟩
  icases HR1 with ⟨Hrb1, Hr1⟩
  isplitl [HT HX0 HX1 HD HD']
  · isplitl [HT]; · iexact HT
    isplitl [HX0 HX1]
    · iapply (pointsTo_share (PosShare.mem_left_op_right q)).2
      isplitl [HX0]; · iexact HX0
      iexact HX1
    iapply (out_split d (rowsOf X Tb) (show 128 * blk L 0 ≤ 128 * blk L 5 by simp only [blk]; omega)
      (show 128 * blk L 5 ≤ 128 * blk L 6 by simp only [blk]; omega)).2
    isplitl [HD]; · iexact HD
    iapply (Entails.of_eq (show (outLoc d ↦[(oBlk (bk L 5)).view.set]{fullShare} rowsOf X Tb : sProp (MM F)) = (outLoc d ↦[rng (128 * blk L 5) (128 * blk L 6)]{fullShare} rowsOf X Tb) by
      rw [oBlk_rng, bk_val L 5 (by decide)]; rfl)) $$ HD'
  isplitl [Hib0 Hib1 Hrb0 Hrb1 Hbufs]
  · isplitl [Hib0 Hib1]
    · iapply (ib_join d L)
      isplitl [Hib0]; · iexact Hib0
      iexact Hib1
    isplitl [Hrb0 Hrb1]
    · iapply (rb_join d L)
      isplitl [Hrb0]; · iexact Hrb0
      iexact Hrb1
    iexact Hbufs
  isplitl [Hi0 Hi1 Hr0 Hr1 Hg Hsems]
  · isplitl [Hi0]; · iexact Hi0
    isplitl [Hi1]; · iexact Hi1
    isplitl [Hr0]; · iexact Hr0
    isplitl [Hr1]; · iexact Hr1
    isplitl [Hg]; · iexact Hg
    iexact Hsems
  iexact HO

end Cert.Proof.Tile

end
-- ==== Proof.Launch.lean ====
/-
  The launch: the two reshapes on the TensorCore, the call's split of its operands over two SparseCores of sixteen tiles, and the
  reshape of the gathered rows into the result; the program's run with its result's contents.
-/
module

public import proofs.«01_k».proof.Proof.Body

@[expose] public section

noncomputable section

namespace Cert.Proof.Launch

open Cert.KernelIdeal Cert.KernelIdeal.Gen Cert.Proof.Words Cert.Proof.Setup Cert.Proof.Tile

open Idealize.ShloMosaic
open Idealize.ShloMosaic.SparseCore (S V)
open Idealize.ShloMosaic.SparseCore.Cfg (HIx Pay)
open Idealize.ShloMosaic.StableHlo (held held_split)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ) (ρ : Dev nD → PrngReg)

/-! ## The arrays -/

abbrev featsLoc (d : Dev nD) : Loc nD τ sig := (SparseCore.T d).loc main_arg0
abbrev idx4Loc (d : Dev nD) : Loc nD τ sig := (SparseCore.T d).loc main_arg1
abbrev resLoc (d : Dev nD) : Loc nD τ sig := (SparseCore.T d).loc main_v3

/-- The table, the row numbers, the gathered rows and the result, from the launch contents of the arguments. -/
def tabV (d : Dev nD) : S2048x2x128.Idx → F .f32 := shapeCast S2048x2x128 (m (featsLoc d)) shapeCasts_S2048x256_S2048x2x128
def idxV (d : Dev nD) : S1x32768.Idx → BitVec 32 := shapeCast S1x32768 (m (idx4Loc d) : S4x8192.Idx → BitVec 32) shapeCasts_S4x8192_S1x32768
def rowsV (d : Dev nD) : S24576x2x128.Idx → F .f32 := rowsOf (idxV m d) (tabV m d)
def resV (d : Dev nD) : S3x8192x256.Idx → F .f32 := shapeCast S3x8192x256 (rowsV m d) shapeCasts_S24576x2x128_S3x8192x256

/-- Every row number read names a row of the table. -/
def PreOK : Prop := ∀ d, InRange (idxV m d)

/-! ## Tiles and cores -/

/-- The coordinates of tile `i` of core `c`. -/
def tileAt (c : Fin (grid0.bound 0)) (i : Fin (grid0.bound 1)) : grid0.Coords :=
  fun | 0 => c | 1 => i | ⟨_ + 2, h⟩ => absurd h (Nat.not_lt.2 (Nat.le_add_left _ _))

/-- Core `c`'s rows, tile `i`'s rows of them. -/
def coreRows (c : Fin 2) : Finset S24576x2x128.Idx := rng (12288 * c.val) (12288 * c.val + 12288)
def tileRows (c : Fin 2) (i : Fin 16) : Finset S24576x2x128.Idx := rng (128 * blk (tileAt c i) 0) (128 * blk (tileAt c i) 6)

theorem blk_tileAt (c : Fin 2) (i : Fin 16) (k : ℕ) : blk (tileAt c i) k = 6 * (i.val + 16 * c.val) + k := rfl

theorem coreRows_disjoint : ∀ c ∈ (Finset.univ : Finset (Fin 2)), ∀ c' ∈ (Finset.univ : Finset (Fin 2)), c ≠ c' → Disjoint (coreRows c) (coreRows c') := by
  intro c _ c' _ h
  rw [Finset.disjoint_left]; intro x
  have : c.val ≠ c'.val := fun e => h (Fin.ext e)
  simp only [coreRows, mem_rng]; omega
theorem coreRows_cover : (Finset.univ : Finset (Fin 2)).biUnion coreRows = Finset.univ := by
  refine Finset.eq_univ_iff_forall.mpr fun x => ?_
  have h : (x 0).val < 24576 := (x 0).isLt
  refine Finset.mem_biUnion.mpr ⟨⟨(x 0).val / 12288, by omega⟩, Finset.mem_univ _, mem_rng.mpr ?_⟩
  show 12288 * ((x 0).val / 12288) ≤ _ ∧ _ < 12288 * ((x 0).val / 12288) + 12288
  omega
theorem tileRows_disjoint (c : Fin 2) : ∀ i ∈ (Finset.univ : Finset (Fin 16)), ∀ i' ∈ (Finset.univ : Finset (Fin 16)), i ≠ i' → Disjoint (tileRows c i) (tileRows c i') := by
  intro i _ i' _ h
  rw [Finset.disjoint_left]; intro x
  have : i.val ≠ i'.val := fun e => h (Fin.ext e)
  simp only [tileRows, mem_rng, blk_tileAt]; omega
theorem tileRows_cover (c : Fin 2) : (Finset.univ : Finset (Fin 16)).biUnion (tileRows c) = coreRows c := by
  ext x
  have hc := c.isLt
  simp only [Finset.mem_biUnion, Finset.mem_univ, true_and, tileRows, coreRows, mem_rng, blk_tileAt]
  constructor
  · rintro ⟨i, h⟩; have := i.isLt; omega
  · intro h
    exact ⟨⟨((x 0).val - 12288 * c.val) / 768, by omega⟩, by show 128 * (6 * (((x 0).val - 12288 * c.val) / 768 + 16 * c.val) + 0) ≤ _ ∧ _ < 128 * (6 * (((x 0).val - 12288 * c.val) / 768 + 16 * c.val) + 6); omega⟩

/-- Core `c`'s share of what every tile reads, tile `i`'s share of it. -/
def coreSh (c : Fin 2) : PosShare TreeShare := pieceOf fullShare 2 (by decide) c
def tileSh (c : Fin 2) (i : Fin 16) : PosShare TreeShare := pieceOf (coreSh c) 16 (by decide) i

/-! ## What the handshakes carry -/

/-- A core's part of the call: shares of the table and of the row numbers, its rows at `f`. -/
def corePts (d : Dev nD) (c : Fin 2) (f : Buf (Elt F) (outLoc d)) : sProp (MM F) :=
  iprop((tabLoc d ↦{coreSh c} (tabV m d : Buf (Elt F) (tabLoc d))) ∗ (idxLoc d ↦{coreSh c} (idxV m d : Buf (Elt F) (idxLoc d))) ∗ (outLoc d ↦[coreRows c]{fullShare} f))
/-- A tile's part. -/
def taskPts (d : Dev nD) (c : Fin 2) (i : Fin 16) (f : Buf (Elt F) (outLoc d)) : sProp (MM F) :=
  tilePts d (tileAt c i) (tabV m d) (idxV m d) (tileSh c i) (tileSh c i) f

def P : (K (F := F)).Pay (nD := nD) (Val := Elt F) (Name := ℕ) (U := UU) where
  st := fun q d c => match q, c with | 0, c => corePts m d (Fin.cast nCore_zero c) (m (outLoc d))
  dn := fun q d c => match q, c with | 0, c => corePts m d (Fin.cast nCore_zero c) (rowsV m d)
  go := fun q d c i => match q, c, i with | 0, c, i => taskPts m d (Fin.cast nCore_zero c) (Fin.cast nSub_zero i) (m (outLoc d))
  td := fun q d c i => match q, c, i with | 0, c, i => taskPts m d (Fin.cast nCore_zero c) (Fin.cast nSub_zero i) (rowsV m d)
  x := fun _ _ => iprop(emp)

instance corePts_storable (d : Dev nD) (c : Fin 2) (f : Buf (Elt F) (outLoc d)) : BI.Storable (upEmb : UEmb _ (MM F)) (corePts m d c f) := by
  unfold corePts; infer_instance
instance taskPts_storable (d : Dev nD) (c : Fin 2) (i : Fin 16) (f : Buf (Elt F) (outLoc d)) : BI.Storable (upEmb : UEmb _ (MM F)) (taskPts m d c i f) := by
  unfold taskPts tilePts; infer_instance

instance P_storable : (P (F := F) m).IsStorable where
  st q d c := match q, c with | 0, c => corePts_storable m d (Fin.cast nCore_zero c) (m (outLoc d))
  dn q d c := match q, c with | 0, c => corePts_storable m d (Fin.cast nCore_zero c) (rowsV m d)
  go q d c i := match q, c, i with | 0, c, i => taskPts_storable m d (Fin.cast nCore_zero c) (Fin.cast nSub_zero i) (m (outLoc d))
  td q d c i := match q, c, i with | 0, c, i => taskPts_storable m d (Fin.cast nCore_zero c) (Fin.cast nSub_zero i) (rowsV m d)

theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

/-- A core's part is its tiles' parts at once. -/
theorem corePts_tasks (d : Dev nD) (c : Fin 2) (f : Buf (Elt F) (outLoc d)) :
    corePts m d c f = bigSep Finset.univ fun i : Fin 16 => taskPts m d c i f := by
  unfold taskPts tilePts corePts
  rw [bigSep_sep', bigSep_sep']
  congr 1
  · exact pointsTo_piecesOf Finset.univ _ (by decide) (coreSh c)
  congr 1
  · exact pointsTo_piecesOf Finset.univ _ (by decide) (coreSh c)
  · rw [← tileRows_cover]; exact pointsTo_biUnion Finset.univ (ℓ := outLoc d) (tileRows c) (tileRows_disjoint c)
/-- The call's operands are its cores' parts at once. -/
theorem callPts_cores (d : Dev nD) (f : Buf (Elt F) (outLoc d)) :
    (iprop((tabLoc d ↦{fullShare} (tabV m d : Buf (Elt F) (tabLoc d))) ∗ (idxLoc d ↦{fullShare} (idxV m d : Buf (Elt F) (idxLoc d))) ∗ (outLoc d ↦{fullShare} f)) : sProp (MM F))
      = bigSep Finset.univ fun c : Fin 2 => corePts m d c f := by
  unfold corePts
  rw [bigSep_sep', bigSep_sep']
  congr 1
  · exact pointsTo_piecesOf Finset.univ _ (by decide) fullShare
  congr 1
  · exact pointsTo_piecesOf Finset.univ _ (by decide) fullShare
  · rw [← pointsTo_biUnion Finset.univ (ℓ := outLoc d) coreRows coreRows_disjoint, coreRows_cover]

theorem vecSplit : (K (F := F)).VecSplit' (P m) 0 := by
  intro d c
  show corePts m d (Fin.cast nCore_zero c) (m (outLoc d)) ⊢ |={Set.univ}=> iprop(
      (bigSep Finset.univ fun i : Fin ((K (F := F)).nSub 0) => taskPts m d (Fin.cast nCore_zero c) (Fin.cast nSub_zero i) (m (outLoc d)))
      ∗ ((bigSep Finset.univ fun i : Fin ((K (F := F)).nSub 0) => taskPts m d (Fin.cast nCore_zero c) (Fin.cast nSub_zero i) (rowsV m d))
          -∗ corePts m d (Fin.cast nCore_zero c) (rowsV m d)))
  rw [bigSep_tasks (F := F) (fun i => taskPts m d (Fin.cast nCore_zero c) i (m (outLoc d))),
    bigSep_tasks (F := F) (fun i => taskPts m d (Fin.cast nCore_zero c) i (rowsV m d)), corePts_tasks, corePts_tasks]
  iintro H; imodintro
  isplitl [H]; · iexact H
  iintro H; iexact H

/-! ## The obligation -/

variable [FloatOps F]

theorem defs₀_vector (c : Fin τ.nSC) (s : Fin τ.nSub) :
    defs₀ (F := F) (.scVector c s) 0 ()
      = SparseCore.onTile hcore0 hsub0 (fun c s => cc0__gather (tileAt c s)
          tabM (Memref.isWhole_whole _) idxM (Memref.isWhole_whole _) outM (Memref.isWhole_whole _) ibM (Memref.isWhole_whole _) cc0_scoped1
            rbM (Memref.isWhole_whole _) cc0_scoped3 cc0_scoped4) ⟨⟩ c s := rfl

omit [FloatOps F] in
theorem obl_post {th : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task is proved, from the precondition. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileAt ⟨_, hci.1⟩ ⟨_, hci.2⟩) (tabV m d) (idxV m d) (m (outLoc d)) O W (tileSh (Fin.cast nCore_zero c) (Fin.cast nSub_zero i))
    (tileSh (Fin.cast nCore_zero c) (Fin.cast nSub_zero i)) (hpre d) hO).trans (wp_mono frame _ _ fun _ => obl_post)

/-! ## The launch element of the ghost state -/

def u₀ : UU := (initOf (K (F := F)).hsCells (K (F := F)).hsToks, 1)

omit [FloatOps F] in
theorem bigSep_emps {I : Type} (s : Finset I) : (bigSep s fun _ => iprop(emp)) = (iprop(emp) : sProp (MM F)) := bigSep_emp_const s

omit [FloatOps F] in
theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emps]
  iempintro

/-! ## @main on the TensorCore -/

omit [FloatOps F] in
theorem unscopedBufs_eq (d : Dev nD) (W : (b : Ref sig .tc) → Buf (Elt F) ((d.tc : Thread nD τ).loc b)) :
    (unscopedBufs d W : sProp (MM F)) = iprop((featsLoc d ↦{fullShare} W main_arg0) ∗ (idx4Loc d ↦{fullShare} W main_arg1) ∗ (idxLoc d ↦{fullShare} W main_v0)
      ∗ (tabLoc d ↦{fullShare} W main_v1) ∗ (outLoc d ↦{fullShare} W main_v2) ∗ (resLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

include m in
/-- A reshape at the head of a program: `y` ends at `x`'s elements in row-major order at `y`'s shape. -/
theorem wp_reshape {Λ : Labels} (D : Defs nD τ sig (Elt F) Λ) (𝒱 : Variants) (d : Dev nD) (x y : Ref sig .tc) (he : x.ty.elt = y.ty.elt) (hn : x.ty.shape.ShapeCasts y.ty.shape)
    (hx : x.space ≠ .host ∧ (Proc.devRef (τ := τ) .tc x).isScoped = false) (hy : y.space ≠ .host ∧ (Proc.devRef (τ := τ) .tc y).isScoped = false)
    (hxy : (Proc.devRef (τ := τ) .tc x) ≠ Proc.devRef .tc y)
    (f : Buf (Elt F) ((SparseCore.T d).loc x)) (g : Buf (Elt F) ((SparseCore.T d).loc y)) {hp} {α : Type} {k : Prog (TpuEff nD τ sig (Elt F) Λ .tc) α} {Q : α → sProp (MM F)} :
    iprop(boundary (SparseCore.T d) ∗ ((SparseCore.T d).loc x ↦{fullShare} f) ∗ ((SparseCore.T d).loc y ↦{fullShare} g))
      ⊢ iprop((iprop(boundary (SparseCore.T d) ∗ ((SparseCore.T d).loc x ↦{fullShare} f) ∗ ((SparseCore.T d).loc y ↦{fullShare} (fun i => he ▸ shapeCast y.ty.shape f hn i : Buf (Elt F) ((SparseCore.T d).loc y))))
          -∗ wp frame (wpE D 𝒱 (SparseCore.T d) none) Set.univ k Q)
        -∗ wp frame (wpE D 𝒱 (SparseCore.T d) none) Set.univ (hlo hp (StableHlo.reshape x y he hn hx hy) fun _ => k) Q) := by
  let V : Valuation τ sig (Elt F) := Function.update (Function.update (fun b => m (d, b)) (Proc.devRef .tc x) f) (Proc.devRef .tc y) g
  have e1 : V (Proc.devRef .tc x) = f := (Function.update_of_ne hxy _ _).trans (Function.update_self _ _ _)
  have e2 : V (Proc.devRef .tc y) = g := Function.update_self _ _ _
  have h := wp_hlo (defs := D) 𝒱 (SparseCore.T d) none Set.univ (hp := hp) (op := StableHlo.reshape (τ := τ) (Val := Elt F) x y he hn hx hy) (k := fun _ => k) (Q := Q) (q := fun _ => fullShare) (F := V) (Γ := .empty) (fun _ _ => rfl)
  have hb : ∀ U : Valuation τ sig (Elt F), (bigSep (StableHlo.reshape (τ := τ) (Val := Elt F) x y he hn hx hy).bufs (fun b => ((SparseCore.T d : Thread nD τ).1, b) ↦{fullShare} U b) : sProp (MM F))
      = iprop(((SparseCore.T d).loc x ↦{fullShare} U (Proc.devRef .tc x)) ∗ ((SparseCore.T d).loc y ↦{fullShare} U (Proc.devRef .tc y))) := by
    intro U
    show bigSep {Proc.devRef .tc x, Proc.devRef .tc y} _ = _
    rw [SparseCore.bigSep_insert' (by simpa using hxy), bigSep_singleton]
  rw [hb, hb, e1, e2, StableHlo.reshape_result, e1, HloOp.result_of_not_mem _ _ (show Proc.devRef .tc x ∉ ({Proc.devRef .tc y} : Finset (DevRef τ sig)) by simpa using hxy), e1] at h
  exact h

abbrev FIN (d : Dev nD) : sProp (MM F) :=
  iprop((featsLoc d ↦{fullShare} m (featsLoc d)) ∗ (idx4Loc d ↦{fullShare} m (idx4Loc d)) ∗ (resLoc d ↦{fullShare} (resV m d : Buf (Elt F) (resLoc d))))

omit [FloatOps F] in
theorem st0_eq (d : Dev nD) : (bigSep Finset.univ fun c : Fin ((K (F := F)).nCore 0) => (P m).st 0 d c)
    = iprop((tabLoc d ↦{fullShare} (tabV m d : Buf (Elt F) (tabLoc d))) ∗ (idxLoc d ↦{fullShare} (idxV m d : Buf (Elt F) (idxLoc d))) ∗ (outLoc d ↦{fullShare} m (outLoc d))) := by
  rw [callPts_cores]; exact bigSep_cores (F := F) fun c => corePts m d c (m (outLoc d))
omit [FloatOps F] in
theorem dn0_eq (d : Dev nD) : (bigSep Finset.univ fun c : Fin ((K (F := F)).nCore 0) => (P m).dn 0 d c)
    = iprop((tabLoc d ↦{fullShare} (tabV m d : Buf (Elt F) (tabLoc d))) ∗ (idxLoc d ↦{fullShare} (idxV m d : Buf (Elt F) (idxLoc d))) ∗ (outLoc d ↦{fullShare} (rowsV m d : Buf (Elt F) (outLoc d)))) := by
  rw [callPts_cores]; exact bigSep_cores (F := F) fun c => corePts m d c (rowsV m d)

set_option maxHeartbeats 1000000 in
/-- @main on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, Hv0, Hv1, Hv2, Hv3⟩, Hts, -⟩, -⟩
  iapply (wp_reshape m ((K (F := F)).defs (D (F := F))) 𝒱 d main_arg1 main_v0 rfl shapeCasts_S4x8192_S1x32768 _ _ (by decide)) $$ [Hb H1 Hv0]
  · isplitl [Hb]; · iexact Hb
    isplitl [H1]; · iexact H1
    iexact Hv0
  iintro ⟨Hb, H1, Hv0⟩
  rw [wp_ret]; imodintro
  iapply (wp_reshape m ((K (F := F)).defs (D (F := F))) 𝒱 d main_arg0 main_v1 rfl shapeCasts_S2048x256_S2048x2x128 _ _ (by decide)) $$ [Hb H0 Hv1]
  · isplitl [Hb]; · iexact Hb
    isplitl [H0]; · iexact H0
    iexact Hv1
  iintro ⟨Hb, H0, Hv1⟩
  rw [wp_ret]; imodintro
  iapply ((K (F := F)).wp_run (D (F := F)) 𝒱 (EH := EH) (P := P m) κ d 0) $$ [Hst H0 H1 Hv0 Hv1 Hv2 Hv3 Hb Hts]
  isplitr; · iexact Hctx
  isplitl [Hst]; · iexact Hst
  isplitl [Hv0 Hv1 Hv2]
  · rw [st0_eq]
    isplitl [Hv1]; · iexact Hv1
    isplitl [Hv0]; · iexact Hv0
    iexact Hv2
  iintro ⟨Hst, Hdn⟩
  ihave Hdn' := (Entails.of_eq (dn0_eq m d)) $$ Hdn
  icases Hdn' with ⟨-, -, Hv2⟩
  iapply (wp_reshape m ((K (F := F)).defs (D (F := F))) 𝒱 d main_v2 main_v3 rfl shapeCasts_S24576x2x128_S3x8192x256 _ _ (by decide)) $$ [Hb Hv2 Hv3]
  · isplitl [Hb]; · iexact Hb
    isplitl [Hv2]; · iexact Hv2
    iexact Hv3
  iintro ⟨Hb, -, Hv3⟩
  rw [wp_ret]; imodintro; imodintro
  isplitl [Hst]; · iexact Hst
  isplitr [Hb Hts]
  · isplitl [H0]; · iexact H0
    isplitl [H1]; · iexact H1
    iexact Hv3
  isplitl [Hb] <;> iassumption

/-! ## The run -/

def fq (d : Dev nD) (s' : Phys nD τ sig (Elt F)) : Prop :=
  s'.mem.mem (featsLoc d) = m (featsLoc d) ∧ s'.mem.mem (idx4Loc d) = m (idx4Loc d) ∧ s'.mem.mem (resLoc d) = (resV m d : Buf (Elt F) (resLoc d))

set_option maxRecDepth 16384 in
omit [FloatOps F] in
theorem hfin (d : Dev nD) (s' : Phys nD τ sig (Elt F)) : iprop(FIN m d ∗ SI s') ⊢ (⌜fq m d s'⌝ : sProp (MM F)) := by
  iintro ⟨⟨H0, H1, H3⟩, HSI⟩
  ihave H := (persistent_entails_right (SI_pointsTo_agree (st := s') (ℓ := featsLoc d) (I := Finset.univ) (q := fullShare) (f := m (featsLoc d)))) $$ [HSI H0]
  · isplitl [HSI] <;> iassumption
  icases H with ⟨%h0, HSI, -⟩
  ihave H := (persistent_entails_right (SI_pointsTo_agree (st := s') (ℓ := idx4Loc d) (I := Finset.univ) (q := fullShare) (f := m (idx4Loc d)))) $$ [HSI H1]
  · isplitl [HSI] <;> iassumption
  icases H with ⟨%h1, HSI, -⟩
  ihave H := (SI_pointsTo_agree (st := s') (ℓ := resLoc d) (I := Finset.univ) (q := fullShare) (f := (resV m d : Buf (Elt F) (resLoc d)))) $$ [HSI H3]
  · isplitl [HSI] <;> iassumption
  icases H with %h3
  ipureintro
  exact ⟨funext fun i => h0 i (Finset.mem_univ i), funext fun i => h1 i (Finset.mem_univ i), funext fun i => h3 i (Finset.mem_univ i)⟩

def QC : PUnit × MemSt nD τ sig (Elt F) → Prop := fun r =>
  (∀ c : Dev nD, r.2.mem (featsLoc c) = m (featsLoc c) ∧ r.2.mem (idx4Loc c) = m (idx4Loc c) ∧ r.2.mem (resLoc c) = (resV m c : Buf (Elt F) (resLoc c)))
    ∧ r.2.sem = fun _ => 0

/-- The program's run: the arguments unchanged, the result at the gathered rows, every semaphore back at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) Setup.facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Values.lean ====
/-
  The values. Both programs' results are one array of the arguments, for any float values: entry `(a, b, z)` is lane `z` of the
  table's row named by row number `(a, b)` (`picked`). The kernel reaches it through three reshapes, read here by row-major
  positions; the reference through a gather whose row numbers the precondition keeps away from its wrap and its clamp.
-/
module

public import proofs.«01_k».proof.Proof.Launch
public import proofs.«01_k».proof.Proof.Gen.ReferenceIdeal.Run
public import proofs.«01_k».proof.Proof.Gen.Reference
public import proofs.«01_k».proof.Proof.Gen.Pre_in_range

@[expose] public section

noncomputable section

namespace Cert.Proof.Values

open Cert.KernelIdeal Cert.KernelIdeal.Gen Cert.Proof.Setup Cert.Proof.Launch
open Idealize.ShloMosaic Idealize.SL.Sem

abbrev S3x8192 : Shape := Cert.Pre_in_range.S3x8192

/-- Where row number `(a, b)` lies among the four lists, and lane `z` of the table's row `r`. -/
def at4 (a : Fin 3) (b : Fin 8192) : S4x8192.Idx := fun k => match k with
  | 0 => ⟨a.val, lt_trans a.isLt (by decide)⟩
  | 1 => b
def atF (r : Fin 2048) (z : Fin 256) : S2048x256.Idx := fun k => match k with
  | 0 => r
  | 1 => z

/-- The row numbers the programs read name rows of the table. -/
def RowsOK (I : S4x8192.Idx → BitVec 32) : Prop := ∀ a b, (I (at4 a b)).toNat < 2048

/-- The gathered rows: entry `(a, b, z)` is lane `z` of the table's row named by row number `(a, b)`. -/
def picked {α : Type} (A : S2048x256.Idx → α) (I : S4x8192.Idx → BitVec 32) : S3x8192x256.Idx → α := fun x =>
  A (atF ⟨(I (at4 (x 0) (x 1))).toNat % 2048, Nat.mod_lt _ (by decide)⟩ (x 2))

/-! ## The kernel's reshapes -/

theorem rm_tab (y : S2048x2x128.Idx) : (S2048x2x128.rowMajor y).val = ((y 0).val * 2 + (y 1).val) * 128 + (y 2).val := Shape.rowMajor_val_three y
theorem rm_feats (y : S2048x256.Idx) : (S2048x256.rowMajor y).val = (y 0).val * 256 + (y 1).val := Shape.rowMajor_val_two y
theorem rm_flat (y : S1x32768.Idx) : (S1x32768.rowMajor y).val = (y 0).val * 32768 + (y 1).val := Shape.rowMajor_val_two y
theorem rm_idx4 (y : S4x8192.Idx) : (S4x8192.rowMajor y).val = (y 0).val * 8192 + (y 1).val := Shape.rowMajor_val_two y
theorem rm_rows (y : S24576x2x128.Idx) : (S24576x2x128.rowMajor y).val = ((y 0).val * 2 + (y 1).val) * 128 + (y 2).val := Shape.rowMajor_val_three y
theorem rm_res (y : S3x8192x256.Idx) : (S3x8192x256.rowMajor y).val = ((y 0).val * 8192 + (y 1).val) * 256 + (y 2).val := Shape.rowMajor_val_three y

/-- The flat list's entry `8192 a + b` is row number `(a, b)`. -/
theorem flat_apply (I : S4x8192.Idx → BitVec 32) (a : Fin 3) (b : Fin 8192) (j : ℕ) (h : j < 32768) (hj : j = a.val * 8192 + b.val) :
    shapeCast S1x32768 I shapeCasts_S4x8192_S1x32768 (ixI j h) = I (at4 a b) := by
  unfold shapeCast
  refine congrArg I (Shape.reshapeEquiv_eq_of_rowMajor _ ?_)
  rw [rm_idx4, rm_flat]
  show a.val * 8192 + b.val = 0 * 32768 + j
  omega
/-- Half `y` of the table's row `r`, lane `z` of it, is that row's lane `128 y + z`. -/
theorem tab_apply {α : Type} (A : S2048x256.Idx → α) (r : ℕ) (h : r < 2048) (y : Fin 2) (z : Fin 128) (l : Fin 256) (hl : l.val = y.val * 128 + z.val) :
    shapeCast S2048x2x128 A shapeCasts_S2048x256_S2048x2x128 (ixT r h y z) = A (atF ⟨r, h⟩ l) := by
  unfold shapeCast
  refine congrArg A (Shape.reshapeEquiv_eq_of_rowMajor _ ?_)
  rw [rm_feats, rm_tab]
  show r * 256 + l.val = (r * 2 + y.val) * 128 + z.val
  omega

/-- Row `8192 a + b` of the gathered rows, its half `z / 128`, lane `z % 128`. -/
def atR (x : S3x8192x256.Idx) : S24576x2x128.Idx := fun k => match k with
  | 0 => ⟨(x 0).val * 8192 + (x 1).val, by
      have h0 : (x 0).val < 3 := (x 0).isLt
      have h1 : (x 1).val < 8192 := (x 1).isLt
      show _ < 24576
      omega⟩
  | 1 => ⟨(x 2).val / 128, by have h2 : (x 2).val < 256 := (x 2).isLt; show _ < 2; omega⟩
  | 2 => ⟨(x 2).val % 128, Nat.mod_lt _ (by decide)⟩
theorem res_apply {α : Type} (R : S24576x2x128.Idx → α) (x : S3x8192x256.Idx) :
    shapeCast S3x8192x256 R shapeCasts_S24576x2x128_S3x8192x256 x = R (atR x) := by
  unfold shapeCast
  refine congrArg R (Shape.reshapeEquiv_eq_of_rowMajor _ ?_)
  rw [rm_rows, rm_res]
  show (((x 0).val * 8192 + (x 1).val) * 2 + (x 2).val / 128) * 128 + (x 2).val % 128 = _
  omega

variable {F : FTy → Type}

/-- The kernel's result is the gathered rows. -/
theorem resV_eq (m : (ℓ : Loc nD τ sig) → Buf (Elt F) ℓ) (d : Dev nD) :
    resV m d = picked (m (featsLoc d) : S2048x256.Idx → F .f32) (m (idx4Loc d) : S4x8192.Idx → BitVec 32) := by
  funext x
  have h0 : (x 0).val < 3 := (x 0).isLt
  have h1 : (x 1).val < 8192 := (x 1).isLt
  refine (res_apply (rowsV m d) x).trans ?_
  refine (tab_apply (m (featsLoc d) : S2048x256.Idx → F .f32) _ _ (atR x 1) (atR x 2) (x 2) ?_).trans ?_
  · show (x 2).val = (x 2).val / 128 * 128 + (x 2).val % 128
    omega
  unfold picked
  refine congrArg (fun r => (m (featsLoc d) : S2048x256.Idx → F .f32) (atF r (x 2))) (Fin.ext ?_)
  exact congrArg (fun v : BitVec 32 => v.toNat % 2048) (flat_apply (m (idx4Loc d) : S4x8192.Idx → BitVec 32) (x 0) (x 1) _ _ rfl)

/-- The flat list is in range when the row numbers are. -/
theorem inRange_of (m : (ℓ : Loc nD τ sig) → Buf (Elt F) ℓ) (h : ∀ d : Dev nD, RowsOK (m (idx4Loc d) : S4x8192.Idx → BitVec 32)) : PreOK m := by
  intro d j hj
  have e := flat_apply (m (idx4Loc d) : S4x8192.Idx → BitVec 32) ⟨j / 8192, by omega⟩ ⟨j % 8192, by omega⟩ j (by omega)
    (by show j = j / 8192 * 8192 + j % 8192; omega)
  show (shapeCast S1x32768 (m (idx4Loc d) : S4x8192.Idx → BitVec 32) shapeCasts_S4x8192_S1x32768 (ixI j _)).toNat < 2048
  rw [e]; exact h d _ _

/-! ## The precondition -/

/-- A word at least zero and below 2048, both signed, is below 2048. -/
theorem word_lt (v : BitVec 32) (e : IntOp.andi (IntOp.cmpi .sge v 0#32) (IntOp.cmpi .slt v 2048#32) = 1#1) : v.toNat < 2048 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The first three lists, as the host's slice gives them. -/
theorem slice_apply (I : S4x8192.Idx → BitVec 32) (h : S4x8192.Slices ![0, 0] S3x8192) (j : S3x8192.Idx) :
    extractStridedSlice S3x8192 ![0, 0] I h j = I (at4 (j 0) (j 1)) := by
  unfold extractStridedSlice
  refine congrArg I (funext fun k => ?_)
  match k with
  | 0 => exact Fin.ext (Nat.zero_add _)
  | 1 => exact Fin.ext (Nat.zero_add _)

theorem rowsOK_of_pre [FloatOps F] (A : FVec F S2048x256 .f32) (I : IVec S4x8192 32) (h : Cert.Pre_in_range.fn (F := F) A I = fun _ => 1#1) : RowsOK I := by
  intro a b
  have e := congrFun h (fun k => match k with | 0 => a | 1 => b)
  simp only [Pre_in_range.fn, andi, cmpi, broadcastInDim, constantI, slice_apply] at e
  exact word_lt _ e

/-! ## The reference's gather -/

/-- A word below 2048 is not negative: the reference's wrap leaves it. -/
theorem wrap_id (v : BitVec 32) (h : v.toNat < 2048) : Scalar.select (IntOp.cmpi .slt v 0#32) (IntOp.addi v 2048#32) v = v := by
  have : IntOp.cmpi .slt v 0#32 = 0#1 := by
    have hs : v.slt 0#32 = false := by
      rw [BitVec.slt_eq_decide]
      simp only [BitVec.toInt_eq_toNat_cond, BitVec.toNat_ofNat, Nat.reducePow, Nat.reduceMod, decide_eq_false_iff_not]
      omega
    simp only [IntOp.cmpi, hs]; decide
  rw [this]; rfl

/-- The reference's term is the gathered rows, its row numbers in range. -/
theorem gather_eq {α : Type} (A : S2048x256.Idx → α) (I : IVec S4x8192 32) (hI : RowsOK I) (J : IVec Cert.ReferenceIdeal.S3x8192x1 32)
    (hJ : ∀ j : Cert.ReferenceIdeal.S3x8192x1.Idx, J j = I (at4 (j 0) (j 1))) :
    Host.gather Cert.ReferenceIdeal.gather_S2048x256_S3x8192x1_S3x8192x256_2_0_n_n_0_2_1256 A J = picked A I := by
  funext x
  unfold Host.gather picked
  refine congrArg A (funext fun k => ?_)
  match k with
  | 0 =>
    refine Fin.ext ?_
    have hlt := hI (x 0) (x 1)
    show min (J _).toInt.toNat (2048 - 1) + 0 + 0 = (I (at4 (x 0) (x 1))).toNat % 2048
    rw [hJ]
    show min (I (at4 (x 0) (x 1))).toInt.toNat (2048 - 1) + 0 + 0 = _
    rw [BitVec.toInt_eq_toNat_cond]
    omega
  | 1 => exact Fin.ext (show 0 + 0 + (x 2).val = (x 2).val by omega)

/-- The row numbers the reference's gather takes, each with its wrap, are the lists' own. -/
theorem wrapped_eq (I : IVec S4x8192 32) (hI : RowsOK I) (j : Cert.ReferenceIdeal.S3x8192x1.Idx) :
    broadcastInDim Cert.ReferenceIdeal.S3x8192x1 ![0, 1] Cert.ReferenceIdeal.Gen.bcast_S3x8192_S3x8192x1_0_1
      (select (cmpi .slt (extractStridedSlice S3x8192 ![0, 0] I Cert.ReferenceIdeal.Gen.slices_S4x8192_S3x8192_0_0)
          (broadcastInDim S3x8192 ![] Cert.ReferenceIdeal.Gen.bcast_S_S3x8192 (constantI Cert.ReferenceIdeal.S_ 32 0#32)))
        (addi (extractStridedSlice S3x8192 ![0, 0] I Cert.ReferenceIdeal.Gen.slices_S4x8192_S3x8192_0_0)
          (broadcastInDim S3x8192 ![] Cert.ReferenceIdeal.Gen.bcast_S_S3x8192 (constantI Cert.ReferenceIdeal.S_ 32 2048#32)))
        (extractStridedSlice S3x8192 ![0, 0] I Cert.ReferenceIdeal.Gen.slices_S4x8192_S3x8192_0_0)) j = I (at4 (j 0) (j 1)) := by
  unfold broadcastInDim select cmpi addi constantI
  simp only [slice_apply]
  refine (wrap_id _ (hI _ _)).trans ?_
  rfl

/-- The reference's run: its result the gathered rows, its arguments unchanged. -/
theorem reference_run [FloatOps F] (m : (ℓ : Loc Cert.ReferenceIdeal.nD Cert.ReferenceIdeal.τ Cert.ReferenceIdeal.sig) → Buf (Elt F) ℓ)
    (ρ : Dev Cert.ReferenceIdeal.nD → PrngReg)
    (h : ∀ c : Dev Cert.ReferenceIdeal.nD, RowsOK (m ((c.tc : Thread Cert.ReferenceIdeal.nD Cert.ReferenceIdeal.τ).loc Cert.ReferenceIdeal.main_arg1))) :
    θ_run (Cert.ReferenceIdeal.defs (F := F)) (onTc (τ := Cert.ReferenceIdeal.τ) (Cert.ReferenceIdeal.main (F := F))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v7)
            = picked (m ((c.tc : Thread Cert.ReferenceIdeal.nD Cert.ReferenceIdeal.τ).loc Cert.ReferenceIdeal.main_arg0) : S2048x256.Idx → F .f32)
                (m ((c.tc : Thread Cert.ReferenceIdeal.nD Cert.ReferenceIdeal.τ).loc Cert.ReferenceIdeal.main_arg1) : IVec S4x8192 32)
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) := by
  have hv := Cert.ReferenceIdeal.Value.run (F := F) m ρ
  refine (θ_run Cert.ReferenceIdeal.defs _ _).mono (fun r hr c => ⟨?_, (hr c).2⟩) hv
  refine (hr c).1.trans ?_
  exact gather_eq _ _ (h c) _ (wrapped_eq _ (h c))

end Cert.Proof.Values

end
-- ==== Proof.MlpBody.lean ====
module

public import proofs.«01_k».proof.Proof.Gen.MlpIdeal.Frame
public import proofs.«01_k».proof.Proof.Gen.MlpIdeal.Skeleton
public import Idealize.ShloMosaic.Lib.Claim

@[expose] public section

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first block's test within a phase, as the kernel computes it. -/
abbrev firstBlk (i : grid0.Coords) : BitVec 1 := Scalar.cmpi .ne (Scalar.extui (Scalar.cmpi .eq (BitVec.ofNat 32 (i 1).val) 0#32) : BitVec 32) 0#32

/-- The contents `X` with the pieces of `L` laid over them, the last one laid first in the list. -/
def layers {s : Shape} {e : EltTy} (X : s.Idx → Elt F e) (L : List (View.Piece (Elt F) s e)) : s.Idx → Elt F e :=
  L.foldr (fun p acc => p.1.overlay acc p.2) X

theorem read_writes_layers {sig : RefSig} {κ : Kind} {sp : Space} {s : Shape} {e : EltTy} (v : View sig κ sp s e) (f : v.ty.Contents (Elt F)) :
    ∀ L : List (View.Piece (Elt F) s e), v.read (Elt F) (v.writes (Elt F) f L) = layers (v.read (Elt F) f) L
  | [] => rfl
  | p :: L => by
      funext y
      show _ = p.1.overlay (layers (v.read (Elt F) f) L) p.2 y
      by_cases hy : y ∈ p.1.set
      · obtain ⟨x, rfl⟩ := p.1.exists_idx_of_mem hy
        rw [show p.1.idx x = p.1.emb x from rfl, View.read_writes_cons_emb, p.1.overlay_emb]
      · rw [View.read_writes_cons_miss v f p L y hy, p.1.overlay_of_not_mem _ _ hy, read_writes_layers v f L]

/-! ## The rectangles the kernel reads and writes -/

abbrev rG0 : Rect S3x512x256 := Rect.unit ![0, 0, 0] S1x512x256.size inb_S3x512x256_S1x512x256_0_0_0
abbrev rG1 : Rect S3x512x256 := Rect.unit ![1, 0, 0] S1x512x256.size inb_S3x512x256_S1x512x256_1_0_0
abbrev rG2 : Rect S3x512x256 := Rect.unit ![2, 0, 0] S1x512x256.size inb_S3x512x256_S1x512x256_2_0_0
abbrev rC0 : Rect S512x8 := Rect.unit ![0, 0] S512x1.size inb_S512x8_S512x1_0_0
abbrev rC1 : Rect S512x8 := Rect.unit ![0, 1] S512x1.size inb_S512x8_S512x1_0_1
abbrev rC2 : Rect S512x8 := Rect.unit ![0, 2] S512x1.size inb_S512x8_S512x1_0_2
abbrev row0 : Rect S8x512 := Rect.unit ![0, 0] S1x512.size inb_S8x512_S1x512_0_0
abbrev row1 : Rect S8x512 := Rect.unit ![1, 0] S1x512.size inb_S8x512_S1x512_1_0
abbrev rAll : Rect S8x512 := Rect.unit ![0, 0] ![8, 512] inb_S8x512_S8x512_0_0
abbrev fQ : Rect S512x3 := Rect.unit ![0, 0] S512x3.size inb_S512x3_S512x3_0_0
abbrev fO : Rect S512x128 := Rect.unit ![0, 0] S512x128.size inb_S512x128_S512x128_0_0
abbrev fWc : Rect S3x512 := Rect.unit ![0, 0] S3x512.size inb_S3x512_S3x512_0_0
abbrev fWf : Rect S128x512 := Rect.unit ![0, 0] S128x512.size inb_S128x512_S128x512_0_0
abbrev fWi : Rect S256x512 := Rect.unit ![0, 0] S256x512.size inb_S256x512_S256x512_0_0
abbrev fB : Rect S1x512 := Rect.unit ![0, 0] S1x512.size inb_S1x512_S1x512_0_0
abbrev fW1 : Rect S512x512 := Rect.unit ![0, 0] S512x512.size inb_S512x512_S512x512_0_0
abbrev fW2 : Rect S512x256 := Rect.unit ![0, 0] S512x256.size inb_S512x256_S512x256_0_0
abbrev fB2 : Rect S1x256 := Rect.unit ![0, 0] S1x256.size inb_S1x256_S1x256_0_0
abbrev yR1 (i : grid0.Coords) (h : k0_cond1 i = 1#1) : Rect S8192x512 := Rect.unit (k0_off1 i) S512x512.size (k0_off1_inb i h)
abbrev yR2 (i : grid0.Coords) (h : k0_cond3 i = 1#1) : Rect S8192x512 := Rect.unit (k0_off2 i) S512x512.size (k0_off2_inb i h)
abbrev yR3 (i : grid0.Coords) (h : k0_cond5 i = 1#1) : Rect S8192x512 := Rect.unit (k0_off3 i) S512x512.size (k0_off3_inb i h)

/-- The canonical contents of a list of pieces are the pieces over arbitrary contents. -/
theorem canon_eq_layers {s : Shape} {e : EltTy} : ∀ L : List (View.Piece (Elt F) s e), View.canon L = layers (fun _ => Classical.arbitrary _) L
  | [] => rfl
  | p :: L => congrArg (fun X => p.1.overlay X p.2) (canon_eq_layers L)

/-- A piece over the whole buffer is all that is left of it. -/
theorem layers_all (X : Vec F S8x512 .f32) (w : Vec F S8x512 .f32) : layers X [⟨rAll, w⟩] = w := by
  funext y
  have h : rAll.emb y = y := by
    funext a
    apply Fin.ext
    show (![0, 0] : Fin 2 → Nat) a + 1 * (y a).val = (y a).val
    fin_cases a <;> simp
  conv_lhs => rw [← h]
  exact rAll.overlay_emb _ _ y

theorem layers_all' (X : Vec F S8x512 .f32) (w : Vec F S8x512 .f32) (p : View.Piece (Elt F) S8x512 .f32) : layers X [p, ⟨rAll, w⟩] = layers w [p] :=
  congrArg (fun X => p.1.overlay X p.2) (layers_all X w)

theorem layers_all'' (X : Vec F S8x512 .f32) (w : Vec F S8x512 .f32) (p q : View.Piece (Elt F) S8x512 .f32) : layers X [p, q, ⟨rAll, w⟩] = layers w [p, q] :=
  congrArg (fun X => p.1.overlay (q.1.overlay X q.2) p.2) (layers_all X w)

theorem row_disjoint : Disjoint row1.set row0.set := by
  rw [Finset.disjoint_left]
  intro y h1 h0
  obtain ⟨x, rfl⟩ := row1.exists_idx_of_mem h1
  obtain ⟨z, hz⟩ := row0.exists_idx_of_mem h0
  have h := congrArg (fun i : S8x512.Idx => (i 0).val) hz
  have hz0 : (z 0).val < 1 := (z 0).isLt
  have : 0 + 1 * (z 0).val = 1 + 1 * (x 0).val := h
  omega

/-- Of the two rows laid over anything, the first reads as laid, -/
theorem layers_row0 (X : Vec F S8x512 .f32) (a b : Vec F S1x512 .f32) :
    (fun j => layers X [⟨row1, b⟩, ⟨row0, a⟩] (row0.idx j)) = a := by
  funext j
  refine (row1.overlay_of_not_mem (row0.overlay X a) b (Finset.disjoint_right.1 row_disjoint (row0.idx_mem j))).trans ?_
  exact row0.overlay_emb _ a j

/-- and so does the second. -/
theorem layers_row1 (X : Vec F S8x512 .f32) (a b : Vec F S1x512 .f32) :
    (fun j => layers X [⟨row1, b⟩, ⟨row0, a⟩] (row1.idx j)) = b := by
  funext j
  exact row1.overlay_emb _ b j

theorem read_row0_all (X z : Vec F S8x512 .f32) : (fun j => layers X [⟨rAll, z⟩] (row0.idx j)) = View.ld z row0 := by
  rw [layers_all]

theorem read_row1_all (X z : Vec F S8x512 .f32) (a : Vec F S1x512 .f32) :
    (fun j => layers X [⟨row0, a⟩, ⟨rAll, z⟩] (row1.idx j)) = View.ld z row1 := by
  rw [layers_all']
  funext j
  exact row0.overlay_of_not_mem _ _ (Finset.disjoint_left.1 row_disjoint (row1.idx_mem j))

/-! ## What the body computes -/

def part41 (x2 : Vec F S3x512x256 .f32) (x3 : Vec F S512x8 .f32) (x5 : Vec F S512x128 .f32) (x7 : Vec F S128x512 .f32) (x8 : Vec F S256x512 .f32) : FVec F S512x512 .f32 :=
  k0_pay9 (View.ld x3 rC0) (View.ld x2 rG0) (View.ld x3 rC1) (View.ld x2 rG1) (View.ld x3 rC2) (View.ld x2 rG2) (View.ld x8 fWi) (View.ld x5 fO) (View.ld x7 fWf)

/-- The first normalisation's scale row from the two running rows, -/
def scA (s1 : Vec F S8x512 .f32) (x14 : Vec F S1x512 .f32) : FVec F S1x512 .f32 := k0_pay16 (View.ld s1 row0) (View.ld s1 row1) (View.ld x14 fB)
/-- its shift row, -/
def shA (s1 : Vec F S8x512 .f32) (x14 x15 : Vec F S1x512 .f32) : FVec F S1x512 .f32 := k0_pay17 (View.ld s1 row0) (View.ld s1 row1) (View.ld x14 fB) (View.ld x15 fB)
/-- the second's scale -/
def scB (s2 : Vec F S8x512 .f32) (x16 : Vec F S1x512 .f32) : FVec F S1x512 .f32 := k0_pay5 (View.ld s2 row0) (View.ld s2 row1) (View.ld x16 fB)
/-- and its shift. -/
def shB (s2 : Vec F S8x512 .f32) (x16 x17 : Vec F S1x512 .f32) : FVec F S1x512 .f32 := k0_pay6 (View.ld s2 row0) (View.ld s2 row1) (View.ld x16 fB) (View.ld x17 fB)

/-- The rows of the first layer for one block, -/
def yA (x2 : Vec F S3x512x256 .f32) (x3 : Vec F S512x8 .f32) (x4 : Vec F S512x3 .f32) (x5 : Vec F S512x128 .f32) (x6 : Vec F S3x512 .f32) (x7 : Vec F S128x512 .f32) (x8 : Vec F S256x512 .f32) (x9 : Vec F S1x512 .f32) : FVec F S512x512 .f32 :=
  k0_pay11 (part41 x2 x3 x5 x7 x8) (View.ld x4 fQ) (View.ld x6 fWc) (View.ld x9 fB)
/-- their column sums added to `r`, -/
def sumA (x2 : Vec F S3x512x256 .f32) (x3 : Vec F S512x8 .f32) (x4 : Vec F S512x3 .f32) (x5 : Vec F S512x128 .f32) (x6 : Vec F S3x512 .f32) (x7 : Vec F S128x512 .f32) (x8 : Vec F S256x512 .f32) (x9 : Vec F S1x512 .f32) (r : Vec F S1x512 .f32) : FVec F S1x512 .f32 :=
  k0_pay12 (part41 x2 x3 x5 x7 x8) (View.ld x4 fQ) (View.ld x6 fWc) (View.ld x9 fB) r
/-- and the column sums of their squares added to `r`. -/
def sqA (x2 : Vec F S3x512x256 .f32) (x3 : Vec F S512x8 .f32) (x4 : Vec F S512x3 .f32) (x5 : Vec F S512x128 .f32) (x6 : Vec F S3x512 .f32) (x7 : Vec F S128x512 .f32) (x8 : Vec F S256x512 .f32) (x9 : Vec F S1x512 .f32) (r : Vec F S1x512 .f32) : FVec F S1x512 .f32 :=
  k0_pay1 (k0_pay13 (part41 x2 x3 x5 x7 x8) (View.ld x4 fQ) (View.ld x6 fWc) (View.ld x9 fB) r)
/-- The two running rows of the first layer after a block. -/
def stA (x2 : Vec F S3x512x256 .f32) (x3 : Vec F S512x8 .f32) (x4 : Vec F S512x3 .f32) (x5 : Vec F S512x128 .f32) (x6 : Vec F S3x512 .f32) (x7 : Vec F S128x512 .f32) (x8 : Vec F S256x512 .f32) (x9 : Vec F S1x512 .f32) (s : Vec F S8x512 .f32) : Vec F S8x512 .f32 :=
  layers s [⟨row1, sqA x2 x3 x4 x5 x6 x7 x8 x9 (View.ld s row1)⟩,
    ⟨row0, sumA x2 x3 x4 x5 x6 x7 x8 x9 (View.ld s row0)⟩]

/-- The rows of the second layer for one block, from the first layer's rows `y`, the scale and the shift. -/
def yB (y : Vec F S512x512 .f32) (sc sh : Vec F S1x512 .f32) (x10 : Vec F S512x512 .f32) (x11 : Vec F S1x512 .f32) : FVec F S512x512 .f32 :=
  k0_pay20 y sc sh (View.ld x10 fW1) (View.ld x11 fB)
def sumB (y : Vec F S512x512 .f32) (sc sh : Vec F S1x512 .f32) (x10 : Vec F S512x512 .f32) (x11 : Vec F S1x512 .f32) (r : Vec F S1x512 .f32) : FVec F S1x512 .f32 :=
  k0_pay21 y sc sh (View.ld x10 fW1) (View.ld x11 fB) r
def sqB (y : Vec F S512x512 .f32) (sc sh : Vec F S1x512 .f32) (x10 : Vec F S512x512 .f32) (x11 : Vec F S1x512 .f32) (r : Vec F S1x512 .f32) : FVec F S1x512 .f32 :=
  k0_pay2 r (k0_pay22 y sc sh (View.ld x10 fW1) (View.ld x11 fB))
def stB (y : Vec F S512x512 .f32) (sc sh : Vec F S1x512 .f32) (x10 : Vec F S512x512 .f32) (x11 : Vec F S1x512 .f32) (s : Vec F S8x512 .f32) : Vec F S8x512 .f32 :=
  layers s [⟨row1, sqB y sc sh x10 x11 (View.ld s row1)⟩,
    ⟨row0, sumB y sc sh x10 x11 (View.ld s row0)⟩]
/-- The first normalisation's scale and shift rows, -/
def ssA (s1 s : Vec F S8x512 .f32) (x14 x15 : Vec F S1x512 .f32) : Vec F S8x512 .f32 :=
  layers s [⟨row1, shA s1 x14 x15⟩,
    ⟨row0, scA s1 x14⟩]
/-- the second's. -/
def ssB (s2 s : Vec F S8x512 .f32) (x16 x17 : Vec F S1x512 .f32) : Vec F S8x512 .f32 :=
  layers s [⟨row1, shB s2 x16 x17⟩,
    ⟨row0, scB s2 x16⟩]
/-- The rows of the last layer for one block. -/
def outC (y : Vec F S512x512 .f32) (sc sh : Vec F S1x512 .f32) (x12 : Vec F S512x256 .f32) (x13 : Vec F S1x256 .f32) : Vec F S512x256 .f32 :=
  k0_pay7 y sc sh (View.ld x12 fW2) (View.ld x13 fB2)

section triples

variable (arg2 : Memref sig .tc .vmem S3x512x256 .f32) (harg2 : arg2.IsWhole) (arg3 : Memref sig .tc .vmem S512x8 .f32) (harg3 : arg3.IsWhole) (arg4 : Memref sig .tc .vmem S512x3 .f32) (harg4 : arg4.IsWhole) (arg5 : Memref sig .tc .vmem S512x128 .f32) (harg5 : arg5.IsWhole) (arg6 : Memref sig .tc .vmem S3x512 .f32) (harg6 : arg6.IsWhole) (arg7 : Memref sig .tc .vmem S128x512 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S512x256 .f32) (harg12 : arg12.IsWhole) (arg13 : Memref sig .tc .vmem S1x256 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S512x256 .f32) (harg18 : arg18.IsWhole) (arg19 : Memref sig .tc .vmem S8192x512 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x512 .f32) (harg23 : arg23.IsWhole)

set_option maxHeartbeats 2000000 in
/-- The first phase's body at a later block. -/
theorem phaseA_later (c : Dev nD) (E : Set ℕ) (i : grid0.Coords) (h1 : k0_cond1 i = 1#1) (h3 : ¬ k0_cond3 i = 1#1) (h5 : ¬ k0_cond5 i = 1#1) (hi : ¬ firstBlk i = 1#1)
    (x2 : Vec F S3x512x256 .f32) (x3 : Vec F S512x8 .f32) (x4 : Vec F S512x3 .f32) (x5 : Vec F S512x128 .f32) (x6 : Vec F S3x512 .f32) (x7 : Vec F S128x512 .f32) (x8 : Vec F S256x512 .f32) (x9 : Vec F S1x512 .f32) (x19 : Vec F S8192x512 .f32) (x20 : Vec F S8x512 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg19 fullShare x19 ∗ owns (c : Thread nD τ) arg20 fullShare x20
        ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg19 fullShare (layers x19 [⟨yR1 i h1, yA x2 x3 x4 x5 x6 x7 x8 x9⟩]) ∗ owns (c : Thread nD τ) arg20 fullShare (stA x2 x3 x4 x5 x6 x7 x8 x9 x20)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__mlp_kernel_eq_skeleton]; unfold cc0__mlp_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f19, %hf19, H19⟩, ⟨%f20, %hf20, H20⟩, Hk⟩
  subst hf2 hf3 hf4 hf5 hf6 hf7 hf8 hf9 hf19 hf20
  unfold k0_part1_skel k0_part2_skel
  sl_exec (disch := first | sl_exact h1 | sl_exact h3 | sl_exact h5 | sl_exact hi)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H19]
  · iexists _; isplitr
    swap; · iexact H19
    ipureintro
    refine (read_writes_layers _ _ _).trans ?_
    sl_unfold_run_names
    simp only [View.readAt_eq_ld, read_writes_layers, View.readCov_eq_canon', canon_eq_layers, layers_row0, layers_row1, read_row0_all, read_row1_all]
    try refine (layers_all'' _ _ _ _).trans ?_
    rfl
  iexists _; isplitr
  swap; · iexact H20
  ipureintro
  refine (read_writes_layers _ _ _).trans ?_
  sl_unfold_run_names
  simp only [View.readAt_eq_ld, read_writes_layers, View.readCov_eq_canon', canon_eq_layers, layers_row0, layers_row1, read_row0_all, read_row1_all]
  try refine (layers_all'' _ _ _ _).trans ?_
  rfl

set_option maxHeartbeats 2000000 in
/-- The first phase's body at its first block. -/
theorem phaseA_first (c : Dev nD) (E : Set ℕ) (i : grid0.Coords) (h1 : k0_cond1 i = 1#1) (h3 : ¬ k0_cond3 i = 1#1) (h5 : ¬ k0_cond5 i = 1#1) (hi : firstBlk i = 1#1)
    (x2 : Vec F S3x512x256 .f32) (x3 : Vec F S512x8 .f32) (x4 : Vec F S512x3 .f32) (x5 : Vec F S512x128 .f32) (x6 : Vec F S3x512 .f32) (x7 : Vec F S128x512 .f32) (x8 : Vec F S256x512 .f32) (x9 : Vec F S1x512 .f32) (x19 : Vec F S8192x512 .f32) (x20 : Vec F S8x512 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg19 fullShare x19 ∗ owns (c : Thread nD τ) arg20 fullShare x20
        ∗ ((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg19 fullShare (layers x19 [⟨yR1 i h1, yA x2 x3 x4 x5 x6 x7 x8 x9⟩]) ∗ owns (c : Thread nD τ) arg20 fullShare (stA x2 x3 x4 x5 x6 x7 x8 x9 (k0_pay8 (F := F)))) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__mlp_kernel_eq_skeleton]; unfold cc0__mlp_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f19, %hf19, H19⟩, ⟨%f20, %hf20, H20⟩, Hk⟩
  subst hf2 hf3 hf4 hf5 hf6 hf7 hf8 hf9 hf19 hf20
  unfold k0_part1_skel k0_part2_skel
  sl_exec (disch := first | sl_exact h1 | sl_exact h3 | sl_exact h5 | sl_exact hi)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H19]
  · iexists _; isplitr
    swap; · iexact H19
    ipureintro
    refine (read_writes_layers _ _ _).trans ?_
    sl_unfold_run_names
    simp only [View.readAt_eq_ld, read_writes_layers, View.readCov_eq_canon', canon_eq_layers, layers_row0, layers_row1, read_row0_all, read_row1_all]
    try refine (layers_all'' _ _ _ _).trans ?_
    rfl
  iexists _; isplitr
  swap; · iexact H20
  ipureintro
  refine (read_writes_layers _ _ _).trans ?_
  sl_unfold_run_names
  simp only [View.readAt_eq_ld, read_writes_layers, View.readCov_eq_canon', canon_eq_layers, layers_row0, layers_row1, read_row0_all, read_row1_all]
  try refine (layers_all'' _ _ _ _).trans ?_
  rfl

set_option maxHeartbeats 2000000 in
/-- The second phase's body at a later block. -/
theorem phaseB_later (c : Dev nD) (E : Set ℕ) (i : grid0.Coords) (h1 : ¬ k0_cond1 i = 1#1) (h3 : k0_cond3 i = 1#1) (h5 : ¬ k0_cond5 i = 1#1) (hi : ¬ firstBlk i = 1#1)
    (x10 : Vec F S512x512 .f32) (x11 : Vec F S1x512 .f32) (x19 : Vec F S8192x512 .f32) (x21 : Vec F S8x512 .f32) (x22 : Vec F S8x512 .f32) (K : PUnit → sProp 𝕄) :
    iprop(owns (c : Thread nD τ) arg10 fullShare x10 ∗ owns (c : Thread nD τ) arg11 fullShare x11 ∗ owns (c : Thread nD τ) arg19 fullShare x19 ∗ owns (c : Thread nD τ) arg21 fullShare x21 ∗ owns (c : Thread nD τ) arg22 fullShare x22
        ∗ ((owns (c : Thread nD τ) arg10 fullShare x10 ∗ owns (c : Thread nD τ) arg11 fullShare x11 ∗ owns (c : Thread nD τ) arg19 fullShare (layers x19 [⟨yR2 i h3, yB (View.ld x19 (yR2 i h3)) (View.ld x22 row0) (View.ld x22 row1) x10 x11⟩]) ∗ owns (c : Thread nD τ) arg21 fullShare (stB (View.ld x19 (yR2 i h3)) (View.ld x22 row0) (View.ld x22 row1) x10 x11 x21) ∗ owns (c : Thread nD τ) arg22 fullShare x22) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__mlp_kernel_eq_skeleton]; unfold cc0__mlp_kernel_skel
  simp only [k0_part1_eq_skeleton, k0_part2_eq_skeleton, k0_part3_eq_skeleton]
  unfold owns
  iintro ⟨⟨%f10, %hf10, H10⟩, ⟨%f11, %hf11, H11⟩, ⟨%f19, %hf19, H19⟩, ⟨%f21, %hf21, H21⟩, ⟨%f22, %hf22, H22⟩, Hk⟩
  subst hf10 hf11 hf19 hf21 hf22
  unfold k0_part3_skel
  sl_exec (disch := first | sl_exact h1 | sl_exact h3 | sl_exact h5 | sl_exact hi)
  sl_step
  iapply Hk
  isplitl [H10]
  · iexists f10; isplitr; · ipureintro; rfl
    iexact H10
  isplitl [H11]
  · iexists f11; isplitr; · ipureintro; rfl
    iexact H11
  isplitl [H19]
  · iexists _; isplitr
    swap; · iexact H19
    ipureintro
    refine (read_writes_layers _ _ _).trans ?_
    sl_unfold_run_names
    simp only [View.readAt_eq_ld, read_writes_layers, View.readCov_eq_canon', canon_eq_layers, layers_row0, layers_row1, read_row0_all, read_row1_all]
    try refine (layers_all'' _ _ _ _).trans ?_
    rfl
  isplitl [H21]
  · iexists _; isplitr
    swap; · iexact H21
    ipureintro
    refine (read_writes_layers _ _ _).trans ?_
    sl_unfold_run_names
    simp only [View.readAt_eq_ld, read_writes_layers, View.readCov_eq_canon', canon_eq_layers, layers_row0, layers_row1, read_row0_all, read_row1_all]
    try refine (layers_all'' _ _ _ _).trans ?_
    rfl
  iexists f22; isplitr; · ipureintro; rfl
  iexact H22

set_option maxHeartbeats 2000000 in
/-- The second phase's body at its first block. -/
theorem phaseB_first (c : Dev nD) (E : Set ℕ) (i : grid0.Coords) (h1 : ¬ k0_cond1 i = 1#1) (h3 : k0_cond3 i = 1#1) (h5 : ¬ k0_cond5 i = 1#1) (hi : firstBlk i = 1#1)
    (x10 : Vec F S512x512 .f32) (x11 : Vec F S1x512 .f32) (x14 : Vec F S1x512 .f32) (x15 : Vec F S1x512 .f32) (x19 : Vec F S8192x512 .f32) (x20 : Vec F S8x512 .f32) (x21 : Vec F S8x512 .f32) (x22 : Vec F S8x512 .f32) (K : PUnit → sProp 𝕄) :
    iprop(owns (c : Thread nD τ) arg10 fullShare x10 ∗ owns (c : Thread nD τ) arg11 fullShare x11 ∗ owns (c : Thread nD τ) arg14 fullShare x14 ∗ owns (c : Thread nD τ) arg15 fullShare x15 ∗ owns (c : Thread nD τ) arg19 fullShare x19 ∗ owns (c : Thread nD τ) arg20 fullShare x20 ∗ owns (c : Thread nD τ) arg21 fullShare x21 ∗ owns (c : Thread nD τ) arg22 fullShare x22
        ∗ ((owns (c : Thread nD τ) arg10 fullShare x10 ∗ owns (c : Thread nD τ) arg11 fullShare x11 ∗ owns (c : Thread nD τ) arg14 fullShare x14 ∗ owns (c : Thread nD τ) arg15 fullShare x15 ∗ owns (c : Thread nD τ) arg19 fullShare (layers x19 [⟨yR2 i h3, yB (View.ld x19 (yR2 i h3)) (scA x20 x14) (shA x20 x14 x15) x10 x11⟩]) ∗ owns (c : Thread nD τ) arg20 fullShare x20 ∗ owns (c : Thread nD τ) arg21 fullShare (stB (View.ld x19 (yR2 i h3)) (scA x20 x14) (shA x20 x14 x15) x10 x11 (k0_pay18 (F := F))) ∗ owns (c : Thread nD τ) arg22 fullShare (ssA x20 x22 x14 x15)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__mlp_kernel_eq_skeleton]; unfold cc0__mlp_kernel_skel
  simp only [k0_part1_eq_skeleton, k0_part2_eq_skeleton, k0_part3_eq_skeleton]
  unfold owns
  iintro ⟨⟨%f10, %hf10, H10⟩, ⟨%f11, %hf11, H11⟩, ⟨%f14, %hf14, H14⟩, ⟨%f15, %hf15, H15⟩, ⟨%f19, %hf19, H19⟩, ⟨%f20, %hf20, H20⟩, ⟨%f21, %hf21, H21⟩, ⟨%f22, %hf22, H22⟩, Hk⟩
  subst hf10 hf11 hf14 hf15 hf19 hf20 hf21 hf22
  unfold k0_part3_skel
  sl_exec (disch := first | sl_exact h1 | sl_exact h3 | sl_exact h5 | sl_exact hi)
  sl_step
  iapply Hk
  isplitl [H10]
  · iexists f10; isplitr; · ipureintro; rfl
    iexact H10
  isplitl [H11]
  · iexists f11; isplitr; · ipureintro; rfl
    iexact H11
  isplitl [H14]
  · iexists f14; isplitr; · ipureintro; rfl
    iexact H14
  isplitl [H15]
  · iexists f15; isplitr; · ipureintro; rfl
    iexact H15
  isplitl [H19]
  · iexists _; isplitr
    swap; · iexact H19
    ipureintro
    refine (read_writes_layers _ _ _).trans ?_
    sl_unfold_run_names
    simp only [View.readAt_eq_ld, read_writes_layers, View.readCov_eq_canon', canon_eq_layers, layers_row0, layers_row1, read_row0_all, read_row1_all]
    try refine (layers_all'' _ _ _ _).trans ?_
    rfl
  isplitl [H20]
  · iexists f20; isplitr; · ipureintro; rfl
    iexact H20
  isplitl [H21]
  · iexists _; isplitr
    swap; · iexact H21
    ipureintro
    refine (read_writes_layers _ _ _).trans ?_
    sl_unfold_run_names
    simp only [View.readAt_eq_ld, read_writes_layers, View.readCov_eq_canon', canon_eq_layers, layers_row0, layers_row1, read_row0_all, read_row1_all]
    try refine (layers_all'' _ _ _ _).trans ?_
    rfl
  iexists _; isplitr
  swap; · iexact H22
  ipureintro
  refine (read_writes_layers _ _ _).trans ?_
  sl_unfold_run_names
  simp only [View.readAt_eq_ld, read_writes_layers, View.readCov_eq_canon', canon_eq_layers, layers_row0, layers_row1, read_row0_all, read_row1_all]
  try refine (layers_all'' _ _ _ _).trans ?_
  rfl

set_option maxHeartbeats 2000000 in
/-- The last phase's body at a later block. -/
theorem phaseC_later (c : Dev nD) (E : Set ℕ) (i : grid0.Coords) (h1 : ¬ k0_cond1 i = 1#1) (h3 : ¬ k0_cond3 i = 1#1) (h5 : k0_cond5 i = 1#1) (hi : ¬ firstBlk i = 1#1)
    (x12 : Vec F S512x256 .f32) (x13 : Vec F S1x256 .f32) (x18 : Vec F S512x256 .f32) (x19 : Vec F S8192x512 .f32) (x23 : Vec F S8x512 .f32) (K : PUnit → sProp 𝕄) :
    iprop(owns (c : Thread nD τ) arg12 fullShare x12 ∗ owns (c : Thread nD τ) arg13 fullShare x13 ∗ owns (c : Thread nD τ) arg18 fullShare x18 ∗ owns (c : Thread nD τ) arg19 fullShare x19 ∗ owns (c : Thread nD τ) arg23 fullShare x23
        ∗ ((owns (c : Thread nD τ) arg12 fullShare x12 ∗ owns (c : Thread nD τ) arg13 fullShare x13 ∗ owns (c : Thread nD τ) arg18 fullShare (layers x18 [⟨fW2, outC (View.ld x19 (yR3 i h5)) (View.ld x23 row0) (View.ld x23 row1) x12 x13⟩]) ∗ owns (c : Thread nD τ) arg19 fullShare x19 ∗ owns (c : Thread nD τ) arg23 fullShare x23) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__mlp_kernel_eq_skeleton]; unfold cc0__mlp_kernel_skel
  simp only [k0_part1_eq_skeleton, k0_part2_eq_skeleton, k0_part3_eq_skeleton]
  unfold owns
  iintro ⟨⟨%f12, %hf12, H12⟩, ⟨%f13, %hf13, H13⟩, ⟨%f18, %hf18, H18⟩, ⟨%f19, %hf19, H19⟩, ⟨%f23, %hf23, H23⟩, Hk⟩
  subst hf12 hf13 hf18 hf19 hf23
  sl_exec (disch := first | sl_exact h1 | sl_exact h3 | sl_exact h5 | sl_exact hi)
  sl_step
  iapply Hk
  isplitl [H12]
  · iexists f12; isplitr; · ipureintro; rfl
    iexact H12
  isplitl [H13]
  · iexists f13; isplitr; · ipureintro; rfl
    iexact H13
  isplitl [H18]
  · iexists _; isplitr
    swap; · iexact H18
    ipureintro
    refine (read_writes_layers _ _ _).trans ?_
    sl_unfold_run_names
    simp only [View.readAt_eq_ld, read_writes_layers, View.readCov_eq_canon', canon_eq_layers, layers_row0, layers_row1, read_row0_all, read_row1_all]
    try refine (layers_all'' _ _ _ _).trans ?_
    rfl
  isplitl [H19]
  · iexists f19; isplitr; · ipureintro; rfl
    iexact H19
  iexists f23; isplitr; · ipureintro; rfl
  iexact H23

set_option maxHeartbeats 2000000 in
/-- The last phase's body at its first block. -/
theorem phaseC_first (c : Dev nD) (E : Set ℕ) (i : grid0.Coords) (h1 : ¬ k0_cond1 i = 1#1) (h3 : ¬ k0_cond3 i = 1#1) (h5 : k0_cond5 i = 1#1) (hi : firstBlk i = 1#1)
    (x12 : Vec F S512x256 .f32) (x13 : Vec F S1x256 .f32) (x16 : Vec F S1x512 .f32) (x17 : Vec F S1x512 .f32) (x18 : Vec F S512x256 .f32) (x19 : Vec F S8192x512 .f32) (x21 : Vec F S8x512 .f32) (x23 : Vec F S8x512 .f32) (K : PUnit → sProp 𝕄) :
    iprop(owns (c : Thread nD τ) arg12 fullShare x12 ∗ owns (c : Thread nD τ) arg13 fullShare x13 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg21 fullShare x21 ∗ owns (c : Thread nD τ) arg23 fullShare x23
        ∗ ((owns (c : Thread nD τ) arg12 fullShare x12 ∗ owns (c : Thread nD τ) arg13 fullShare x13 ∗ owns (c : Thread nD τ) arg16 fullShare x16 ∗ owns (c : Thread nD τ) arg17 fullShare x17 ∗ owns (c : Thread nD τ) arg18 fullShare (layers x18 [⟨fW2, outC (View.ld x19 (yR3 i h5)) (scB x21 x16) (shB x21 x16 x17) x12 x13⟩]) ∗ owns (c : Thread nD τ) arg19 fullShare x19 ∗ owns (c : Thread nD τ) arg21 fullShare x21 ∗ owns (c : Thread nD τ) arg23 fullShare (ssB x21 x23 x16 x17)) -∗ K ⟨⟩))
      ⊢ wp frame (wpE (defs₀ (F := F)) Variants.none c none) E (cc0__mlp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__mlp_kernel_eq_skeleton]; unfold cc0__mlp_kernel_skel
  simp only [k0_part1_eq_skeleton, k0_part2_eq_skeleton, k0_part3_eq_skeleton]
  unfold owns
  iintro ⟨⟨%f12, %hf12, H12⟩, ⟨%f13, %hf13, H13⟩, ⟨%f16, %hf16, H16⟩, ⟨%f17, %hf17, H17⟩, ⟨%f18, %hf18, H18⟩, ⟨%f19, %hf19, H19⟩, ⟨%f21, %hf21, H21⟩, ⟨%f23, %hf23, H23⟩, Hk⟩
  subst hf12 hf13 hf16 hf17 hf18 hf19 hf21 hf23
  sl_exec (disch := first | sl_exact h1 | sl_exact h3 | sl_exact h5 | sl_exact hi)
  sl_step
  iapply Hk
  isplitl [H12]
  · iexists f12; isplitr; · ipureintro; rfl
    iexact H12
  isplitl [H13]
  · iexists f13; isplitr; · ipureintro; rfl
    iexact H13
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (read_writes_layers _ _ _).trans ?_
    sl_unfold_run_names
    simp only [View.readAt_eq_ld, read_writes_layers, View.readCov_eq_canon', canon_eq_layers, layers_row0, layers_row1, read_row0_all, read_row1_all]
    try refine (layers_all'' _ _ _ _).trans ?_
    rfl
  isplitl [H19]
  · iexists f19; isplitr; · ipureintro; rfl
    iexact H19
  isplitl [H21]
  · iexists f21; isplitr; · ipureintro; rfl
    iexact H21
  iexists _; isplitr
  swap; · iexact H23
  ipureintro
  refine (read_writes_layers _ _ _).trans ?_
  sl_unfold_run_names
  simp only [View.readAt_eq_ld, read_writes_layers, View.readCov_eq_canon', canon_eq_layers, layers_row0, layers_row1, read_row0_all, read_row1_all]
  try refine (layers_all'' _ _ _ _).trans ?_
  rfl

end triples

end Cert.Proof.Mlp

end
-- ==== Proof.MlpState.lean ====
module

public import proofs.«01_k».proof.Proof.MlpBody

@[expose] public section

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-! ## The branches and the rectangles at a point -/

theorem cond1_iff : ∀ t : Fin grid0.N, k0_cond1 (grid0.coords t) = 1#1 ↔ t.val < 16 := by decide
theorem cond3_iff : ∀ t : Fin grid0.N, k0_cond3 (grid0.coords t) = 1#1 ↔ 16 ≤ t.val ∧ t.val < 32 := by decide
theorem cond5_iff : ∀ t : Fin grid0.N, k0_cond5 (grid0.coords t) = 1#1 ↔ 32 ≤ t.val := by decide
theorem firstBlk_iff : ∀ t : Fin grid0.N, firstBlk (grid0.coords t) = 1#1 ↔ t.val % 16 = 0 := by decide
theorem off1_eq : ∀ t : Fin grid0.N, k0_off1 (grid0.coords t) 0 = 512 * (t.val % 16) := by decide
theorem off2_eq : ∀ t : Fin grid0.N, k0_off2 (grid0.coords t) 0 = 512 * (t.val % 16) := by decide
theorem off3_eq : ∀ t : Fin grid0.N, k0_off3 (grid0.coords t) 0 = 512 * (t.val % 16) := by decide
theorem flush16_early : ∀ t : Fin grid0.N, t.val < 32 → win0_16.flush t = false := by decide

variable {F : FTy → Type} [FloatOps F]

/-- The `j`-th block of 512 rows of the buffer that carries the layers' rows. -/
abbrev blk (j : ℕ) (hj : j < 16) : Rect S8192x512 := Rect.unit ![512 * j, 0] ![512, 512] (by
  intro a
  fin_cases a
  · show 512 * j + 512 ≤ 8192; omega
  · show 0 + 512 ≤ 512; omega)

theorem ld_yR2 (t : Fin grid0.N) (h) (j : ℕ) (hj : j < 16) (e : t.val % 16 = j) (X : Vec F S8192x512 .f32) :
    View.ld X (yR2 (grid0.coords t) h) = View.ld X (blk j hj) := by
  funext x
  show X _ = X _
  congr 1
  funext a
  apply Fin.ext
  show k0_off2 (grid0.coords t) a + 1 * (x a).val = (![512 * j, 0] : Fin 2 → ℕ) a + 1 * (x a).val
  congr 1
  fin_cases a
  · exact (off2_eq t).trans (by rw [e]; rfl)
  · rfl

theorem ld_yR3 (t : Fin grid0.N) (h) (j : ℕ) (hj : j < 16) (e : t.val % 16 = j) (X : Vec F S8192x512 .f32) :
    View.ld X (yR3 (grid0.coords t) h) = View.ld X (blk j hj) := by
  funext x
  show X _ = X _
  congr 1
  funext a
  apply Fin.ext
  show k0_off3 (grid0.coords t) a + 1 * (x a).val = (![512 * j, 0] : Fin 2 → ℕ) a + 1 * (x a).val
  congr 1
  fin_cases a
  · exact (off3_eq t).trans (by rw [e]; rfl)
  · rfl

/-- A block laid over the buffer reads back as laid, -/
theorem ld_layer_same (off : Fin 2 → ℕ) (inb : ∀ a, off a + (![512, 512] : Fin 2 → ℕ) a ≤ S8192x512.size a) (j : ℕ) (hj : j < 16)
    (h0 : off 0 = 512 * j) (h1 : off 1 = 0) (X : Vec F S8192x512 .f32) (v : Vec F S512x512 .f32) :
    View.ld (layers X [⟨Rect.unit off ![512, 512] inb, v⟩]) (blk j hj) = v := by
  funext x
  refine ((congrArg (fun i => (Rect.unit (s := S8192x512) off ![512, 512] inb).overlay X v i) ?_).trans
    ((Rect.unit (s := S8192x512) off ![512, 512] inb).overlay_emb X v x) : (Rect.unit (s := S8192x512) off ![512, 512] inb).overlay X v ((blk j hj).idx x) = v x)
  funext a
  apply Fin.ext
  show (![512 * j, 0] : Fin 2 → ℕ) a + 1 * (x a).val = off a + 1 * (x a).val
  congr 1
  fin_cases a
  · exact h0.symm
  · exact h1.symm

/-- and leaves every other block as it was. -/
theorem ld_layer_other (off : Fin 2 → ℕ) (inb : ∀ a, off a + (![512, 512] : Fin 2 → ℕ) a ≤ S8192x512.size a) (i j : ℕ) (hj : j < 16)
    (h0 : off 0 = 512 * i) (hne : j ≠ i) (X : Vec F S8192x512 .f32) (v : Vec F S512x512 .f32) :
    View.ld (layers X [⟨Rect.unit off ![512, 512] inb, v⟩]) (blk j hj) = View.ld X (blk j hj) := by
  funext x
  refine Rect.overlay_of_not_mem _ _ _ ?_
  intro hm
  obtain ⟨z, hz⟩ := (Rect.unit (s := S8192x512) off ![512, 512] inb).exists_idx_of_mem hm
  have h : off 0 + 1 * (z 0).val = 512 * j + 1 * (x 0).val := congrArg (fun i : S8192x512.Idx => (i 0).val) hz
  have hx : (x 0).val < 512 := (x 0).isLt
  have hz0 : (z 0).val < 512 := (z 0).isLt
  omega

/-- The last layer's block fills the output's buffer. -/
theorem layers_out (X w : Vec F S512x256 .f32) : layers X [⟨fW2, w⟩] = w := by
  funext y
  have h : fW2.emb y = y := by
    funext a
    apply Fin.ext
    show (![0, 0] : Fin 2 → Nat) a + 1 * (y a).val = (y a).val
    fin_cases a <;> simp
  conv_lhs => rw [← h]
  exact fW2.overlay_emb _ _ y

/-! ## What the scratch buffers hold, point by point -/

section state

variable (m : (ℓ : Loc nD τ sig) → Buf (Elt F) ℓ) (c : Dev nD)

/-- Point `n` of the grid. -/
def pt (n : ℕ) : Fin cfg0.N := ⟨n % 48, by have : cfg0.N = 48 := N_0; omega⟩

theorem pt_val (n : ℕ) (h : n < 48) : (pt n).val = n := Nat.mod_eq_of_lt h

theorem pt_eq (t : Fin cfg0.N) : pt t.val = t := Fin.ext (Nat.mod_eq_of_lt (lt_of_lt_of_eq t.isLt N_0))

/-- Block `j` of the first layer's rows. -/
def Y0 (j : ℕ) : FVec F S512x512 .f32 :=
  yA (iblk m c 0 (pt j)) (iblk m c 1 (pt j)) (iblk m c 2 (pt j)) (iblk m c 3 (pt j)) (iblk m c 4 (pt j)) (iblk m c 5 (pt j)) (iblk m c 6 (pt j)) (iblk m c 7 (pt j))

/-- The first layer's running rows after `n` blocks. -/
def S1 : ℕ → Vec F S8x512 .f32
  | 0 => k0_pay8 (F := F)
  | n + 1 => stA (iblk m c 0 (pt n)) (iblk m c 1 (pt n)) (iblk m c 2 (pt n)) (iblk m c 3 (pt n)) (iblk m c 4 (pt n)) (iblk m c 5 (pt n)) (iblk m c 6 (pt n)) (iblk m c 7 (pt n)) (S1 n)

def Sc1 : FVec F S1x512 .f32 := scA (S1 m c 16) (iblk m c 12 (pt 16))
def Sh1 : FVec F S1x512 .f32 := shA (S1 m c 16) (iblk m c 12 (pt 16)) (iblk m c 13 (pt 16))

/-- Block `j` of the second layer's rows. -/
def Y1 (j : ℕ) : FVec F S512x512 .f32 := yB (Y0 m c j) (Sc1 m c) (Sh1 m c) (iblk m c 8 (pt (16 + j))) (iblk m c 9 (pt (16 + j)))

/-- The second layer's running rows after `n` blocks. -/
def S2 : ℕ → Vec F S8x512 .f32
  | 0 => k0_pay18 (F := F)
  | n + 1 => stB (Y0 m c n) (Sc1 m c) (Sh1 m c) (iblk m c 8 (pt (16 + n))) (iblk m c 9 (pt (16 + n))) (S2 n)

def Sc2 : FVec F S1x512 .f32 := scB (S2 m c 16) (iblk m c 14 (pt 32))
def Sh2 : FVec F S1x512 .f32 := shB (S2 m c 16) (iblk m c 14 (pt 32)) (iblk m c 15 (pt 32))

/-- Block `j` of the last layer's rows. -/
def Out (j : ℕ) : Vec F S512x256 .f32 := outC (Y1 m c j) (Sc2 m c) (Sh2 m c) (iblk m c 10 (pt (32 + j))) (iblk m c 11 (pt (32 + j)))

/-- What is known of the scratch buffers before point `t`. -/
structure Inv (t : ℕ) (y : Vec F S8192x512 .f32) (s1 s2 a1 a2 : Vec F S8x512 .f32) : Prop where
  hY0 : ∀ j (hj : j < 16), j < t → t ≤ 16 + j → View.ld y (blk j hj) = Y0 m c j
  hY1 : ∀ j (hj : j < 16), 16 + j < t → View.ld y (blk j hj) = Y1 m c j
  hS1 : 0 < t → t ≤ 16 → s1 = S1 m c t
  hA1 : 16 < t → View.ld a1 row0 = Sc1 m c ∧ View.ld a1 row1 = Sh1 m c
  hS2 : 16 < t → t ≤ 32 → s2 = S2 m c (t - 16)
  hA2 : 32 < t → View.ld a2 row0 = Sc2 m c ∧ View.ld a2 row1 = Sh2 m c

variable {m c} {y : Vec F S8192x512 .f32} {s1 s2 a1 a2 : Vec F S8x512 .f32}

theorem inv_zero : Inv m c 0 y s1 s2 a1 a2 where
  hY0 _ _ h _ := absurd h (by omega)
  hY1 _ _ h := absurd h (by omega)
  hS1 h _ := absurd h (by omega)
  hA1 h := absurd h (by omega)
  hS2 h _ := absurd h (by omega)
  hA2 h := absurd h (by omega)

/-- A point of the first phase. -/
theorem inv_stepA (t : Fin cfg0.N) (ht : t.val < 16) (h1 : k0_cond1 (grid0.coords t) = 1#1) (h : Inv m c t.val y s1 s2 a1 a2)
    (s : Vec F S8x512 .f32) (hs : s = S1 m c t.val) :
    Inv m c (t.val + 1) (layers y [⟨yR1 (grid0.coords t) h1, yA (iblk m c 0 t) (iblk m c 1 t) (iblk m c 2 t) (iblk m c 3 t) (iblk m c 4 t) (iblk m c 5 t) (iblk m c 6 t) (iblk m c 7 t)⟩])
      (stA (iblk m c 0 t) (iblk m c 1 t) (iblk m c 2 t) (iblk m c 3 t) (iblk m c 4 t) (iblk m c 5 t) (iblk m c 6 t) (iblk m c 7 t) s) s2 a1 a2 where
  hY0 j hj h1' h2' := by
    have ho : k0_off1 (grid0.coords t) 0 = 512 * t.val := (off1_eq t).trans (by rw [Nat.mod_eq_of_lt ht])
    by_cases e : j = t.val
    · subst e
      refine (ld_layer_same _ _ t.val hj ho rfl _ _).trans ?_
      unfold Y0; rw [pt_eq]
    · exact (ld_layer_other _ _ t.val j hj ho e _ _).trans (h.hY0 j hj (by omega) (by omega))
  hY1 j hj h' := absurd h' (by omega)
  hS1 _ _ := by
    rw [hs]
    show _ = stA _ _ _ _ _ _ _ _ _
    rw [pt_eq]
  hA1 h' := absurd h' (by omega)
  hS2 h' _ := absurd h' (by omega)
  hA2 h' := absurd h' (by omega)

/-- A point of the second phase. -/
theorem inv_stepB (t : Fin cfg0.N) (ht : 16 ≤ t.val) (ht' : t.val < 32) (h3 : k0_cond3 (grid0.coords t) = 1#1) (h : Inv m c t.val y s1 s2 a1 a2)
    (s a sn : Vec F S8x512 .f32) (sc sh : FVec F S1x512 .f32) (hs : s = S2 m c (t.val - 16)) (hsc : sc = Sc1 m c) (hsh : sh = Sh1 m c)
    (ha : View.ld a row0 = Sc1 m c ∧ View.ld a row1 = Sh1 m c) :
    Inv m c (t.val + 1) (layers y [⟨yR2 (grid0.coords t) h3, yB (View.ld y (yR2 (grid0.coords t) h3)) sc sh (iblk m c 8 t) (iblk m c 9 t)⟩])
      sn (stB (View.ld y (yR2 (grid0.coords t) h3)) sc sh (iblk m c 8 t) (iblk m c 9 t) s) a a2 := by
  have e16 : t.val % 16 = t.val - 16 := by omega
  have hj0 : t.val - 16 < 16 := by omega
  have ept : pt (16 + (t.val - 16)) = t := by rw [show 16 + (t.val - 16) = t.val by omega, pt_eq]
  have hy : View.ld y (yR2 (grid0.coords t) h3) = Y0 m c (t.val - 16) :=
    (ld_yR2 t h3 (t.val - 16) hj0 e16 y).trans (h.hY0 _ _ (by omega) (by omega))
  have ho : k0_off2 (grid0.coords t) 0 = 512 * (t.val - 16) := (off2_eq t).trans (by rw [e16])
  rw [hy, hsc, hsh, hs]
  refine ⟨?_, ?_, ?_, fun _ => ha, ?_, ?_⟩
  · intro j hj h1' h2'
    exact (ld_layer_other _ _ (t.val - 16) j hj ho (by omega) _ _).trans (h.hY0 j hj (by omega) (by omega))
  · intro j hj h'
    by_cases e : j = t.val - 16
    · subst e
      refine (ld_layer_same _ _ (t.val - 16) hj ho rfl _ _).trans ?_
      unfold Y1; rw [ept]
    · exact (ld_layer_other _ _ (t.val - 16) j hj ho e _ _).trans (h.hY1 j hj (by omega))
  · intro _ h'; exact absurd h' (by omega)
  · intro _ _
    rw [show t.val + 1 - 16 = (t.val - 16) + 1 by omega]
    show _ = stB _ _ _ _ _ _
    rw [ept]
  · intro h'; exact absurd h' (by omega)

/-- A point of the last phase: the block it writes, -/
theorem out_at (t : Fin cfg0.N) (ht : 32 ≤ t.val) (h5 : k0_cond5 (grid0.coords t) = 1#1) (h : Inv m c t.val y s1 s2 a1 a2)
    (sc sh : FVec F S1x512 .f32) (hsc : sc = Sc2 m c) (hsh : sh = Sh2 m c) :
    outC (View.ld y (yR3 (grid0.coords t) h5)) sc sh (iblk m c 10 t) (iblk m c 11 t) = Out m c (t.val % 16) := by
  have h48 : t.val < 48 := lt_of_lt_of_eq t.isLt N_0
  have e16 : t.val % 16 = t.val - 32 := by omega
  have hj0 : t.val - 32 < 16 := by omega
  have ept : pt (32 + (t.val - 32)) = t := by rw [show 32 + (t.val - 32) = t.val by omega, pt_eq]
  rw [hsc, hsh, (ld_yR3 t h5 (t.val - 32) hj0 e16 y).trans (h.hY1 _ _ (by omega)), e16]
  unfold Out
  rw [ept]

/-- and what is known after it. -/
theorem inv_stepC (t : Fin cfg0.N) (ht : 32 ≤ t.val) (h : Inv m c t.val y s1 s2 a1 a2) (sn a : Vec F S8x512 .f32)
    (ha : View.ld a row0 = Sc2 m c ∧ View.ld a row1 = Sh2 m c) : Inv m c (t.val + 1) y s1 sn a1 a where
  hY0 j hj h1' h2' := absurd h2' (by omega)
  hY1 j hj h' := h.hY1 j hj (by omega)
  hS1 _ h' := absurd h' (by omega)
  hA1 h' := h.hA1 (by omega)
  hS2 h' h'' := absurd h'' (by omega)
  hA2 h' := ha

end state

end Cert.Proof.Mlp

end
-- ==== Proof.MlpRun.lean ====
module

public import proofs.«01_k».proof.Proof.MlpState

@[expose] public section

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first normalisation's rows as laid. -/
theorem ssA_rows (s1 s : Vec F S8x512 .f32) (x14 x15 : Vec F S1x512 .f32) :
    View.ld (ssA s1 s x14 x15) row0 = scA s1 x14 ∧ View.ld (ssA s1 s x14 x15) row1 = shA s1 x14 x15 :=
  ⟨layers_row0 _ _ _, layers_row1 _ _ _⟩

/-- The second normalisation's rows as laid. -/
theorem ssB_rows (s2 s : Vec F S8x512 .f32) (x16 x17 : Vec F S1x512 .f32) :
    View.ld (ssB s2 s x16 x17) row0 = scB s2 x16 ∧ View.ld (ssB s2 s x16 x17) row1 = shB s2 x16 x17 :=
  ⟨layers_row0 _ _ _, layers_row1 _ _ _⟩

/-! ## The pipeline's proof data -/

/-- The scratch buffers before point `t`. -/
def scr (c : Dev nD) (t : ℕ) : sProp 𝕄 :=
  iprop(∃ (y : Vec F S8192x512 .f32) (s1 s2 a1 a2 : Vec F S8x512 .f32), ⌜Inv m c t y s1 s2 a1 a2⌝
    ∗ owns (c : Thread nD τ) (Memref.whole cc0_scratch0) fullShare y ∗ owns (c : Thread nD τ) (Memref.whole cc0_scratch1) fullShare s1
    ∗ owns (c : Thread nD τ) (Memref.whole cc0_scratch2) fullShare s2 ∗ owns (c : Thread nD τ) (Memref.whole cc0_scratch3) fullShare a1
    ∗ owns (c : Thread nD τ) (Memref.whole cc0_scratch4) fullShare a2)

/-- The proof data of the pipeline on core `c`: each input's buffer is left at its block, the output's at its block of the
    last layer's rows, and the scratch buffers are followed point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => Out m c (t.val % 16)
    | ⟨n + 17, h⟩ => absurd (show n + 17 < 17 from h) (by omega)
  Φ t := iprop(scr m c t.val ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = Out m c (t.val % 16) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation -/

/-- What the output's buffer holds after the body at point `t`: before the last phase what it held. -/
def post16 (c : Dev nD) (t : Fin cfg0.N) : sProp 𝕄 :=
  match cfg0.idle 16 (cfg0.grid.coords t) with
  | true =>
    match (cfg0.win 16).flush t with
    | false => iprop(∃ d, owns (c : Thread nD τ) (st0_16 t) fullShare ((dats m 0 c).before 16 t d))
    | true => owns (c : Thread nD τ) (st0_16 t) fullShare ((dats m 0 c).after 16 t)
  | false => owns (c : Thread nD τ) (st0_16 t) fullShare ((dats m 0 c).after 16 t)

theorem post16_early (c : Dev nD) (t : Fin cfg0.N) (ht : t.val < 32) :
    post16 m c t = iprop(∃ d, owns (c : Thread nD τ) (st0_16 t) fullShare ((dats m 0 c).before 16 t d)) := by
  have hi : cfg0.idle 16 (cfg0.grid.coords t) = true := by
    show (!(k0_cond5 (grid0.coords t) == 1#1)) = true
    have h5 : k0_cond5 (grid0.coords t) ≠ 1#1 := fun h => by have := (cond5_iff t).1 h; omega
    simp [h5]
  have hf : (cfg0.win 16).flush t = false := flush16_early t ht
  unfold post16; rw [hi, hf]

theorem post16_late (c : Dev nD) (t : Fin cfg0.N) (ht : 32 ≤ t.val) :
    post16 m c t = owns (c : Thread nD τ) (st0_16 t) fullShare ((dats m 0 c).after 16 t) := by
  have hi : cfg0.idle 16 (cfg0.grid.coords t) = false := by
    show (!(k0_cond5 (grid0.coords t) == 1#1)) = false
    have h5 : k0_cond5 (grid0.coords t) = 1#1 := (cond5_iff t).2 ht
    simp [h5]
  unfold post16; rw [hi]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ post16 m c t)

set_option maxHeartbeats 1000000 in
/-- A later point of the first phase. -/
theorem bodyA_later (c : Dev nD) (t : Fin cfg0.N) (ht : t.val < 16) (hf : ¬ t.val % 16 = 0) :
    bodyPre m c t ⊢ wp frame (wpE (defs₀ (F := F)) Variants.none c none) Set.univ (bodyAt0 t) (fun _ => bodyPost m c t) := by
  have h1 : k0_cond1 (grid0.coords t) = 1#1 := (cond1_iff t).2 ht
  have h3 : ¬ k0_cond3 (grid0.coords t) = 1#1 := fun h => by have := (cond3_iff t).1 h; omega
  have h5 : ¬ k0_cond5 (grid0.coords t) = 1#1 := fun h => by have := (cond5_iff t).1 h; omega
  have hi : ¬ firstBlk (grid0.coords t) = 1#1 := fun h => hf ((firstBlk_iff t).1 h)
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = iprop(scr m c (t.val + 1) ∗ ∃ r, prngReg c r) from rfl, show (dats m 0 c).Φ t.castSucc = iprop(scr m c t.val ∗ ∃ r, prngReg c r) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, post16_early m c t (by omega)]
  unfold scr
  iintro ⟨⟨⟨%y, %s1, %s2, %a1, %a2, %hI, Hy, Hs1, Hs2, Ha1, Ha2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (phaseA_later _ _ _ _ _ _ _ _ _ _ _ _ _ _ _ _ _ _ _ _ _ _ _ _ _ _ _ _ _ _ _ _ _ _ _ _ _ _ _ _ _ _ _ _ c Set.univ (grid0.coords t) h1 h3 h5 hi (iblk m c 0 t) (iblk m c 1 t) (iblk m c 2 t) (iblk m c 3 t) (iblk m c 4 t) (iblk m c 5 t) (iblk m c 6 t) (iblk m c 7 t) y s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hy]; · iexact Hy
  isplitl [Hs1]; · iexact Hs1
  iintro ⟨H0, H1, H2, H3, H4, H5, H6, H7, Hy, Hs1⟩
  isplitl [Hy Hs1 Hs2 Ha1 Ha2 Hr]
  · isplitl [Hy Hs1 Hs2 Ha1 Ha2]
    · iexists _, _, _, _, _; isplitr
      swap
      · isplitl [Hy]; · iexact Hy
        isplitl [Hs1]; · iexact Hs1
        isplitl [Hs2]; · iexact Hs2
        isplitl [Ha1]; · iexact Ha1
        iexact Ha2
      ipureintro
      exact inv_stepA t ht h1 hI s1 (hI.hS1 (by omega) (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists d16; iexact H16

set_option maxHeartbeats 1000000 in
/-- The first point of the first phase. -/
theorem bodyA_first (c : Dev nD) (t : Fin cfg0.N) (ht : t.val < 16) (hf : t.val % 16 = 0) :
    bodyPre m c t ⊢ wp frame (wpE (defs₀ (F := F)) Variants.none c none) Set.univ (bodyAt0 t) (fun _ => bodyPost m c t) := by
  have h1 : k0_cond1 (grid0.coords t) = 1#1 := (cond1_iff t).2 ht
  have h3 : ¬ k0_cond3 (grid0.coords t) = 1#1 := fun h => by have := (cond3_iff t).1 h; omega
  have h5 : ¬ k0_cond5 (grid0.coords t) = 1#1 := fun h => by have := (cond5_iff t).1 h; omega
  have hi : firstBlk (grid0.coords t) = 1#1 := (firstBlk_iff t).2 hf
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = iprop(scr m c (t.val + 1) ∗ ∃ r, prngReg c r) from rfl, show (dats m 0 c).Φ t.castSucc = iprop(scr m c t.val ∗ ∃ r, prngReg c r) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, post16_early m c t (by omega)]
  unfold scr
  iintro ⟨⟨⟨%y, %s1, %s2, %a1, %a2, %hI, Hy, Hs1, Hs2, Ha1, Ha2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (phaseA_first _ _ _ _ _ _ _ _ _ _ _ _ _ _ _ _ _ _ _ _ _ _ _ _ _ _ _ _ _ _ _ _ _ _ _ _ _ _ _ _ _ _ _ _ c Set.univ (grid0.coords t) h1 h3 h5 hi (iblk m c 0 t) (iblk m c 1 t) (iblk m c 2 t) (iblk m c 3 t) (iblk m c 4 t) (iblk m c 5 t) (iblk m c 6 t) (iblk m c 7 t) y s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hy]; · iexact Hy
  isplitl [Hs1]; · iexact Hs1
  iintro ⟨H0, H1, H2, H3, H4, H5, H6, H7, Hy, Hs1⟩
  isplitl [Hy Hs1 Hs2 Ha1 Ha2 Hr]
  · isplitl [Hy Hs1 Hs2 Ha1 Ha2]
    · iexists _, _, _, _, _; isplitr
      swap
      · isplitl [Hy]; · iexact Hy
        isplitl [Hs1]; · iexact Hs1
        isplitl [Hs2]; · iexact Hs2
        isplitl [Ha1]; · iexact Ha1
        iexact Ha2
      ipureintro
      exact inv_stepA t ht h1 hI _ (by rw [show t.val = 0 by omega]; rfl)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists d16; iexact H16

set_option maxHeartbeats 1000000 in
/-- A later point of the second phase. -/
theorem bodyB_later (c : Dev nD) (t : Fin cfg0.N) (ht : 16 ≤ t.val) (ht2 : t.val < 32) (hf : ¬ t.val % 16 = 0) :
    bodyPre m c t ⊢ wp frame (wpE (defs₀ (F := F)) Variants.none c none) Set.univ (bodyAt0 t) (fun _ => bodyPost m c t) := by
  have h1 : ¬ k0_cond1 (grid0.coords t) = 1#1 := fun h => by have := (cond1_iff t).1 h; omega
  have h3 : k0_cond3 (grid0.coords t) = 1#1 := (cond3_iff t).2 ⟨ht, ht2⟩
  have h5 : ¬ k0_cond5 (grid0.coords t) = 1#1 := fun h => by have := (cond5_iff t).1 h; omega
  have hi : ¬ firstBlk (grid0.coords t) = 1#1 := fun h => hf ((firstBlk_iff t).1 h)
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = iprop(scr m c (t.val + 1) ∗ ∃ r, prngReg c r) from rfl, show (dats m 0 c).Φ t.castSucc = iprop(scr m c t.val ∗ ∃ r, prngReg c r) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, post16_early m c t (by omega)]
  unfold scr
  iintro ⟨⟨⟨%y, %s1, %s2, %a1, %a2, %hI, Hy, Hs1, Hs2, Ha1, Ha2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (phaseB_later _ _ _ _ _ _ _ _ _ _ _ _ _ _ _ _ _ _ _ _ _ _ _ _ _ _ _ _ _ _ _ _ _ _ _ _ _ _ _ _ _ _ _ _ c Set.univ (grid0.coords t) h1 h3 h5 hi (iblk m c 8 t) (iblk m c 9 t) y s2 a1 _)
  isplitl [H8]; · iexact H8
  isplitl [H9]; · iexact H9
  isplitl [Hy]; · iexact Hy
  isplitl [Hs2]; · iexact Hs2
  isplitl [Ha1]; · iexact Ha1
  iintro ⟨H8, H9, Hy, Hs2, Ha1⟩
  isplitl [Hy Hs1 Hs2 Ha1 Ha2 Hr]
  · isplitl [Hy Hs1 Hs2 Ha1 Ha2]
    · iexists _, _, _, _, _; isplitr
      swap
      · isplitl [Hy]; · iexact Hy
        isplitl [Hs1]; · iexact Hs1
        isplitl [Hs2]; · iexact Hs2
        isplitl [Ha1]; · iexact Ha1
        iexact Ha2
      ipureintro
      exact inv_stepB t ht ht2 h3 hI s2 a1 s1 _ _ (hI.hS2 (by omega) (by omega)) (hI.hA1 (by omega)).1 (hI.hA1 (by omega)).2 (hI.hA1 (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists d16; iexact H16

set_option maxHeartbeats 1000000 in
/-- The first point of the second phase. -/
theorem bodyB_first (c : Dev nD) (t : Fin cfg0.N) (ht : 16 ≤ t.val) (ht2 : t.val < 32) (hf : t.val % 16 = 0) :
    bodyPre m c t ⊢ wp frame (wpE (defs₀ (F := F)) Variants.none c none) Set.univ (bodyAt0 t) (fun _ => bodyPost m c t) := by
  have h1 : ¬ k0_cond1 (grid0.coords t) = 1#1 := fun h => by have := (cond1_iff t).1 h; omega
  have h3 : k0_cond3 (grid0.coords t) = 1#1 := (cond3_iff t).2 ⟨ht, ht2⟩
  have h5 : ¬ k0_cond5 (grid0.coords t) = 1#1 := fun h => by have := (cond5_iff t).1 h; omega
  have hi : firstBlk (grid0.coords t) = 1#1 := (firstBlk_iff t).2 hf
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = iprop(scr m c (t.val + 1) ∗ ∃ r, prngReg c r) from rfl, show (dats m 0 c).Φ t.castSucc = iprop(scr m c t.val ∗ ∃ r, prngReg c r) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, post16_early m c t (by omega)]
  unfold scr
  iintro ⟨⟨⟨%y, %s1, %s2, %a1, %a2, %hI, Hy, Hs1, Hs2, Ha1, Ha2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (phaseB_first _ _ _ _ _ _ _ _ _ _ _ _ _ _ _ _ _ _ _ _ _ _ _ _ _ _ _ _ _ _ _ _ _ _ _ _ _ _ _ _ _ _ _ _ c Set.univ (grid0.coords t) h1 h3 h5 hi (iblk m c 8 t) (iblk m c 9 t) (iblk m c 12 t) (iblk m c 13 t) y s1 s2 a1 _)
  isplitl [H8]; · iexact H8
  isplitl [H9]; · iexact H9
  isplitl [H12]; · iexact H12
  isplitl [H13]; · iexact H13
  isplitl [Hy]; · iexact Hy
  isplitl [Hs1]; · iexact Hs1
  isplitl [Hs2]; · iexact Hs2
  isplitl [Ha1]; · iexact Ha1
  iintro ⟨H8, H9, H12, H13, Hy, Hs1, Hs2, Ha1⟩
  isplitl [Hy Hs1 Hs2 Ha1 Ha2 Hr]
  · isplitl [Hy Hs1 Hs2 Ha1 Ha2]
    · iexists _, _, _, _, _; isplitr
      swap
      · isplitl [Hy]; · iexact Hy
        isplitl [Hs1]; · iexact Hs1
        isplitl [Hs2]; · iexact Hs2
        isplitl [Ha1]; · iexact Ha1
        iexact Ha2
      ipureintro
      have h16 : t.val = 16 := by omega
      have hp : pt 16 = t := by rw [← h16, pt_eq]
      have hs1 : s1 = S1 m c 16 := h16 ▸ hI.hS1 (by omega) (by omega)
      have hsc : scA s1 (iblk m c 12 t) = Sc1 m c := by rw [hs1]; unfold Sc1; rw [hp]
      have hsh : shA s1 (iblk m c 12 t) (iblk m c 13 t) = Sh1 m c := by rw [hs1]; unfold Sh1; rw [hp]
      exact inv_stepB t ht ht2 h3 hI _ _ s1 _ _ (by rw [h16]; rfl) hsc hsh
        ⟨(ssA_rows _ _ _ _).1.trans hsc, (ssA_rows _ _ _ _).2.trans hsh⟩
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists d16; iexact H16

set_option maxHeartbeats 1000000 in
/-- A later point of the last phase. -/
theorem bodyC_later (c : Dev nD) (t : Fin cfg0.N) (ht : 32 ≤ t.val) (hf : ¬ t.val % 16 = 0) :
    bodyPre m c t ⊢ wp frame (wpE (defs₀ (F := F)) Variants.none c none) Set.univ (bodyAt0 t) (fun _ => bodyPost m c t) := by
  have h1 : ¬ k0_cond1 (grid0.coords t) = 1#1 := fun h => by have := (cond1_iff t).1 h; omega
  have h3 : ¬ k0_cond3 (grid0.coords t) = 1#1 := fun h => by have := (cond3_iff t).1 h; omega
  have h5 : k0_cond5 (grid0.coords t) = 1#1 := (cond5_iff t).2 ht
  have hi : ¬ firstBlk (grid0.coords t) = 1#1 := fun h => hf ((firstBlk_iff t).1 h)
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = iprop(scr m c (t.val + 1) ∗ ∃ r, prngReg c r) from rfl, show (dats m 0 c).Φ t.castSucc = iprop(scr m c t.val ∗ ∃ r, prngReg c r) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, post16_late m c t ht, after0_16]
  unfold scr
  iintro ⟨⟨⟨%y, %s1, %s2, %a1, %a2, %hI, Hy, Hs1, Hs2, Ha1, Ha2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hout := out_at t ht h5 hI _ _ (hI.hA2 (by omega)).1 (hI.hA2 (by omega)).2
  iapply (phaseC_later _ _ _ _ _ _ _ _ _ _ _ _ _ _ _ _ _ _ _ _ _ _ _ _ _ _ _ _ _ _ _ _ _ _ _ _ _ _ _ _ _ _ _ _ c Set.univ (grid0.coords t) h1 h3 h5 hi (iblk m c 10 t) (iblk m c 11 t) ((dats m 0 c).before 16 t d16) y a2 _)
  isplitl [H10]; · iexact H10
  isplitl [H11]; · iexact H11
  isplitl [H16]; · iexact H16
  isplitl [Hy]; · iexact Hy
  isplitl [Ha2]; · iexact Ha2
  iintro ⟨H10, H11, H16, Hy, Ha2⟩
  isplitl [Hy Hs1 Hs2 Ha1 Ha2 Hr]
  · isplitl [Hy Hs1 Hs2 Ha1 Ha2]
    · iexists _, _, _, _, _; isplitr
      swap
      · isplitl [Hy]; · iexact Hy
        isplitl [Hs1]; · iexact Hs1
        isplitl [Hs2]; · iexact Hs2
        isplitl [Ha1]; · iexact Ha1
        iexact Ha2
      ipureintro
      exact inv_stepC t ht hI s2 a2 (hI.hA2 (by omega))
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  rw [layers_out, hout]; iexact H16

set_option maxHeartbeats 1000000 in
/-- The first point of the last phase. -/
theorem bodyC_first (c : Dev nD) (t : Fin cfg0.N) (ht : 32 ≤ t.val) (hf : t.val % 16 = 0) :
    bodyPre m c t ⊢ wp frame (wpE (defs₀ (F := F)) Variants.none c none) Set.univ (bodyAt0 t) (fun _ => bodyPost m c t) := by
  have h1 : ¬ k0_cond1 (grid0.coords t) = 1#1 := fun h => by have := (cond1_iff t).1 h; omega
  have h3 : ¬ k0_cond3 (grid0.coords t) = 1#1 := fun h => by have := (cond3_iff t).1 h; omega
  have h5 : k0_cond5 (grid0.coords t) = 1#1 := (cond5_iff t).2 ht
  have hi : firstBlk (grid0.coords t) = 1#1 := (firstBlk_iff t).2 hf
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = iprop(scr m c (t.val + 1) ∗ ∃ r, prngReg c r) from rfl, show (dats m 0 c).Φ t.castSucc = iprop(scr m c t.val ∗ ∃ r, prngReg c r) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, post16_late m c t ht, after0_16]
  unfold scr
  iintro ⟨⟨⟨%y, %s1, %s2, %a1, %a2, %hI, Hy, Hs1, Hs2, Ha1, Ha2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have h32 : t.val = 32 := by have := lt_of_lt_of_eq t.isLt N_0; omega
  have hp : pt 32 = t := by rw [← h32, pt_eq]
  have hs2 : s2 = S2 m c 16 := by have := hI.hS2 (by omega) (by omega); rwa [h32] at this
  have hsc : scB s2 (iblk m c 14 t) = Sc2 m c := by rw [hs2]; unfold Sc2; rw [hp]
  have hsh : shB s2 (iblk m c 14 t) (iblk m c 15 t) = Sh2 m c := by rw [hs2]; unfold Sh2; rw [hp]
  have hout := out_at t ht h5 hI _ _ hsc hsh
  iapply (phaseC_first _ _ _ _ _ _ _ _ _ _ _ _ _ _ _ _ _ _ _ _ _ _ _ _ _ _ _ _ _ _ _ _ _ _ _ _ _ _ _ _ _ _ _ _ c Set.univ (grid0.coords t) h1 h3 h5 hi (iblk m c 10 t) (iblk m c 11 t) (iblk m c 14 t) (iblk m c 15 t) ((dats m 0 c).before 16 t d16) y s2 a2 _)
  isplitl [H10]; · iexact H10
  isplitl [H11]; · iexact H11
  isplitl [H14]; · iexact H14
  isplitl [H15]; · iexact H15
  isplitl [H16]; · iexact H16
  isplitl [Hy]; · iexact Hy
  isplitl [Hs2]; · iexact Hs2
  isplitl [Ha2]; · iexact Ha2
  iintro ⟨H10, H11, H14, H15, H16, Hy, Hs2, Ha2⟩
  isplitl [Hy Hs1 Hs2 Ha1 Ha2 Hr]
  · isplitl [Hy Hs1 Hs2 Ha1 Ha2]
    · iexists _, _, _, _, _; isplitr
      swap
      · isplitl [Hy]; · iexact Hy
        isplitl [Hs1]; · iexact Hs1
        isplitl [Hs2]; · iexact Hs2
        isplitl [Ha1]; · iexact Ha1
        iexact Ha2
      ipureintro
      exact inv_stepC t ht hI s2 _ ⟨(ssB_rows _ _ _ _).1.trans hsc, (ssB_rows _ _ _ _).2.trans hsh⟩
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  rw [layers_out, hout]; iexact H16

theorem sound_body (c : Dev nD) (t : Fin cfg0.N) :
    bodyPre m c t ⊢ wp frame (wpE (defs₀ (F := F)) Variants.none c none) Set.univ (bodyAt0 t) (fun _ => bodyPost m c t) := by
  by_cases hA : t.val < 16
  · by_cases hf : t.val % 16 = 0
    · exact bodyA_first m c t hA hf
    · exact bodyA_later m c t hA hf
  · by_cases hB : t.val < 32
    · by_cases hf : t.val % 16 = 0
      · exact bodyB_first m c t (by omega) hB hf
      · exact bodyB_later m c t (by omega) hB hf
    · by_cases hf : t.val % 16 = 0
      · exact bodyC_first m c t (by omega) hf
      · exact bodyC_later m c t (by omega) hf

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- At the start the scratch buffers hold anything; -/
theorem scr_in (c : Dev nD) : Pipeline.ΦA spec0 c ⊢ (dats m 0 c).Φ 0 := by
  show Pipeline.ΦA spec0 c ⊢ iprop(scr m c 0 ∗ ∃ r, prngReg c r)
  unfold Pipeline.ΦA scr
  rw [scopedRest0_eq]
  simp only [owns_whole]
  iintro ⟨⟨⟨%f0, H0⟩, ⟨%f1, H1⟩, ⟨%f2, H2⟩, ⟨%f3, H3⟩, ⟨%f4, H4⟩⟩, Hr⟩
  isplitr [Hr]
  · iexists f0, f1, f2, f3, f4; isplitr
    · ipureintro; exact inv_zero
    isplitl [H0]; · iexact H0
    isplitl [H1]; · iexact H1
    isplitl [H2]; · iexact H2
    isplitl [H3]; · iexact H3
    iexact H4
  iexact Hr

/-- at the end what they hold is forgotten. -/
theorem scr_out (c : Dev nD) : (dats m 0 c).Φ (Fin.last cfg0.N) ⊢ Pipeline.ΦA spec0 c := by
  show iprop(scr m c cfg0.N ∗ ∃ r, prngReg c r) ⊢ Pipeline.ΦA spec0 c
  unfold Pipeline.ΦA scr
  rw [scopedRest0_eq]
  simp only [owns_whole]
  iintro ⟨⟨%y, %s1, %s2, %a1, %a2, -, H0, H1, H2, H3, H4⟩, Hr⟩
  isplitr [Hr]
  · isplitl [H0]; · iexists y; iexact H0
    isplitl [H1]; · iexists s1; iexact H1
    isplitl [H2]; · iexists s2; iexact H2
    isplitl [H3]; · iexists a1; iexact H3
    iexists a2; iexact H4
  iexact Hr

-- the run lemma's implicit arguments are found by unfolding plain definitions in a type
set_option backward.isDefEq.respectTransparency.types false in
/-- The run: every array of the pipeline ends as computed from the proof data, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := scr_in m) (hout := scr_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Proof.Mlp

end
-- ==== Proof.MlpPay.lean ====
/-
  What the blocks of the layers hold at an index, over ideal values: the layers' rows as sums, the running rows as sums over the
  block's rows, the scale and the shift of a normalisation from the two running rows.
-/
module

public import proofs.«01_k».proof.Proof.MlpState
public import Idealize.ShloMosaic.Lib.Pointwise

@[expose] public section

noncomputable section

namespace Cert.Proof.Mlp

open Cert.MlpIdeal Cert.MlpIdeal.Gen
open Idealize.ShloMosaic Idealize.ShloMosaic.TcCoe Idealize.ShloMosaic.Tactic

/-- One over the number of rows, and the number added to a variance, as the programs spell them. -/
abbrev invN : EReal := Ideal.ofBits .f32 0x39000000#32
abbrev epsN : EReal := Ideal.ofBits .f32 0x3727C5AC#32

section first

variable (x2 : Vec Ideal S3x512x256 .f32) (x3 : Vec Ideal S512x8 .f32) (x4 : Vec Ideal S512x3 .f32) (x5 : Vec Ideal S512x128 .f32) (x6 : Vec Ideal S3x512 .f32) (x7 : Vec Ideal S128x512 .f32) (x8 : Vec Ideal S256x512 .f32) (x9 r : Vec Ideal S1x512 .f32) (s : Vec Ideal S8x512 .f32)

theorem yA_apply (a k : Fin 512) :
    yA x2 x3 x4 x5 x6 x7 x8 x9 (ix2 a k) =
      ∑ x : Fin 256, (x3 (ix2 a 0) * x2 (ix3 0 a x) + x3 (ix2 a 1) * x2 (ix3 1 a x) + x3 (ix2 a 2) * x2 (ix3 2 a x)) * x8 (ix2 x k)
        + ∑ x : Fin 128, x5 (ix2 a x) * x7 (ix2 x k)
        + (x4 (ix2 a 0) * x6 (ix2 0 k) + x4 (ix2 a 1) * x6 (ix2 1 k) + x4 (ix2 a 2) * x6 (ix2 2 k)) + x9 (ix2 0 k) := by
  pointwise [yA, part41, k0_pay11, k0_pay10, k0_pay9]

theorem sumA_apply (k : Fin 512) :
    sumA x2 x3 x4 x5 x6 x7 x8 x9 r (ix2 0 k) = r (ix2 0 k) + ∑ t : Fin 512, yA x2 x3 x4 x5 x6 x7 x8 x9 (ix2 t k) := by
  pointwise [sumA, yA, k0_pay12, k0_pay11]

theorem sqA_apply (k : Fin 512) :
    sqA x2 x3 x4 x5 x6 x7 x8 x9 r (ix2 0 k) = r (ix2 0 k) + ∑ t : Fin 512, yA x2 x3 x4 x5 x6 x7 x8 x9 (ix2 t k) * yA x2 x3 x4 x5 x6 x7 x8 x9 (ix2 t k) := by
  pointwise [sqA, yA, k0_pay13, k0_pay11, k0_pay1]

theorem stA_row0 (k : Fin 512) :
    stA x2 x3 x4 x5 x6 x7 x8 x9 s (ix2 0 k) = s (ix2 0 k) + ∑ t : Fin 512, yA x2 x3 x4 x5 x6 x7 x8 x9 (ix2 t k) := by
  have h := congrFun (layers_row0 s (sumA x2 x3 x4 x5 x6 x7 x8 x9 (View.ld s row0)) (sqA x2 x3 x4 x5 x6 x7 x8 x9 (View.ld s row1))) (ix2 0 k)
  rw [sumA_apply] at h
  have e : row0.idx (ix2 0 k) = (ix2 0 k : S8x512.Idx) := by idx_ext
  simp only [View.ld, e] at h
  exact h

theorem stA_row1 (k : Fin 512) :
    stA x2 x3 x4 x5 x6 x7 x8 x9 s (ix2 1 k) = s (ix2 1 k) + ∑ t : Fin 512, yA x2 x3 x4 x5 x6 x7 x8 x9 (ix2 t k) * yA x2 x3 x4 x5 x6 x7 x8 x9 (ix2 t k) := by
  have h := congrFun (layers_row1 s (sumA x2 x3 x4 x5 x6 x7 x8 x9 (View.ld s row0)) (sqA x2 x3 x4 x5 x6 x7 x8 x9 (View.ld s row1))) (ix2 0 k)
  rw [sqA_apply] at h
  have e : row1.idx (ix2 0 k) = (ix2 1 k : S8x512.Idx) := by idx_ext
  simp only [View.ld, e] at h
  exact h

end first

section second

variable (y : Vec Ideal S512x512 .f32) (sc sh : Vec Ideal S1x512 .f32) (x10 : Vec Ideal S512x512 .f32) (x11 r : Vec Ideal S1x512 .f32) (s : Vec Ideal S8x512 .f32)

theorem yB_apply (a k : Fin 512) :
    yB y sc sh x10 x11 (ix2 a k) = ∑ x : Fin 512, max (y (ix2 a x) * sc (ix2 0 x) + sh (ix2 0 x)) 0 * x10 (ix2 x k) + x11 (ix2 0 k) := by
  pointwise [yB, k0_pay20, k0_pay19, k0_pay3]

theorem sumB_apply (k : Fin 512) :
    sumB y sc sh x10 x11 r (ix2 0 k) = r (ix2 0 k) + ∑ t : Fin 512, yB y sc sh x10 x11 (ix2 t k) := by
  pointwise [sumB, yB, k0_pay21, k0_pay20, k0_pay19, k0_pay3]

theorem sqB_apply (k : Fin 512) :
    sqB y sc sh x10 x11 r (ix2 0 k) = r (ix2 0 k) + ∑ t : Fin 512, yB y sc sh x10 x11 (ix2 t k) * yB y sc sh x10 x11 (ix2 t k) := by
  pointwise [sqB, yB, k0_pay22, k0_pay20, k0_pay19, k0_pay2, k0_pay3]

theorem stB_row0 (k : Fin 512) :
    stB y sc sh x10 x11 s (ix2 0 k) = s (ix2 0 k) + ∑ t : Fin 512, yB y sc sh x10 x11 (ix2 t k) := by
  have h := congrFun (layers_row0 s (sumB y sc sh x10 x11 (View.ld s row0)) (sqB y sc sh x10 x11 (View.ld s row1))) (ix2 0 k)
  rw [sumB_apply] at h
  have e : row0.idx (ix2 0 k) = (ix2 0 k : S8x512.Idx) := by idx_ext
  simp only [View.ld, e] at h
  exact h

theorem stB_row1 (k : Fin 512) :
    stB y sc sh x10 x11 s (ix2 1 k) = s (ix2 1 k) + ∑ t : Fin 512, yB y sc sh x10 x11 (ix2 t k) * yB y sc sh x10 x11 (ix2 t k) := by
  have h := congrFun (layers_row1 s (sumB y sc sh x10 x11 (View.ld s row0)) (sqB y sc sh x10 x11 (View.ld s row1))) (ix2 0 k)
  rw [sqB_apply] at h
  have e : row1.idx (ix2 0 k) = (ix2 1 k : S8x512.Idx) := by idx_ext
  simp only [View.ld, e] at h
  exact h

end second

theorem pay8_apply (a : Fin 8) (k : Fin 512) : k0_pay8 (F := Ideal) (ix2 a k) = 0 := by
  pointwise [k0_pay8]
theorem pay18_apply (a : Fin 8) (k : Fin 512) : k0_pay18 (F := Ideal) (ix2 a k) = 0 := by
  pointwise [k0_pay18]

section scales

variable (s : Vec Ideal S8x512 .f32) (x14 x15 : Vec Ideal S1x512 .f32) (k : Fin 512)

theorem scA_apply : scA s x14 (ix2 0 k)
    = x14 (ix2 0 k) * Ideal.rsqrt (s (ix2 1 k) * invN - s (ix2 0 k) * invN * (s (ix2 0 k) * invN) + epsN) := by
  pointwise [scA, k0_pay16, k0_pay15, k0_pay14]

theorem shA_apply : shA s x14 x15 (ix2 0 k) = x15 (ix2 0 k) - s (ix2 0 k) * invN * scA s x14 (ix2 0 k) := by
  pointwise [shA, scA, k0_pay17, k0_pay16, k0_pay15, k0_pay14]

theorem scB_apply : scB s x14 (ix2 0 k)
    = x14 (ix2 0 k) * Ideal.rsqrt (s (ix2 1 k) * invN - s (ix2 0 k) * invN * (s (ix2 0 k) * invN) + epsN) := by
  pointwise [scB, k0_pay6, k0_pay5, k0_pay4, k0_pay3]

theorem shB_apply : shB s x14 x15 (ix2 0 k) = x15 (ix2 0 k) - s (ix2 0 k) * invN * scB s x14 (ix2 0 k) := by
  pointwise [shB, scB, k0_pay6, k0_pay5, k0_pay4, k0_pay3]

end scales

theorem outC_apply (y : Vec Ideal S512x512 .f32) (sc sh : Vec Ideal S1x512 .f32) (x12 : Vec Ideal S512x256 .f32) (x13 : Vec Ideal S1x256 .f32) (a : Fin 512) (k : Fin 256) :
    outC y sc sh x12 x13 (ix2 a k) = ∑ x : Fin 512, max (y (ix2 a x) * sc (ix2 0 x) + sh (ix2 0 x)) 0 * x12 (ix2 x k) + x13 (ix2 0 k) := by
  pointwise [outC, k0_pay7]

end Cert.Proof.Mlp

end
-- ==== Proof.MlpMath.lean ====
/-
  The arithmetic of a normalisation over the extended reals: from the mean of the squares and the mean, folded into one scale and
  one shift, and from the deviations themselves, are the same at real rows and a real scale.
-/
module

public import Idealize.ShloMosaic.Lib.Pointwise

@[expose] public section

noncomputable section

namespace Cert.Proof.MlpMath

open Idealize.ShloMosaic

/-- One over the number of rows, the number of rows, and the number added to a variance, as the programs spell them. -/
abbrev invN : EReal := Ideal.ofBits .f32 0x39000000#32
abbrev numN : EReal := Ideal.ofBits .f32 0x46000000#32
abbrev epsN : EReal := Ideal.ofBits .f32 0x3727C5AC#32

theorem invN_eq : invN = ((1 / 8192 : ℝ) : EReal) := by
  simp [invN, Ideal.ofBits, Ideal.ieee, -EReal.coe_mul]; norm_num

theorem numN_eq : numN = ((8192 : ℝ) : EReal) := by
  simp [numN, Ideal.ofBits, Ideal.ieee, -EReal.coe_mul]; norm_num

theorem epsN_pos : ∃ e : ℝ, 0 < e ∧ epsN = (e : EReal) := by
  refine ⟨(2 ^ 23 + 2606508) * 2 ^ (-40 : ℤ), by positivity, ?_⟩
  simp [epsN, Ideal.ofBits, Ideal.ieee, -EReal.coe_mul]; norm_num

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A column normalised by one scale and one shift, the variance from the mean of the squares. -/
def bnK (Y : Fin 8192 → EReal) (γ β : EReal) (n : Fin 8192) : EReal :=
  let mean := (∑ i, Y i) * invN
  let sc := γ * Ideal.rsqrt ((∑ i, Y i * Y i) * invN - mean * mean + epsN)
  max (Y n * sc + (β - mean * sc)) 0

/-- The deviations' mean square. -/
def varR (Y : Fin 8192 → EReal) : EReal :=
  Ideal.div (∑ i, (Y i - Ideal.div (∑ j, Y j) numN) * (Y i - Ideal.div (∑ j, Y j) numN)) numN

/-- A column normalised by the deviations. -/
def bnR (Y : Fin 8192 → EReal) (γ β : EReal) (n : Fin 8192) : EReal :=
  max (Ideal.div (Y n - Ideal.div (∑ i, Y i) numN) (Ideal.sqrt (varR Y + epsN)) * γ + β) 0

theorem div_num (x : ℝ) : Ideal.div (x : EReal) numN = ((x / 8192 : ℝ) : EReal) := by
  rw [numN_eq, Ideal.div, if_neg (by norm_num), ← EReal.coe_inv, ← EReal.coe_mul, div_eq_mul_inv]

theorem var_real (y : Fin 8192 → ℝ) :
    (∑ i, y i * y i) * (1 / 8192) - ((∑ i, y i) * (1 / 8192)) * ((∑ i, y i) * (1 / 8192))
      = (∑ i, (y i - (∑ j, y j) / 8192) * (y i - (∑ j, y j) / 8192)) / 8192 := by
  have h : ∀ μ : ℝ, ∑ i, (y i - μ) * (y i - μ) = ∑ i, y i * y i - 2 * μ * ∑ i, y i + 8192 * (μ * μ) := by
    intro μ
    have : ∀ i, (y i - μ) * (y i - μ) = y i * y i - 2 * μ * y i + μ * μ := fun i => by ring
    rw [Finset.sum_congr rfl fun i _ => this i, Finset.sum_add_distrib, Finset.sum_sub_distrib, ← Finset.mul_sum, Finset.sum_const]
    simp
  rw [h]
  ring

/-- At real rows and a real scale both are one number over the reals, plus the shift. -/
theorem bn_forms (y : Fin 8192 → ℝ) (g : ℝ) (n : Fin 8192) : ∃ z : ℝ, ∀ β : EReal,
    bnK (fun i => (y i : EReal)) g β n = max ((z : EReal) + β) 0 ∧ bnR (fun i => (y i : EReal)) g β n = max ((z : EReal) + β) 0 := by
  obtain ⟨e, he, hE⟩ := epsN_pos
  set S : ℝ := ∑ i, y i with hS
  set v : ℝ := (∑ i, (y i - S / 8192) * (y i - S / 8192)) / 8192 with hv
  have hv0 : 0 ≤ v := div_nonneg (Finset.sum_nonneg fun i _ => mul_self_nonneg _) (by norm_num)
  have hpos : 0 < v + e := by linarith
  have hs : Real.sqrt (v + e) ≠ 0 := (Real.sqrt_pos.mpr hpos).ne'
  have hsum : ∑ i, (y i : EReal) = (S : EReal) := (coe_sum _ _).symm
  have hsq : ∑ i, (y i : EReal) * (y i : EReal) = ((∑ i, y i * y i : ℝ) : EReal) := by
    rw [coe_sum]; exact Finset.sum_congr rfl fun i _ => (EReal.coe_mul _ _).symm
  have hvar : varR (fun i => (y i : EReal)) = (v : EReal) := by
    unfold varR
    rw [hsum, div_num]
    have : ∑ i, ((y i : EReal) - ((S / 8192 : ℝ) : EReal)) * ((y i : EReal) - ((S / 8192 : ℝ) : EReal)) = ((∑ i, (y i - S / 8192) * (y i - S / 8192) : ℝ) : EReal) := by
      rw [coe_sum]; exact Finset.sum_congr rfl fun i _ => by rw [← EReal.coe_sub, ← EReal.coe_mul]
    rw [this, div_num]
  refine ⟨(y n - S / 8192) / Real.sqrt (v + e) * g, fun β => ⟨?_, ?_⟩⟩
  · unfold bnK
    have hr : (∑ i, (y i : EReal) * (y i : EReal)) * invN - (∑ i, (y i : EReal)) * invN * ((∑ i, (y i : EReal)) * invN) + epsN = ((v + e : ℝ) : EReal) := by
      rw [hsum, hsq, invN_eq, hE, ← EReal.coe_mul, ← EReal.coe_mul, ← EReal.coe_mul, ← EReal.coe_sub, ← EReal.coe_add, hS, var_real, hv]
    have hrs : Ideal.rsqrt ((v + e : ℝ) : EReal) = (((Real.sqrt (v + e))⁻¹ : ℝ) : EReal) := by
      rw [Ideal.rsqrt_coe, if_neg (not_lt.mpr hpos.le), if_neg hpos.ne']
    show max ((y n : EReal) * ((g : EReal) * Ideal.rsqrt ((∑ i, (y i : EReal) * (y i : EReal)) * invN - (∑ i, (y i : EReal)) * invN * ((∑ i, (y i : EReal)) * invN) + epsN))
      + (β - (∑ i, (y i : EReal)) * invN * ((g : EReal) * Ideal.rsqrt ((∑ i, (y i : EReal) * (y i : EReal)) * invN - (∑ i, (y i : EReal)) * invN * ((∑ i, (y i : EReal)) * invN) + epsN)))) 0 = _
    rw [hr, hrs, hsum, invN_eq]
    simp only [← EReal.coe_mul]
    refine congrArg (fun x => max x 0) ?_
    have key : (y n - S / 8192) / Real.sqrt (v + e) * g = y n * (g * (Real.sqrt (v + e))⁻¹) - S * (1 / 8192) * (g * (Real.sqrt (v + e))⁻¹) := by
      field_simp
    rw [key, EReal.coe_sub, sub_eq_add_neg, sub_eq_add_neg, add_comm β, add_assoc]
  · unfold bnR
    have hq : Ideal.sqrt ((v + e : ℝ) : EReal) = ((Real.sqrt (v + e) : ℝ) : EReal) := by
      rw [Ideal.sqrt_coe, if_neg (not_lt.mpr hpos.le)]
    rw [hvar, hE, ← EReal.coe_add, hq, hsum, div_num, ← EReal.coe_sub, Ideal.div, if_neg (by exact_mod_cast hs), ← EReal.coe_inv, ← EReal.coe_mul, ← EReal.coe_mul,
      div_eq_mul_inv _ (Real.sqrt (v + e))]

/-- A number is real. -/
def IsReal (x : EReal) : Prop := ∃ r : ℝ, x = (r : EReal)

/-- Real rows and a real scale: the two normalisations agree. -/
theorem bn_eq (Y : Fin 8192 → EReal) (hY : ∀ i, IsReal (Y i)) (γ β : EReal) (hγ : IsReal γ) (n : Fin 8192) : bnK Y γ β n = bnR Y γ β n := by
  choose y hy using hY
  obtain ⟨g, rfl⟩ := hγ
  obtain ⟨z, hz⟩ := bn_forms y g n
  rw [show Y = fun i => (y i : EReal) from funext hy, (hz β).1, (hz β).2]

/-- With a real shift the result is real. -/
theorem bn_real (Y : Fin 8192 → EReal) (hY : ∀ i, IsReal (Y i)) (γ β : EReal) (hγ : IsReal γ) (hβ : IsReal β) (n : Fin 8192) : IsReal (bnR Y γ β n) := by
  choose y hy using hY
  obtain ⟨g, rfl⟩ := hγ
  obtain ⟨b, rfl⟩ := hβ
  obtain ⟨z, hz⟩ := bn_forms y g n
  refine ⟨max (z + b) 0, ?_⟩
  rw [show Y = fun i => (y i : EReal) from funext hy, (hz b).2, ← EReal.coe_add, ← EReal.coe_zero]
  exact (EReal.coe_strictMono.monotone.map_max).symm

theorem IsReal.add {x y : EReal} (hx : IsReal x) (hy : IsReal y) : IsReal (x + y) := by
  obtain ⟨a, rfl⟩ := hx; obtain ⟨b, rfl⟩ := hy; exact ⟨a + b, (EReal.coe_add _ _).symm⟩

theorem IsReal.mul {x y : EReal} (hx : IsReal x) (hy : IsReal y) : IsReal (x * y) := by
  obtain ⟨a, rfl⟩ := hx; obtain ⟨b, rfl⟩ := hy; exact ⟨a * b, (EReal.coe_mul _ _).symm⟩

theorem IsReal.sum {ι : Type} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- A number whose absolute value is below the infinity is real. -/
theorem IsReal.of_abs_lt {x : EReal} (h : max x (-x) < ⊤) : IsReal x := by
  induction x using EReal.rec with
  | bot => simp at h
  | top => simp at h
  | coe r => exact ⟨r, rfl⟩

/-- The first layer at a row and a column: coordinates, features and interpolated rows against their parts of the weights. -/
def first (g : Fin 3 → Fin 8192 → Fin 256 → EReal) (w : Fin 8192 → Fin 8 → EReal) (co : Fin 8192 → Fin 3 → EReal) (fe : Fin 8192 → Fin 128 → EReal)
    (W : Fin 512 → Fin 387 → EReal) (b : Fin 512 → EReal) (n : Fin 8192) (k : Fin 512) : EReal :=
  ∑ x : Fin 256, (w n 0 * g 0 n x + w n 1 * g 1 n x + w n 2 * g 2 n x) * W k ⟨131 + x.val, by omega⟩
    + ∑ x : Fin 128, fe n x * W k ⟨3 + x.val, by omega⟩
    + (co n 0 * W k 0 + co n 1 * W k 1 + co n 2 * W k 2) + b k

/-- A layer of `K` columns over rows of 512. -/
def dense {K : ℕ} (z : Fin 8192 → Fin 512 → EReal) (W : Fin K → Fin 512 → EReal) (b : Fin K → EReal) (n : Fin 8192) (k : Fin K) : EReal :=
  ∑ x, z n x * W k x + b k

/-- A normalisation of every column. -/
def columns (bn : (Fin 8192 → EReal) → EReal → EReal → Fin 8192 → EReal) (y : Fin 8192 → Fin 512 → EReal) (γ β : Fin 512 → EReal) (n : Fin 8192) (k : Fin 512) : EReal :=
  bn (fun i => y i k) (γ k) (β k) n

/-- The three layers, the first given. -/
def layers3 (bn : (Fin 8192 → EReal) → EReal → EReal → Fin 8192 → EReal) (y : Fin 8192 → Fin 512 → EReal) (γ0 β0 : Fin 512 → EReal)
    (W1 : Fin 512 → Fin 512 → EReal) (b1 : Fin 512 → EReal) (γ1 β1 : Fin 512 → EReal) (W2 : Fin 256 → Fin 512 → EReal) (b2 : Fin 256 → EReal) :
    Fin 8192 → Fin 256 → EReal :=
  dense (columns bn (dense (columns bn y γ0 β0) W1 b1) γ1 β1) W2 b2

theorem first_real {g : Fin 3 → Fin 8192 → Fin 256 → EReal} {w : Fin 8192 → Fin 8 → EReal} {co : Fin 8192 → Fin 3 → EReal} {fe : Fin 8192 → Fin 128 → EReal}
    {W : Fin 512 → Fin 387 → EReal} {b : Fin 512 → EReal} (hg : ∀ j n x, IsReal (g j n x)) (hw0 : ∀ n, IsReal (w n 0)) (hw1 : ∀ n, IsReal (w n 1)) (hw2 : ∀ n, IsReal (w n 2))
    (hco : ∀ n j, IsReal (co n j)) (hfe : ∀ n j, IsReal (fe n j)) (hW : ∀ k j, IsReal (W k j)) (hb : ∀ k, IsReal (b k)) (n : Fin 8192) (k : Fin 512) :
    IsReal (first g w co fe W b n k) :=
  (((IsReal.sum _ _ fun x => ((((hw0 n).mul (hg 0 n x)).add ((hw1 n).mul (hg 1 n x))).add ((hw2 n).mul (hg 2 n x))).mul (hW k _)).add
    (IsReal.sum _ _ fun x => (hfe n x).mul (hW k _))).add
    ((((hco n 0).mul (hW k 0)).add ((hco n 1).mul (hW k 1))).add ((hco n 2).mul (hW k 2)))).add (hb k)

/-- With a real first layer, real first scale and shift, real second weights and a real second scale, the layers do not depend on which
    of the two normalisations is used. -/
theorem layers3_eq {y : Fin 8192 → Fin 512 → EReal} {γ0 β0 : Fin 512 → EReal} {W1 : Fin 512 → Fin 512 → EReal} {b1 γ1 : Fin 512 → EReal}
    (β1 : Fin 512 → EReal) (W2 : Fin 256 → Fin 512 → EReal) (b2 : Fin 256 → EReal)
    (hy : ∀ n k, IsReal (y n k)) (hγ0 : ∀ k, IsReal (γ0 k)) (hβ0 : ∀ k, IsReal (β0 k)) (hW1 : ∀ k j, IsReal (W1 k j)) (hb1 : ∀ k, IsReal (b1 k)) (hγ1 : ∀ k, IsReal (γ1 k)) :
    layers3 bnK y γ0 β0 W1 b1 γ1 β1 W2 b2 = layers3 bnR y γ0 β0 W1 b1 γ1 β1 W2 b2 := by
  have h1 : columns bnK y γ0 β0 = columns bnR y γ0 β0 := by
    funext n k; exact bn_eq _ (fun i => hy i k) _ _ (hγ0 k) n
  have h2 : ∀ n k, IsReal (dense (columns bnR y γ0 β0) W1 b1 n k) := fun n k =>
    (IsReal.sum _ _ fun x => (bn_real _ (fun i => hy i x) _ _ (hγ0 x) (hβ0 x) n).mul (hW1 k x)).add (hb1 k)
  have h3 : columns bnK (dense (columns bnR y γ0 β0) W1 b1) γ1 β1 = columns bnR (dense (columns bnR y γ0 β0) W1 b1) γ1 β1 := by
    funext n k; exact bn_eq _ (fun i => h2 i k) _ _ (hγ1 k) n
  unfold layers3
  rw [h1, h3]

end Cert.Proof.MlpMath

end
-- ==== Proof.MlpBlocks.lean ====
/-
  The blocks the body reads, at an index, as entries of the arguments.
-/
module

public import proofs.«01_k».proof.Proof.MlpRun
public import proofs.«01_k».proof.Proof.MlpPay
public import proofs.«01_k».proof.Proof.MlpMath
public import Idealize.ShloMosaic.Lib.Pipeline.ValueKit

@[expose] public section

noncomputable section

namespace Cert.Proof.Mlp

open Cert.MlpIdeal Cert.MlpIdeal.Gen
open Idealize.ShloMosaic Idealize.ShloMosaic.TcCoe Idealize.ShloMosaic.Tactic
open Idealize.ShloMosaic.Pipeline (Dat Cfg Window)

/-- Row `r` of block `j`. -/
def row (j : Fin 16) (r : Fin 512) : Fin 8192 := ⟨j.val * 512 + r.val, by omega⟩

theorem pt_lo (j : Fin 16) : (pt j.val).val = j.val := pt_val j.val (by omega)
theorem pt_mid (j : Fin 16) : (pt (16 + j.val)).val = 16 + j.val := pt_val (16 + j.val) (by omega)
theorem pt_hi (j : Fin 16) : (pt (32 + j.val)).val = 32 + j.val := pt_val (32 + j.val) (by omega)

theorem idx0_0 : ∀ t : Fin cfg0.N, t.val < 16 → win0_0.index t = ![0, t.val, 0] := (by decide +kernel : ∀ t : Fin grid0.N, _)
theorem idx0_1 : ∀ t : Fin cfg0.N, t.val < 16 → win0_1.index t = ![t.val, 0] := (by decide +kernel : ∀ t : Fin grid0.N, _)
theorem idx0_2 : ∀ t : Fin cfg0.N, t.val < 16 → win0_2.index t = ![t.val, 0] := (by decide +kernel : ∀ t : Fin grid0.N, _)
theorem idx0_3 : ∀ t : Fin cfg0.N, t.val < 16 → win0_3.index t = ![t.val, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![0, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)
theorem idx0_11 : ∀ t : Fin cfg0.N, win0_11.index t = ![0, 0] := (by decide +kernel : ∀ t : Fin grid0.N, _)
theorem idx0_12 : ∀ t : Fin cfg0.N, win0_12.index t = ![0, 0] := (by decide +kernel : ∀ t : Fin grid0.N, _)
theorem idx0_13 : ∀ t : Fin cfg0.N, win0_13.index t = ![0, 0] := (by decide +kernel : ∀ t : Fin grid0.N, _)
theorem idx0_14 : ∀ t : Fin cfg0.N, win0_14.index t = ![0, 0] := (by decide +kernel : ∀ t : Fin grid0.N, _)
theorem idx0_15 : ∀ t : Fin cfg0.N, win0_15.index t = ![0, 0] := (by decide +kernel : ∀ t : Fin grid0.N, _)
theorem idx0_16 : ∀ t : Fin cfg0.N, 32 ≤ t.val → win0_16.index t = ![t.val - 32, 0] := (by decide +kernel : ∀ t : Fin grid0.N, _)

variable (m : (ℓ : Loc nD τ sig) → Buf (Elt Ideal) ℓ) (c : Dev nD)

abbrev a0 : Vec Ideal S3x8192x256 .f32 := m ((c.tc : Thread nD τ).loc main_arg0)
abbrev a1 : Vec Ideal S8192x8 .f32 := m ((c.tc : Thread nD τ).loc main_arg1)
abbrev a2 : Vec Ideal S8192x3 .f32 := m ((c.tc : Thread nD τ).loc main_arg2)
abbrev a3 : Vec Ideal S8192x128 .f32 := m ((c.tc : Thread nD τ).loc main_arg3)
abbrev a4 : Vec Ideal S512x387 .f32 := m ((c.tc : Thread nD τ).loc main_arg4)
abbrev a5 : Vec Ideal S512 .f32 := m ((c.tc : Thread nD τ).loc main_arg5)
abbrev a6 : Vec Ideal S512x512 .f32 := m ((c.tc : Thread nD τ).loc main_arg6)
abbrev a7 : Vec Ideal S512 .f32 := m ((c.tc : Thread nD τ).loc main_arg7)
abbrev a8 : Vec Ideal S256x512 .f32 := m ((c.tc : Thread nD τ).loc main_arg8)
abbrev a9 : Vec Ideal S256 .f32 := m ((c.tc : Thread nD τ).loc main_arg9)
abbrev a10 : Vec Ideal S512 .f32 := m ((c.tc : Thread nD τ).loc main_arg10)
abbrev a11 : Vec Ideal S512 .f32 := m ((c.tc : Thread nD τ).loc main_arg11)
abbrev a12 : Vec Ideal S512 .f32 := m ((c.tc : Thread nD τ).loc main_arg12)
abbrev a13 : Vec Ideal S512 .f32 := m ((c.tc : Thread nD τ).loc main_arg13)

theorem rd0 (j : Fin 16) (i : Fin 3) (r : Fin 512) (x : Fin 256) : iblk m c 0 (pt j.val) (ix3 i r x) = a0 m c (ix3 i (row j r) x) := by
  have e := idx0_0 (pt j.val) (by rw [pt_lo]; omega)
  rw [pt_lo] at e
  blk_simp [iblk]
  rw [V_main_arg0]
  refine congrArg (a0 m c) ?_
  unfold row
  blk_ext [e]

theorem rd1 (j : Fin 16) (r : Fin 512) (x : Fin 8) : iblk m c 1 (pt j.val) (ix2 r x) = a1 m c (ix2 (row j r) x) := by
  have e := idx0_1 (pt j.val) (by rw [pt_lo]; omega)
  rw [pt_lo] at e
  blk_simp [iblk]
  rw [V_main_arg1]
  refine congrArg (a1 m c) ?_
  unfold row
  blk_ext [e]

theorem rd2 (j : Fin 16) (r : Fin 512) (x : Fin 3) : iblk m c 2 (pt j.val) (ix2 r x) = a2 m c (ix2 (row j r) x) := by
  have e := idx0_2 (pt j.val) (by rw [pt_lo]; omega)
  rw [pt_lo] at e
  blk_simp [iblk]
  rw [V_main_arg2]
  refine congrArg (a2 m c) ?_
  unfold row
  blk_ext [e]

theorem rd3 (j : Fin 16) (r : Fin 512) (x : Fin 128) : iblk m c 3 (pt j.val) (ix2 r x) = a3 m c (ix2 (row j r) x) := by
  have e := idx0_3 (pt j.val) (by rw [pt_lo]; omega)
  rw [pt_lo] at e
  blk_simp [iblk]
  rw [V_main_arg3]
  refine congrArg (a3 m c) ?_
  unfold row
  blk_ext [e]

theorem rd4 (t : Fin cfg0.N) (x : Fin 3) (k : Fin 512) : iblk m c 4 t (ix2 x k) = a4 m c (ix2 k ⟨x.val, by omega⟩) := by
  have e := idx0_4 t
  have h : (win0_4.blk t).view.emb (ix2 x k) = (ix2 x k : S3x512.Idx) := by blk_ext [e]
  blk_simp [iblk]
  rw [h]
  entry_read
  pointwise []

theorem rd5 (t : Fin cfg0.N) (x : Fin 128) (k : Fin 512) : iblk m c 5 t (ix2 x k) = a4 m c (ix2 k ⟨3 + x.val, by omega⟩) := by
  have e := idx0_5 t
  have h : (win0_5.blk t).view.emb (ix2 x k) = (ix2 x k : S128x512.Idx) := by blk_ext [e]
  blk_simp [iblk]
  rw [h]
  entry_read
  pointwise []

theorem rd6 (t : Fin cfg0.N) (x : Fin 256) (k : Fin 512) : iblk m c 6 t (ix2 x k) = a4 m c (ix2 k ⟨131 + x.val, by omega⟩) := by
  have e := idx0_6 t
  have h : (win0_6.blk t).view.emb (ix2 x k) = (ix2 x k : S256x512.Idx) := by blk_ext [e]
  blk_simp [iblk]
  rw [h]
  entry_read
  pointwise []

theorem rd7 (t : Fin cfg0.N) (k : Fin 512) : iblk m c 7 t (ix2 0 k) = a5 m c (ix1 k) := by
  have e := idx0_7 t
  have h : (win0_7.blk t).view.emb (ix2 0 k) = (ix2 0 k : S1x512.Idx) := by blk_ext [e]
  blk_simp [iblk]
  rw [h]
  entry_read
  pointwise []

theorem rd8 (t : Fin cfg0.N) (x : Fin 512) (k : Fin 512) : iblk m c 8 t (ix2 x k) = a6 m c (ix2 k x) := by
  have e := idx0_8 t
  have h : (win0_8.blk t).view.emb (ix2 x k) = (ix2 x k : S512x512.Idx) := by blk_ext [e]
  blk_simp [iblk]
  rw [h]
  entry_read
  pointwise []

theorem rd9 (t : Fin cfg0.N) (k : Fin 512) : iblk m c 9 t (ix2 0 k) = a7 m c (ix1 k) := by
  have e := idx0_9 t
  have h : (win0_9.blk t).view.emb (ix2 0 k) = (ix2 0 k : S1x512.Idx) := by blk_ext [e]
  blk_simp [iblk]
  rw [h]
  entry_read
  pointwise []

theorem rd10 (t : Fin cfg0.N) (x : Fin 512) (k : Fin 256) : iblk m c 10 t (ix2 x k) = a8 m c (ix2 k x) := by
  have e := idx0_10 t
  have h : (win0_10.blk t).view.emb (ix2 x k) = (ix2 x k : S512x256.Idx) := by blk_ext [e]
  blk_simp [iblk]
  rw [h]
  entry_read
  pointwise []

theorem rd11 (t : Fin cfg0.N) (k : Fin 256) : iblk m c 11 t (ix2 0 k) = a9 m c (ix1 k) := by
  have e := idx0_11 t
  have h : (win0_11.blk t).view.emb (ix2 0 k) = (ix2 0 k : S1x256.Idx) := by blk_ext [e]
  blk_simp [iblk]
  rw [h]
  entry_read
  pointwise []

theorem rd12 (t : Fin cfg0.N) (k : Fin 512) : iblk m c 12 t (ix2 0 k) = a10 m c (ix1 k) := by
  have e := idx0_12 t
  have h : (win0_12.blk t).view.emb (ix2 0 k) = (ix2 0 k : S1x512.Idx) := by blk_ext [e]
  blk_simp [iblk]
  rw [h]
  entry_read
  pointwise []

theorem rd13 (t : Fin cfg0.N) (k : Fin 512) : iblk m c 13 t (ix2 0 k) = a11 m c (ix1 k) := by
  have e := idx0_13 t
  have h : (win0_13.blk t).view.emb (ix2 0 k) = (ix2 0 k : S1x512.Idx) := by blk_ext [e]
  blk_simp [iblk]
  rw [h]
  entry_read
  pointwise []

theorem rd14 (t : Fin cfg0.N) (k : Fin 512) : iblk m c 14 t (ix2 0 k) = a12 m c (ix1 k) := by
  have e := idx0_14 t
  have h : (win0_14.blk t).view.emb (ix2 0 k) = (ix2 0 k : S1x512.Idx) := by blk_ext [e]
  blk_simp [iblk]
  rw [h]
  entry_read
  pointwise []

theorem rd15 (t : Fin cfg0.N) (k : Fin 512) : iblk m c 15 t (ix2 0 k) = a13 m c (ix1 k) := by
  have e := idx0_15 t
  have h : (win0_15.blk t).view.emb (ix2 0 k) = (ix2 0 k : S1x512.Idx) := by blk_ext [e]
  blk_simp [iblk]
  rw [h]
  entry_read
  pointwise []

end Cert.Proof.Mlp

end
-- ==== Proof.MlpValues.lean ====
/-
  The kernel's result at an index, over ideal values: the three layers over the arguments, each normalisation by one scale and one
  shift from the sums over all rows.
-/
module

public import proofs.«01_k».proof.Proof.MlpBlocks

@[expose] public section

noncomputable section

namespace Cert.Proof.Mlp

open Cert.MlpIdeal Cert.MlpIdeal.Gen
open Idealize.ShloMosaic Idealize.ShloMosaic.TcCoe Idealize.ShloMosaic.Tactic
open Idealize.ShloMosaic.Pipeline (Dat Cfg Window)
open MlpMath (first dense columns layers3 bnK)

variable (m : (ℓ : Loc nD τ sig) → Buf (Elt Ideal) ℓ) (c : Dev nD)

/-- The first layer of the arguments. -/
def fst (n : Fin 8192) (k : Fin 512) : EReal :=
  first (fun j n x => a0 m c (ix3 j n x)) (fun n j => a1 m c (ix2 n j)) (fun n j => a2 m c (ix2 n j)) (fun n j => a3 m c (ix2 n j))
    (fun k j => a4 m c (ix2 k j)) (fun k => a5 m c (ix1 k)) n k

/-- The first layer normalised, -/
def nrm1 : Fin 8192 → Fin 512 → EReal := columns bnK (fst m c) (fun k => a10 m c (ix1 k)) (fun k => a11 m c (ix1 k))
/-- the second layer, -/
def snd : Fin 8192 → Fin 512 → EReal := dense (nrm1 m c) (fun k j => a6 m c (ix2 k j)) (fun k => a7 m c (ix1 k))
/-- the second layer normalised, -/
def nrm2 : Fin 8192 → Fin 512 → EReal := columns bnK (snd m c) (fun k => a12 m c (ix1 k)) (fun k => a13 m c (ix1 k))
/-- and the result. -/
def res : Fin 8192 → Fin 256 → EReal := dense (nrm2 m c) (fun k j => a8 m c (ix2 k j)) (fun k => a9 m c (ix1 k))

theorem res_eq : res m c = layers3 bnK (fst m c) (fun k => a10 m c (ix1 k)) (fun k => a11 m c (ix1 k)) (fun k j => a6 m c (ix2 k j)) (fun k => a7 m c (ix1 k))
    (fun k => a12 m c (ix1 k)) (fun k => a13 m c (ix1 k)) (fun k j => a8 m c (ix2 k j)) (fun k => a9 m c (ix1 k)) := rfl

theorem Y0_apply (j : Fin 16) (r k : Fin 512) : Y0 m c j.val (ix2 r k) = fst m c (row j r) k := by
  unfold Y0
  rw [yA_apply]
  simp only [rd0, rd1, rd2, rd3, rd4, rd5, rd6, rd7]
  rfl

/-- A sum over blocks of sums over their rows is the sum over all rows. -/
theorem sum_rows (f : Fin 8192 → EReal) : ∑ j : Fin 16, ∑ t : Fin 512, f (row j t) = ∑ n, f n :=
  (Fin.sum_univ_tiles 16 512 (by norm_num) f).symm

theorem S1_row0 (n : ℕ) (k : Fin 512) : S1 m c n (ix2 0 k) = ∑ j ∈ Finset.range n, ∑ t : Fin 512, Y0 m c j (ix2 t k) := by
  induction n with
  | zero => exact pay8_apply 0 k
  | succ n ih =>
    rw [Finset.sum_range_succ, ← ih]
    exact stA_row0 _ _ _ _ _ _ _ _ _ k

theorem S1_row1 (n : ℕ) (k : Fin 512) : S1 m c n (ix2 1 k) = ∑ j ∈ Finset.range n, ∑ t : Fin 512, Y0 m c j (ix2 t k) * Y0 m c j (ix2 t k) := by
  induction n with
  | zero => exact pay8_apply 1 k
  | succ n ih =>
    rw [Finset.sum_range_succ, ← ih]
    exact stA_row1 _ _ _ _ _ _ _ _ _ k

theorem S1_sum (k : Fin 512) : S1 m c 16 (ix2 0 k) = ∑ n, fst m c n k := by
  rw [S1_row0, Finset.sum_range, ← sum_rows]
  simp only [Y0_apply]

theorem S1_sq (k : Fin 512) : S1 m c 16 (ix2 1 k) = ∑ n, fst m c n k * fst m c n k := by
  rw [S1_row1, Finset.sum_range, ← sum_rows]
  simp only [Y0_apply]

theorem norm1_apply (j : Fin 16) (r k : Fin 512) :
    max (Y0 m c j.val (ix2 r k) * Sc1 m c (ix2 0 k) + Sh1 m c (ix2 0 k)) 0 = nrm1 m c (row j r) k := by
  unfold Sc1 Sh1
  rw [shA_apply, scA_apply, S1_sum, S1_sq, rd12, rd13, Y0_apply]
  rfl

theorem Y1_apply (j : Fin 16) (r k : Fin 512) : Y1 m c j.val (ix2 r k) = snd m c (row j r) k := by
  unfold Y1
  rw [yB_apply]
  simp only [norm1_apply, rd8, rd9]
  rfl

theorem S2_row0 (n : ℕ) (k : Fin 512) : S2 m c n (ix2 0 k) = ∑ j ∈ Finset.range n, ∑ t : Fin 512, Y1 m c j (ix2 t k) := by
  induction n with
  | zero => exact pay18_apply 0 k
  | succ n ih =>
    rw [Finset.sum_range_succ, ← ih]
    exact stB_row0 _ _ _ _ _ _ k

theorem S2_row1 (n : ℕ) (k : Fin 512) : S2 m c n (ix2 1 k) = ∑ j ∈ Finset.range n, ∑ t : Fin 512, Y1 m c j (ix2 t k) * Y1 m c j (ix2 t k) := by
  induction n with
  | zero => exact pay18_apply 1 k
  | succ n ih =>
    rw [Finset.sum_range_succ, ← ih]
    exact stB_row1 _ _ _ _ _ _ k

theorem S2_sum (k : Fin 512) : S2 m c 16 (ix2 0 k) = ∑ n, snd m c n k := by
  rw [S2_row0, Finset.sum_range, ← sum_rows]
  simp only [Y1_apply]

theorem S2_sq (k : Fin 512) : S2 m c 16 (ix2 1 k) = ∑ n, snd m c n k * snd m c n k := by
  rw [S2_row1, Finset.sum_range, ← sum_rows]
  simp only [Y1_apply]

theorem norm2_apply (j : Fin 16) (r k : Fin 512) :
    max (Y1 m c j.val (ix2 r k) * Sc2 m c (ix2 0 k) + Sh2 m c (ix2 0 k)) 0 = nrm2 m c (row j r) k := by
  unfold Sc2 Sh2
  rw [shB_apply, scB_apply, S2_sum, S2_sq, rd14, rd15, Y1_apply]
  rfl

theorem Out_apply (j : Fin 16) (r : Fin 512) (k : Fin 256) : Out m c j.val (ix2 r k) = res m c (row j r) k := by
  unfold Out
  rw [outC_apply]
  simp only [norm2_apply, rd10, rd11]
  rfl

/-- The result's array. -/
def resV : Vec Ideal S8192x256 .f32 := fun y => res m c (y 0) (y 1)

theorem flush16_late : ∀ t : Fin cfg0.N, (cfg0.win 16).flush t = true → 32 ≤ t.val := (by decide +kernel : ∀ t : Fin grid0.N, _)

theorem final : (dats m 0 c).arrAt 16 cfg0.N = (resV m c : Buf (Elt Ideal) ((c.tc : Thread nD τ).loc main_v13)) := by
  refine (dats m 0 c).arrAt_eq_of_covers 16 _ (by decide +kernel) fun t hf y => ?_
  have ht := flush16_late t hf
  have h48 : t.val < 48 := lt_of_lt_of_eq t.isLt N_0
  have e := idx0_16 t ht
  blk_simp
  rw [after0_16]
  have hj : t.val % 16 = (⟨t.val - 32, by omega⟩ : Fin 16).val := by show t.val % 16 = t.val - 32; omega
  obtain ⟨r, k, rfl⟩ : ∃ (r : Fin 512) (k : Fin 256), y = ix2 r k := ⟨y 0, y 1, by idx_ext⟩
  rw [hj]
  refine (Out_apply m c _ r k).trans ?_
  unfold resV
  refine congrArg₂ (res m c) ?_ ?_
  · apply Fin.ext
    unfold row
    blk_simp [e]
  · apply Fin.ext
    blk_simp [e]

end Cert.Proof.Mlp

end
-- ==== Proof.MlpRef.lean ====
/-
  The reference's layers at an index, over ideal values.
-/
module

public import proofs.«01_k».proof.Proof.Gen.MlpReferenceIdeal.Run
public import proofs.«01_k».proof.Proof.MlpMath
public import Idealize.ShloMosaic.Lib.Pointwise
public import Idealize.ShloMosaic.Lib.Claim

@[expose] public section

noncomputable section

namespace Cert.Proof.MlpRef

open Cert.MlpReferenceIdeal Cert.MlpReferenceIdeal.Gen Cert.MlpReferenceIdeal.Value
open Idealize.ShloMosaic Idealize.ShloMosaic.TcCoe Idealize.ShloMosaic.Tactic

variable {F : FTy → Type} [FloatOps F]

/-- The first layer's rows. -/
def rowsA (a0 : Vec F S3x8192x256 .f32) (a1 : Vec F S8192x8 .f32) (a2 : Vec F S8192x3 .f32) (a3 : Vec F S8192x128 .f32) (a4 : Vec F S512x387 .f32) (a5 : Vec F S512 .f32) : FVec F S8192x512 .f32 :=
  (addf (Host.dotGeneral dot_S8192x387_S387x512_S8192x512_1_0_0_1_n_n none ((concatenate S8192x387 1 [⟨S8192x3, (a2 : (⟨S8192x3, .f32⟩ : BufTy).Contents (Elt F))⟩, ⟨S8192x128, (a3 : (⟨S8192x128, .f32⟩ : BufTy).Contents (Elt F))⟩, ⟨S8192x256, ((Host.reduceAdd (mulf a0 (broadcastInDim S3x8192x256 ![0, 1, 2] bcast_S3x8192x1_S3x8192x256_0_1_2 (broadcastInDim S3x8192x1 ![0, 1] bcast_S3x8192_S3x8192x1_0_1 (transpose S3x8192 [1, 0] (extractStridedSlice S8192x3 ![0, 0] a1 slices_S8192x8_S8192x3_0_0) transposes_S8192x3_S3x8192_1_0)))) (constant S_ .f32 0x00000000#32) reducesTo_S3x8192x256_S8192x256_d0 h_S_) : (⟨S8192x256, .f32⟩ : BufTy).Contents (Elt F))⟩] concatenates_S8192x3_S8192x128_S8192x256_S8192x387_d1 : (⟨S8192x387, .f32⟩ : BufTy).Contents (Elt F))) (transpose S387x512 [1, 0] a4 transposes_S512x387_S387x512_1_0)) (broadcastInDim S8192x512 ![0, 1] bcast_S1x512_S8192x512_0_1 (broadcastInDim S1x512 ![1] bcast_S512_S1x512_1 a5)))

/-- Rows normalised over their columns, scaled, shifted, and cut below at zero. -/
def normal (x1 : Vec F S8192x512 .f32) (a10 a11 : Vec F S512 .f32) : FVec F S8192x512 .f32 :=
  (maximumf (addf (mulf (Host.divf (subf x1 (broadcastInDim S8192x512 ![0, 1] bcast_S1x512_S8192x512_0_1 (broadcastInDim S1x512 ![1] bcast_S512_S1x512_1 (Host.divf (Host.reduceAdd x1 (constant S_ .f32 0x00000000#32) reducesTo_S8192x512_S512_d0 h_S_) (broadcastInDim S512 ![] bcast_S_S512 (constant S_ .f32 0x46000000#32)))))) (broadcastInDim S8192x512 ![0, 1] bcast_S1x512_S8192x512_0_1 (broadcastInDim S1x512 ![1] bcast_S512_S1x512_1 (Host.sqrt (addf (select (broadcastInDim S512 ![] bcast_S_S512 (cmpf .ogt (subf (constant S_ .f32 0x46000000#32) (sitofp .f32 (constantI S_ 32 0#32)) : (⟨S_, .f32⟩ : BufTy).Contents (Elt F)) (constant S_ .f32 0x00000000#32))) (Host.divf (Host.reduceAdd (mulf (subf x1 (broadcastInDim S8192x512 ![0, 1] bcast_S1x512_S8192x512_0_1 (Host.divf (broadcastInDim S1x512 ![1] bcast_S512_S1x512_1 (Host.reduceAdd x1 (constant S_ .f32 0x00000000#32) reducesTo_S8192x512_S512_d0 h_S_)) (broadcastInDim S1x512 ![] bcast_S_S1x512 (constant S_ .f32 0x46000000#32))))) (subf x1 (broadcastInDim S8192x512 ![0, 1] bcast_S1x512_S8192x512_0_1 (Host.divf (broadcastInDim S1x512 ![1] bcast_S512_S1x512_1 (Host.reduceAdd x1 (constant S_ .f32 0x00000000#32) reducesTo_S8192x512_S512_d0 h_S_)) (broadcastInDim S1x512 ![] bcast_S_S1x512 (constant S_ .f32 0x46000000#32)))))) (constant S_ .f32 0x00000000#32) reducesTo_S8192x512_S512_d0 h_S_) (broadcastInDim S512 ![] bcast_S_S512 (subf (constant S_ .f32 0x46000000#32) (sitofp .f32 (constantI S_ 32 0#32))))) (broadcastInDim S512 ![] bcast_S_S512 (id (constant S_ .f32 0x7FC00000#32)))) (broadcastInDim S512 ![] bcast_S_S512 (constant S_ .f32 0x3727C5AC#32))))))) (broadcastInDim S8192x512 ![0, 1] bcast_S1x512_S8192x512_0_1 (broadcastInDim S1x512 ![1] bcast_S512_S1x512_1 a10))) (broadcastInDim S8192x512 ![0, 1] bcast_S1x512_S8192x512_0_1 (broadcastInDim S1x512 ![1] bcast_S512_S1x512_1 a11))) (broadcastInDim S8192x512 ![] bcast_S_S8192x512 (constant S_ .f32 0x00000000#32)))

/-- The second layer's rows. -/
def rowsB (z1 : Vec F S8192x512 .f32) (a6 : Vec F S512x512 .f32) (a7 : Vec F S512 .f32) : FVec F S8192x512 .f32 :=
  (addf (Host.dotGeneral dot_S8192x512_S512x512_S8192x512_1_0_0_1_n_n none z1 (transpose S512x512 [1, 0] a6 transposes_S512x512_S512x512_1_0)) (broadcastInDim S8192x512 ![0, 1] bcast_S1x512_S8192x512_0_1 (broadcastInDim S1x512 ![1] bcast_S512_S1x512_1 a7)))

/-- The last layer's rows. -/
def rowsC (z2 : Vec F S8192x512 .f32) (a8 : Vec F S256x512 .f32) (a9 : Vec F S256 .f32) : FVec F S8192x256 .f32 :=
  addf (Host.dotGeneral dot_S8192x512_S512x256_S8192x256_1_0_0_1_n_n none z2 (transpose S512x256 [1, 0] a8 transposes_S256x512_S512x256_1_0)) (broadcastInDim S8192x256 ![0, 1] bcast_S1x256_S8192x256_0_1 (broadcastInDim S1x256 ![1] bcast_S256_S1x256_1 a9))

/-- The reference's result, layer by layer. -/
theorem result_eq (m : (ℓ : Loc nD τ sig) → Buf (Elt F) ℓ) (c : Dev nD) :
    res_main_v63 m c = rowsC (normal (rowsB (normal (rowsA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg10)) (m ((c.tc : Thread nD τ).loc main_arg11))) (m ((c.tc : Thread nD τ).loc main_arg6)) (m ((c.tc : Thread nD τ).loc main_arg7))) (m ((c.tc : Thread nD τ).loc main_arg12)) (m ((c.tc : Thread nD τ).loc main_arg13))) (m ((c.tc : Thread nD τ).loc main_arg8)) (m ((c.tc : Thread nD τ).loc main_arg9)) := rfl

section ideal

open MlpMath

theorem rowsA_apply (a0 : Vec Ideal S3x8192x256 .f32) (a1 : Vec Ideal S8192x8 .f32) (a2 : Vec Ideal S8192x3 .f32) (a3 : Vec Ideal S8192x128 .f32) (a4 : Vec Ideal S512x387 .f32) (a5 : Vec Ideal S512 .f32) (n : Fin 8192) (k : Fin 512) :
    rowsA a0 a1 a2 a3 a4 a5 (ix2 n k) = first (fun j n x => a0 (ix3 j n x)) (fun n j => a1 (ix2 n j)) (fun n j => a2 (ix2 n j)) (fun n j => a3 (ix2 n j)) (fun k j => a4 (ix2 k j)) (fun k => a5 (ix1 k)) n k := by
  pointwise [rowsA]
  pointwise [sumSplitAll]
  unfold first
  refine congrArg (· + a5 (ix1 k)) ?_
  rw [add_comm, add_comm (∑ x : Fin 128, _)]
  refine congrArg₂ (· + ·) (congrArg₂ (· + ·) (Finset.sum_congr rfl fun x _ => ?_) rfl) (Fin.sum_univ_three _)
  refine congrArg₂ (· * ·) ?_ ?_
  · rw [Fin.sum_univ_three, mul_comm, mul_comm (a0 (ix3 1 n x)), mul_comm (a0 (ix3 2 n x))]
    rfl
  · congr 2
    apply Fin.ext
    show 3 + (128 + x.val) = 131 + x.val
    omega

theorem var_guard (v j : EReal) :
    (if (0 : EReal) < Ideal.ofBits FTy.f32 0x46000000#32 - FloatOps.sitofp (F := Ideal) FTy.f32 0#32 then
      Ideal.div v (Ideal.ofBits FTy.f32 0x46000000#32 - FloatOps.sitofp (F := Ideal) FTy.f32 0#32) else j) = Ideal.div v numN := by
  have h0 : (FloatOps.sitofp (F := Ideal) FTy.f32 (0#32) : EReal) = 0 := by
    show (((0#32 : BitVec 32).toInt : ℝ) : EReal) = 0
    simp
  have h1 : Ideal.ofBits FTy.f32 0x46000000#32 - (FloatOps.sitofp (F := Ideal) FTy.f32 (0#32) : EReal) = numN := by
    rw [h0, sub_zero]
  rw [h1, if_pos]
  rw [numN_eq]; norm_num

theorem normal_apply (x1 : Vec Ideal S8192x512 .f32) (a10 a11 : Vec Ideal S512 .f32) (n : Fin 8192) (k : Fin 512) :
    normal x1 a10 a11 (ix2 n k) = columns bnR (fun n k => x1 (ix2 n k)) (fun k => a10 (ix1 k)) (fun k => a11 (ix1 k)) n k := by
  pointwise [normal]
  rw [var_guard]
  rfl

theorem rowsB_apply (z1 : Vec Ideal S8192x512 .f32) (a6 : Vec Ideal S512x512 .f32) (a7 : Vec Ideal S512 .f32) (n : Fin 8192) (k : Fin 512) :
    rowsB z1 a6 a7 (ix2 n k) = dense (fun n k => z1 (ix2 n k)) (fun k j => a6 (ix2 k j)) (fun k => a7 (ix1 k)) n k := by
  pointwise [rowsB]
  rfl

theorem rowsC_apply (z2 : Vec Ideal S8192x512 .f32) (a8 : Vec Ideal S256x512 .f32) (a9 : Vec Ideal S256 .f32) (n : Fin 8192) (k : Fin 256) :
    rowsC z2 a8 a9 (ix2 n k) = dense (fun n k => z2 (ix2 n k)) (fun k j => a8 (ix2 k j)) (fun k => a9 (ix1 k)) n k := by
  pointwise [rowsC]
  rfl

/-- The reference's result at an index. -/
theorem result_apply (a0 : Vec Ideal S3x8192x256 .f32) (a1 : Vec Ideal S8192x8 .f32) (a2 : Vec Ideal S8192x3 .f32) (a3 : Vec Ideal S8192x128 .f32) (a4 : Vec Ideal S512x387 .f32) (a5 : Vec Ideal S512 .f32)
    (a6 : Vec Ideal S512x512 .f32) (a7 : Vec Ideal S512 .f32) (a8 : Vec Ideal S256x512 .f32) (a9 : Vec Ideal S256 .f32) (a10 a11 a12 a13 : Vec Ideal S512 .f32) (n : Fin 8192) (k : Fin 256) :
    rowsC (normal (rowsB (normal (rowsA a0 a1 a2 a3 a4 a5) a10 a11) a6 a7) a12 a13) a8 a9 (ix2 n k)
      = layers3 bnR (first (fun j n x => a0 (ix3 j n x)) (fun n j => a1 (ix2 n j)) (fun n j => a2 (ix2 n j)) (fun n j => a3 (ix2 n j)) (fun k j => a4 (ix2 k j)) (fun k => a5 (ix1 k)))
          (fun k => a10 (ix1 k)) (fun k => a11 (ix1 k)) (fun k j => a6 (ix2 k j)) (fun k => a7 (ix1 k)) (fun k => a12 (ix1 k)) (fun k => a13 (ix1 k)) (fun k j => a8 (ix2 k j)) (fun k => a9 (ix1 k)) n k := by
  unfold layers3
  simp only [rowsC_apply, normal_apply, rowsB_apply, rowsA_apply]

end ideal

end Cert.Proof.MlpRef

end
-- ==== Proof.MlpFinite.lean ====
/-
  The precondition read back: the arguments it names are real at every index.
-/
module

public import proofs.«01_k».proof.Proof.Gen.Pre_mlp_finite
public import proofs.«01_k».proof.Proof.MlpMath
public import Idealize.ShloMosaic.Lib.ReduceAll
public import Idealize.ShloMosaic.Lib.Pointwise

@[expose] public section

noncomputable section

namespace Cert.Proof.MlpFinite

open Cert.Pre_mlp_finite Cert.Pre_mlp_finite.Gen
open Idealize.ShloMosaic Idealize.ShloMosaic.TcCoe Idealize.ShloMosaic.Tactic
open MlpMath (IsReal)

instance : Subsingleton S_.Idx := ⟨fun _ _ => funext fun a => a.elim0⟩

theorem ofBits_inf : Ideal.ofBits .f32 0x7F800000#32 = ⊤ := by
  simp [Ideal.ofBits, Ideal.ieee]

/-- All entries' absolute values are below the infinity: every entry is real. -/
theorem real_of {s u : Shape} {axes : List (Fin s.rank)} (x : FVec Ideal s .f32) (hb : S_.BroadcastsInDim s ![]) (init : u.Idx → BitVec 1) (h : s.ReducesTo axes S_) (hu : 0 < u.numel) (j : S_.Idx)
    (e : Host.reduce IntOp.andi (cmpf .olt (Host.absf x) (broadcastInDim s ![] hb (constant (F := Ideal) S_ .f32 0x7F800000#32))) init h hu j = 1#1) (i : s.Idx) :
    IsReal (x i) := by
  have h1 := Host.reduce_andi_all _ init h hu j e i
  have h2 : Ideal.cmp .olt (max (x i) (-(x i))) (Ideal.ofBits .f32 0x7F800000#32) = 1#1 := h1
  rw [ofBits_inf] at h2
  refine IsReal.of_abs_lt ?_
  by_contra hn
  simp [Ideal.cmp, hn] at h2

/-- What the precondition says of the arguments. -/
structure Reals (a0 : FVec Ideal S3x8192x256 .f32) (a1 : FVec Ideal S8192x8 .f32) (a2 : FVec Ideal S8192x3 .f32) (a3 : FVec Ideal S8192x128 .f32) (a4 : FVec Ideal S512x387 .f32) (a5 : FVec Ideal S512 .f32)
    (a6 : FVec Ideal S512x512 .f32) (a7 a10 a11 a12 : FVec Ideal S512 .f32) : Prop where
  h0 : ∀ i, IsReal (a0 i)
  h1 : ∀ (n : Fin 8192) (j : Fin 3), IsReal (a1 (ix2 n ⟨j.val, by omega⟩))
  h2 : ∀ i, IsReal (a2 i)
  h3 : ∀ i, IsReal (a3 i)
  h4 : ∀ i, IsReal (a4 i)
  h5 : ∀ i, IsReal (a5 i)
  h6 : ∀ i, IsReal (a6 i)
  h7 : ∀ i, IsReal (a7 i)
  h10 : ∀ i, IsReal (a10 i)
  h11 : ∀ i, IsReal (a11 i)
  h12 : ∀ i, IsReal (a12 i)

theorem reals_of_pre (a0 : FVec Ideal S3x8192x256 .f32) (a1 : FVec Ideal S8192x8 .f32) (a2 : FVec Ideal S8192x3 .f32) (a3 : FVec Ideal S8192x128 .f32) (a4 : FVec Ideal S512x387 .f32) (a5 : FVec Ideal S512 .f32)
    (a6 : FVec Ideal S512x512 .f32) (a7 : FVec Ideal S512 .f32) (a8 : FVec Ideal S256x512 .f32) (a9 : FVec Ideal S256 .f32) (a10 a11 a12 a13 : FVec Ideal S512 .f32)
    (h : Cert.Pre_mlp_finite.fn (F := Ideal) a0 a1 a2 a3 a4 a5 a6 a7 a8 a9 a10 a11 a12 a13 = fun _ => 1#1) : Reals a0 a1 a2 a3 a4 a5 a6 a7 a10 a11 a12 := by
  have e := congrFun h ix0
  simp only [fn, fn_part1, fn_part2, fn_part3, andi, IntOp.andi_eq_one] at e
  obtain ⟨⟨⟨⟨⟨⟨⟨⟨⟨⟨e0, e1⟩, e2⟩, e3⟩, e4⟩, e5⟩, e6⟩, e7⟩, e10⟩, e11⟩, e12⟩ := e
  refine ⟨real_of _ _ _ _ _ _ e0, fun n j => ?_, real_of _ _ _ _ _ _ e2, real_of _ _ _ _ _ _ e3, real_of _ _ _ _ _ _ e4, real_of _ _ _ _ _ _ e5, real_of _ _ _ _ _ _ e6, real_of _ _ _ _ _ _ e7,
    real_of _ _ _ _ _ _ e10, real_of _ _ _ _ _ _ e11, real_of _ _ _ _ _ _ e12⟩
  have hs : extractStridedSlice S8192x3 ![0, 0] a1 slices_S8192x8_S8192x3_0_0 (ix2 n j) = a1 (ix2 n ⟨j.val, by omega⟩) := by pointwise []
  exact hs ▸ real_of _ _ _ _ _ _ e1 (ix2 n j)

end Cert.Proof.MlpFinite

end
-- ==== Proof.MlpSame.lean ====
/-
  The two programs of the layers: the kernel's run with its result's contents, and that contents the reference's at real arguments.
-/
module

public import proofs.«01_k».proof.Proof.MlpValues
public import proofs.«01_k».proof.Proof.MlpRef
public import proofs.«01_k».proof.Proof.MlpFinite

@[expose] public section

noncomputable section

namespace Cert.Proof.Mlp

open Cert.MlpIdeal Cert.MlpIdeal.Gen
open Idealize.ShloMosaic Idealize.ShloMosaic.TcCoe Idealize.ShloMosaic.Tactic Idealize.SL.Sem
open MlpMath

variable (m : (ℓ : Loc nD τ sig) → Buf (Elt Ideal) ℓ)

/-- The kernel's run: its result is the three layers of the arguments, the arguments end unchanged. -/
theorem value_run (ρ : Dev nD → PrngReg) : θ_run defs (onTc (τ := τ) (main (F := Ideal))) ⟨m, fun _ => 0, ρ⟩ (fun r => ∀ c : Dev nD,
      r.2.mem ((c.tc : Thread nD τ).loc main_v13) = (resV m c : Buf (Elt Ideal) ((c.tc : Thread nD τ).loc main_v13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h.1.out_eq c 16).trans (final m c), h.2 c⟩) (θ_run_and (run_main m ρ) (unchanged m ρ))

/-- At real arguments the reference's layers are the kernel's. -/
theorem value_same (c : Dev nD) (h : Cert.Pre_mlp_finite.fn (F := Ideal) (a0 m c) (a1 m c) (a2 m c) (a3 m c) (a4 m c) (a5 m c) (a6 m c) (a7 m c) (a8 m c) (a9 m c) (a10 m c) (a11 m c) (a12 m c) (a13 m c) = fun _ => 1#1) :
    MlpRef.rowsC (MlpRef.normal (MlpRef.rowsB (MlpRef.normal (MlpRef.rowsA (a0 m c) (a1 m c) (a2 m c) (a3 m c) (a4 m c) (a5 m c)) (a10 m c) (a11 m c)) (a6 m c) (a7 m c)) (a12 m c) (a13 m c)) (a8 m c) (a9 m c)
      = resV m c := by
  have hr := MlpFinite.reals_of_pre _ _ _ _ _ _ _ _ _ _ _ _ _ _ h
  funext y
  obtain ⟨n, k, rfl⟩ : ∃ (n : Fin 8192) (k : Fin 256), y = ix2 n k := ⟨y 0, y 1, by idx_ext⟩
  refine (MlpRef.result_apply _ _ _ _ _ _ _ _ _ _ _ _ _ _ n k).trans ?_
  show _ = res m c n k
  rw [res_eq]
  refine (congrFun (congrFun (layers3_eq _ _ _ (fun n k => ?_) (fun k => hr.h10 _) (fun k => hr.h11 _) (fun k j => hr.h6 _) (fun k => hr.h7 _) (fun k => hr.h12 _)) n) k).symm
  exact first_real (fun j n x => hr.h0 _) (fun n => hr.h1 n 0) (fun n => hr.h1 n 1) (fun n => hr.h1 n 2) (fun n j => hr.h2 _) (fun n j => hr.h3 _) (fun k j => hr.h4 _) (fun k => hr.h5 _) n k

end Cert.Proof.Mlp

end
-- ==== Proof.TopRun.lean ====
module

public import proofs.«01_k».proof.Proof.Gen.TopIdeal.Frame
public import proofs.«01_k».proof.Proof.Gen.TopIdeal.Skeleton
public import proofs.«01_k».proof.Proof.MlpBody
public import Idealize.ShloMosaic.Lib.Pipeline.DatRel
public import Idealize.ShloMosaic.Lib.Pipeline.ArrRel
public import Idealize.ShloMosaic.Lib.Claim

@[expose] public section

noncomputable section

namespace Cert.Proof.Top

open Cert.TopIdeal Cert.TopIdeal.Gen
open Cert.Proof.Mlp (layers read_writes_layers)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F] [Named F]

local notation "𝕄" => MT nD τ sig Unit (Elt F) ℕ (UR sig nD τ) ℕ

/-! ## What one point computes, of its block of queries and of the keys -/

abbrev rQ : Rect S512x3 := Rect.unit ![0, 0] S512x3.size inb_S512x3_S512x3_0_0
abbrev rK0 : Rect S8x2048 := Rect.unit ![0, 0] S1x2048.size inb_S8x2048_S1x2048_0_0
abbrev rK1 : Rect S8x2048 := Rect.unit ![1, 0] S1x2048.size inb_S8x2048_S1x2048_1_0
abbrev rK2 : Rect S8x2048 := Rect.unit ![2, 0] S1x2048.size inb_S8x2048_S1x2048_2_0
abbrev rC0 : Rect S512x8 := Rect.unit ![0, 0] S512x1.size inb_S512x8_S512x1_0_0
abbrev rC1 : Rect S512x8 := Rect.unit ![0, 1] S512x1.size inb_S512x8_S512x1_0_1
abbrev rC2 : Rect S512x8 := Rect.unit ![0, 2] S512x1.size inb_S512x8_S512x1_0_2
abbrev rI : Rect S4x512 := Rect.unit ![0, 0] S4x512.size inb_S4x512_S4x512_0_0

/-- The least squared distance of each query, -/
def m0 (q : Vec F S512x3 .f32) (k : Vec F S8x2048 .f32) : FVec F S512 .f32 :=
  k0_pay4 (View.ld q rQ) (View.ld k rK0) (View.ld k rK1) (View.ld k rK2)
/-- the key it is at, -/
def i0 (q : Vec F S512x3 .f32) (k : Vec F S8x2048 .f32) : FVec F S512 .f32 :=
  k0_pay6 (View.ld q rQ) (View.ld k rK0) (View.ld k rK1) (View.ld k rK2)
/-- the squared distances with that one masked, -/
def d1 (q : Vec F S512x3 .f32) (k : Vec F S8x2048 .f32) : FVec F S512x2048 .f32 :=
  k0_pay7 (View.ld q rQ) (View.ld k rK0) (View.ld k rK1) (View.ld k rK2)
/-- the least of these, -/
def m1 (q : Vec F S512x3 .f32) (k : Vec F S8x2048 .f32) : FVec F S512 .f32 :=
  k0_pay8 (View.ld q rQ) (View.ld k rK0) (View.ld k rK1) (View.ld k rK2)
/-- the same as a column. -/
def m1c (q : Vec F S512x3 .f32) (k : Vec F S8x2048 .f32) : FVec F S512x1 .f32 :=
  k0_pay9 (View.ld q rQ) (View.ld k rK0) (View.ld k rK1) (View.ld k rK2)
/-- The block of neighbours. -/
def near (q : Vec F S512x3 .f32) (k : Vec F S8x2048 .f32) : Vec F S4x512 .i32 :=
  k0_pay1 (i0 q k) (k0_pay11 k0_pay3 (d1 q k) (m1c q k)) (k0_pay14 k0_pay3 (d1 q k) (m1c q k))
/-- The three columns of weights. -/
def wt0 (q : Vec F S512x3 .f32) (k : Vec F S8x2048 .f32) : Vec F S512x1 .f32 := k0_pay19 (m0 q k) (d1 q k) (m1 q k) (m1c q k)
def wt1 (q : Vec F S512x3 .f32) (k : Vec F S8x2048 .f32) : Vec F S512x1 .f32 := k0_pay20 (m0 q k) (d1 q k) (m1 q k) (m1c q k)
def wt2 (q : Vec F S512x3 .f32) (k : Vec F S8x2048 .f32) : Vec F S512x1 .f32 := k0_pay21 (m0 q k) (d1 q k) (m1 q k) (m1c q k)

theorem layers_rI (X w : Vec F S4x512 .i32) : layers X [⟨rI, w⟩] = w := by
  funext y
  have h : rI.emb y = y := by
    funext a
    apply Fin.ext
    show (![0, 0] : Fin 2 → Nat) a + 1 * (y a).val = (y a).val
    fin_cases a <;> simp
  conv_lhs => rw [← h]
  exact rI.overlay_emb _ _ y

section Body

variable (arg1 : Memref sig .tc .vmem S512x3 .f32) (harg1 : arg1.IsWhole) (arg2 : Memref sig .tc .vmem S8x2048 .f32) (harg2 : arg2.IsWhole)
  (arg3 : Memref sig .tc .vmem S4x512 .i32) (harg3 : arg3.IsWhole) (arg4 : Memref sig .tc .vmem S512x8 .f32) (harg4 : arg4.IsWhole)

set_option maxHeartbeats 1600000 in
/-- One point: the neighbours are written whole, of the weights the first three columns. -/
theorem point (c : Dev nD) (E : Set ℕ) (i : grid0.Coords)
    (x1 : Vec F S512x3 .f32) (x2 : Vec F S8x2048 .f32) (x3 : Vec F S4x512 .i32) (x4 : Vec F S512x8 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ ((owns (c : Thread nD τ) arg1 fullShare x1 ∗ owns (c : Thread nD τ) arg2 fullShare x2 ∗ owns (c : Thread nD τ) arg3 fullShare (near x1 x2)
            ∗ owns (c : Thread nD τ) arg4 fullShare (layers x4 [⟨rC2, wt2 x1 x2⟩, ⟨rC1, wt1 x1 x2⟩, ⟨rC0, wt0 x1 x2⟩])) -∗ K ⟨⟩))
      ⊢ wp frame (wpE (defs₀ (F := F)) Variants.none c none) E (cc0__top3_kernel i arg1 harg1 arg2 harg2 arg3 harg3 arg4 harg4) K := by
  simp only [cc0__top3_kernel_eq_skeleton]; unfold cc0__top3_kernel_skel
  simp only [k0_part1_eq_skeleton, k0_part2_eq_skeleton]
  unfold k0_part1_skel k0_part2_skel
  unfold owns
  iintro ⟨⟨%f1, %hf1, H1⟩, ⟨%f2, %hf2, H2⟩, ⟨%f3, %hf3, H3⟩, ⟨%f4, %hf4, H4⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_layers _ _ _).trans ?_
    sl_unfold_run_names
    simp only [View.readAt_eq_ld]
    refine (layers_rI _ _).trans ?_
    rfl
  iexists _; isplitr
  swap; · iexact H4
  ipureintro
  refine (read_writes_layers _ _ _).trans ?_
  sl_unfold_run_names
  simp only [View.readAt_eq_ld]
  rfl

end Body

variable (m : (ℓ : Loc nD τ sig) → Buf (Elt F) ℓ) (ρ : Dev nD → PrngReg)

/-! ## The pipeline's proof data -/

/-- What the buffer of weights may hold after point `t`: anything under the three columns of the point. -/
def Wts (c : Dev nD) (t : Fin cfg0.N) (X : Vec F S512x8 .f32) : Prop :=
  ∃ X₀ : Vec F S512x8 .f32, X = layers X₀ [⟨rC2, wt2 (iblk m c 0 t) (iblk m c 1 t)⟩, ⟨rC1, wt1 (iblk m c 0 t) (iblk m c 1 t)⟩, ⟨rC0, wt0 (iblk m c 0 t) (iblk m c 1 t)⟩]

/-- The proof data on core `c`: each input's buffer is left at its block, the neighbours' at the point's; the weights' is marked below. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => near (iblk m c 0 t) (iblk m c 1 t)
    | ⟨3, _⟩ => iblk m c 3 t
    | ⟨n + 4, h⟩ => absurd (show n + 4 < 4 from h) (by omega)
  Φ _ := Pipeline.ΦA spec0 c
  q _ := fullShare
  owed _ := 0

/-- The weights' window is the marked one, -/
def marked (w : Fin cfg0.W) : Bool := match w with
  | ⟨3, _⟩ => true
  | _ => false

/-- held to `Wts`. -/
def Held (c : Dev nD) (w : Fin cfg0.W) (t : Fin cfg0.N) (X : (cfg0.win w).block.Idx → Elt F (cfg0.win w).elt) : Prop := match w, X with
  | ⟨3, _⟩, X => Wts m c t X
  | _, _ => True

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = near (iblk m c 0 t) (iblk m c 1 t) := by dsimp only [dats]
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d

/-- The relational data. -/
abbrev rdats (c : Dev nD) : RDat τ (Elt F) Unit ℕ (UR sig nD τ) ℕ cfg0 c := (dats m c).toRRel marked (Held m c)

theorem sound_body (c : Dev nD) (t : Fin cfg0.N) :
    iprop(Pipeline.ΦA spec0 c ∗ (dats m c).owesAt () t.castSucc
        ∗ (∃ d, owns (c : Thread nD τ) (st0_0 t) fullShare ((dats m c).before 0 t d))
        ∗ (∃ d, owns (c : Thread nD τ) (st0_1 t) fullShare ((dats m c).before 1 t d))
        ∗ (∃ d, owns (c : Thread nD τ) (st0_2 t) fullShare ((dats m c).before 2 t d))
        ∗ (∃ Y, ⌜(rdats m c).Finds 3 t Y⌝ ∗ owns (c : Thread nD τ) (st0_3 t) fullShare Y))
      ⊢ wp frame (wpE (defs₀ (F := F)) Variants.none c none) Set.univ (bodyAt0 t) fun _ =>
        iprop(Pipeline.ΦA spec0 c ∗ (dats m c).owesAt () t.succ
          ∗ owns (c : Thread nD τ) (st0_0 t) fullShare ((dats m c).after 0 t)
          ∗ owns (c : Thread nD τ) (st0_1 t) fullShare ((dats m c).after 1 t)
          ∗ owns (c : Thread nD τ) (st0_2 t) fullShare ((dats m c).after 2 t)
          ∗ (∃ X, ⌜Wts m c t X⌝ ∗ owns (c : Thread nD τ) (st0_3 t) fullShare X)) := by
  simp only [before0_0, before0_1, after0_0, after0_1, after0_2]
  rw [show (dats m c).owesAt () t.succ = (dats m c).owesAt () t.castSucc from rfl]
  iintro ⟨HΦ, Ho, ⟨%d0, H0⟩, ⟨%d1, H1⟩, ⟨%d2, H2⟩, ⟨%Y, %hY, H3⟩⟩
  iapply (point _ _ _ _ _ _ _ _ c Set.univ (grid0.coords t) (iblk m c 0 t) (iblk m c 1 t) _ Y _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexists _; isplitr
  swap; · iexact H3
  ipureintro
  exact ⟨Y, rfl⟩

theorem body_obligation (c : Dev nD) : BodyObligationRel (dats (F := F) m c) (defs₀ (F := F)) Variants.none () Set.univ marked (Held m c) := fun t => by
  rw [bigSep_W0, bigSep_W0]
  exact sound_body m c t

-- the run lemma's implicit arguments are found by unfolding plain definitions in a type
set_option backward.isDefEq.respectTransparency.types false in
/-- The run: every array of the pipeline ends as the proof data allow, and every semaphore counter at zero. -/
theorem run_main_quiescent : θ_run defs (onTc (τ := τ) (main (F := F))) (s₀ m ρ) (fun r => (Pipeline.RDat.FramePost (cfgs 0) (rdats m) (V m)) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m c).share_full fun _ => rfl)
    (howed := fun _ _ => rfl) (V := V m) (hmain := hmain m Variants.none) (hA := A_eq m) (hin := fun _ => .rfl) (hout := fun _ => .rfl)

/-- Of such an end, the arguments are as they were. -/
theorem args_of {r : PUnit × MemSt nD τ sig (Elt F)} (h : Pipeline.RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    ((RDat.FramePost.arr_in h c 0 rfl).trans (A_eq m c 0)).trans (V_main_arg1 m c)⟩

/-- The frame, at any `F`. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨args_of m h.1, h.2⟩) (run_main_quiescent m ρ)

end Cert.Proof.Top

end
-- ==== Proof.TopMath.lean ====
/-
  Three rounds of minimum and mask over extended reals, and the first three places of a stable sort: where the three least entries
  differ and are not infinite the rounds find the same places and the same values.
-/
module

public import Idealize.ShloMosaic.Lib.SortPrefix
public import Idealize.ShloMosaic.PureOps.Ideal

@[expose] public section

noncomputable section

namespace Cert.Proof.TopMath

open Idealize.ShloMosaic

/-! ## The stable sort's order -/

/-- On a list in increasing order of position, sorting by a key alone is sorting by the key and then the position. -/
theorem stableSort_key {n : Nat} (B R : Fin n → Fin n → Bool) (h : ∀ a b, a < b → R b a = B b a) :
    ∀ l : List (Fin n), l.Pairwise (· < ·) → stableSort R l = stableSort B l
  | [], _ => rfl
  | a :: l, hl => by
    rw [List.pairwise_cons] at hl
    unfold stableSort
    rw [stableSort_key B R h l hl.2]
    exact insertBefore_congr R B a _ fun b hb => h a b (hl.1 b ((perm_stableSort B l).mem_iff.mp hb))

/-- The key and then the position. -/
def keyed {n : Nat} (S : Fin n → EReal) (a b : Fin n) : Bool := decide (S a < S b) || (decide (S a = S b) && decide (a < b))

theorem keyed_total {n : Nat} (S : Fin n → EReal) : StrictTotalBefore (keyed S) := by
  refine StrictTotalBefore.of_key_then_position (fun a b => decide (a < b)) S (fun a => by simp) (fun a b c h1 h2 => ?_) fun a b => ?_
  · simp only [decide_eq_true_eq] at *; exact h1.trans h2
  · simp only [decide_eq_true_eq]; exact lt_trichotomy a b

/-- Of two places of the sort by a key, the earlier holds the smaller key, or the same key from an earlier position. -/
theorem sortedFrom_order {n : Nat} (S : Fin n → EReal) (i j : Fin n) (hij : i < j) :
    S (sortedFrom (fun a b => decide (S a < S b)) i) < S (sortedFrom (fun a b => decide (S a < S b)) j)
      ∨ S (sortedFrom (fun a b => decide (S a < S b)) i) = S (sortedFrom (fun a b => decide (S a < S b)) j)
        ∧ sortedFrom (fun a b => decide (S a < S b)) i < sortedFrom (fun a b => decide (S a < S b)) j := by
  set R : Fin n → Fin n → Bool := fun a b => decide (S a < S b) with hR
  have hs : sortPositions n R = stableSort (keyed S) (List.finRange n) :=
    stableSort_key (keyed S) R (fun a b hab => by simp [hR, keyed, not_lt.mpr hab.le]) _ (List.pairwise_lt_finRange n)
  have hp : (sortPositions n R).Pairwise fun a b => keyed S b a = false := by
    rw [hs]; exact (keyed_total S).sorted_stableSort _
  have hf : keyed S (sortedFrom R j) (sortedFrom R i) = false := by
    have h := List.pairwise_iff_get.mp hp
    unfold sortedFrom
    exact h _ _ hij
  have hne : sortedFrom R i ≠ sortedFrom R j := fun h => hij.ne (sortedFrom_injective R h)
  rcases (keyed_total S).total _ _ hne with h | h
  · simpa [keyed] using h
  · rw [hf] at h; exact absurd h (by decide)

/-! ## Three nearest -/

/-- `a`, `b`, `c` are the first three places of `D` sorted, their entries different and not infinite. -/
structure Nearest {n : Nat} (D : Fin n → EReal) (a b c : Fin n) : Prop where
  ab : D a < D b
  bc : D b < D c
  top : D c < ⊤
  rest : ∀ x, x ≠ a → x ≠ b → x ≠ c → D c < D x ∨ D c = D x ∧ c < x

/-- The least entry. -/
def least {n : Nat} (D : Fin n → EReal) : EReal := Finset.univ.fold min ⊤ D

theorem least_eq {n : Nat} {D : Fin n → EReal} (a : Fin n) (h : ∀ x, D a ≤ D x) : least D = D a :=
  le_antisymm ((Finset.le_fold_min _).mp le_rfl |>.2 a (Finset.mem_univ a)) ((Finset.le_fold_min _).mpr ⟨le_top, fun x _ => h x⟩)

/-- The entries with those equal to `v` masked. -/
def mask {n : Nat} (D : Fin n → EReal) (v : EReal) (x : Fin n) : EReal := if D x = v then ⊤ else D x

/-- The least position, as a number, whose entry is `v`. -/
def place {n : Nat} (D : Fin n → EReal) (v : EReal) : EReal := least fun x : Fin n => if D x = v then ((x.val : ℝ) : EReal) else ((2048 : ℝ) : EReal)

theorem place_eq {D : Fin 2048 → EReal} {v : EReal} (a : Fin 2048) (ha : D a = v) (h : ∀ x, D x = v → a ≤ x) : place D v = ((a.val : ℝ) : EReal) := by
  unfold place
  refine (least_eq a fun x => ?_).trans (by rw [if_pos ha])
  rw [if_pos ha]
  split
  · rename_i hx
    exact_mod_cast h x hx
  · exact_mod_cast a.isLt.le

section rounds

variable {D : Fin 2048 → EReal} {a b c : Fin 2048} (h : Nearest D a b c)
include h

theorem Nearest.le_rest (x : Fin 2048) (ha : x ≠ a) (hb : x ≠ b) : D c ≤ D x := by
  by_cases hc : x = c
  · rw [hc]
  · rcases h.rest x ha hb hc with h | h
    · exact h.le
    · exact h.1.le

theorem Nearest.lt_a (x : Fin 2048) (ha : x ≠ a) : D a < D x := by
  by_cases hb : x = b
  · rw [hb]; exact h.ab
  · exact (h.ab.trans h.bc).trans_le (h.le_rest x ha hb)

theorem Nearest.lt_b (x : Fin 2048) (ha : x ≠ a) (hb : x ≠ b) : D b < D x := h.bc.trans_le (h.le_rest x ha hb)

theorem Nearest.least0 : least D = D a := least_eq a fun x => by
  by_cases hx : x = a
  · rw [hx]
  · exact (h.lt_a x hx).le

theorem Nearest.at0 (x : Fin 2048) : D x = D a ↔ x = a :=
  ⟨fun e => by_contra fun hx => (h.lt_a x hx).ne' e, fun e => by rw [e]⟩

theorem Nearest.place0 : place D (D a) = ((a.val : ℝ) : EReal) := place_eq a rfl fun x hx => ((h.at0 x).1 hx).ge

theorem Nearest.mask0 (x : Fin 2048) : mask D (D a) x = if x = a then ⊤ else D x := by
  unfold mask; simp only [h.at0]

theorem Nearest.b_ne : b ≠ a := fun e => h.ab.ne' (by rw [e])
theorem Nearest.c_ne : c ≠ a := fun e => (h.ab.trans h.bc).ne' (by rw [e])
theorem Nearest.c_ne' : c ≠ b := fun e => h.bc.ne' (by rw [e])

theorem Nearest.mask0_b : mask D (D a) b = D b := by rw [h.mask0, if_neg h.b_ne]

theorem Nearest.lt_mask0 (x : Fin 2048) (hx : x ≠ b) : D b < mask D (D a) x := by
  rw [h.mask0]
  split
  · exact h.bc.trans h.top
  · rename_i ha; exact h.lt_b x ha hx

theorem Nearest.least1 : least (mask D (D a)) = D b := (least_eq b fun x => by
  by_cases hx : x = b
  · rw [hx]
  · rw [h.mask0_b]; exact (h.lt_mask0 x hx).le).trans h.mask0_b

theorem Nearest.at1 (x : Fin 2048) : mask D (D a) x = D b ↔ x = b :=
  ⟨fun e => by_contra fun hx => (h.lt_mask0 x hx).ne' e, fun e => by rw [e, h.mask0_b]⟩

theorem Nearest.place1 : place (mask D (D a)) (D b) = ((b.val : ℝ) : EReal) := place_eq b h.mask0_b fun x hx => ((h.at1 x).1 hx).ge

theorem Nearest.mask1 (x : Fin 2048) : mask (mask D (D a)) (D b) x = if x = b then ⊤ else if x = a then ⊤ else D x := by
  rw [mask]; simp only [h.at1]; rw [h.mask0]

theorem Nearest.mask1_c : mask (mask D (D a)) (D b) c = D c := by rw [h.mask1, if_neg h.c_ne', if_neg h.c_ne]

theorem Nearest.le_mask1 (x : Fin 2048) : D c ≤ mask (mask D (D a)) (D b) x := by
  rw [h.mask1]
  split_ifs with hb ha
  · exact le_top
  · exact le_top
  · exact h.le_rest x ha hb

theorem Nearest.least2 : least (mask (mask D (D a)) (D b)) = D c := (least_eq c fun x => by rw [h.mask1_c]; exact h.le_mask1 x).trans h.mask1_c

theorem Nearest.place2 : place (mask (mask D (D a)) (D b)) (D c) = ((c.val : ℝ) : EReal) := place_eq c h.mask1_c fun x hx => by
  rw [h.mask1] at hx
  split_ifs at hx with hb ha
  · exact absurd hx.symm h.top.ne
  · exact absurd hx.symm h.top.ne
  · by_cases hc : x = c
    · rw [hc]
    · rcases h.rest x ha hb hc with hr | hr
      · exact absurd hx hr.ne'
      · exact hr.2.le

end rounds

/-! ## Squared distances and their roots -/

theorem sq_comm (x y : EReal) : (x - y) * (x - y) = (y - x) * (y - x) := by
  induction x using EReal.rec <;> induction y using EReal.rec <;> try rfl
  rw [← EReal.coe_sub, ← EReal.coe_sub, ← EReal.coe_mul, ← EReal.coe_mul]
  congr 1; ring

theorem sq_nonneg (x : EReal) : 0 ≤ x * x := by
  induction x using EReal.rec with
  | bot => simp
  | top => simp
  | coe r => rw [← EReal.coe_mul]; exact_mod_cast mul_self_nonneg r

theorem sqrt_lt {x y : EReal} (hx : 0 ≤ x) (hy : 0 ≤ y) : Ideal.sqrt x < Ideal.sqrt y ↔ x < y := by
  induction x using EReal.rec with
  | bot => simp at hx
  | top => simp
  | coe r =>
    have hr : 0 ≤ r := by exact_mod_cast hx
    induction y using EReal.rec with
    | bot => simp at hy
    | top => simp [Ideal.sqrt_coe, not_lt.mpr hr, EReal.coe_lt_top]
    | coe s =>
      have hs : 0 ≤ s := by exact_mod_cast hy
      rw [Ideal.sqrt_coe, Ideal.sqrt_coe, if_neg (not_lt.mpr hr), if_neg (not_lt.mpr hs), EReal.coe_lt_coe_iff, EReal.coe_lt_coe_iff,
        Real.sqrt_lt_sqrt_iff hr]

theorem sqrt_lt_top {x : EReal} (hx : 0 ≤ x) : Ideal.sqrt x < ⊤ ↔ x < ⊤ := sqrt_lt hx le_top

theorem sqrt_mul {x : EReal} (hx : 0 ≤ x) : Ideal.sqrt x * Ideal.sqrt x = x := by
  induction x using EReal.rec with
  | bot => simp at hx
  | top => simp
  | coe r =>
    have hr : 0 ≤ r := by exact_mod_cast hx
    rw [Ideal.sqrt_coe, if_neg (not_lt.mpr hr), ← EReal.coe_mul, Real.mul_self_sqrt hr]

theorem sqrt_coe_mul {e : ℝ} (he : 0 ≤ e) : Ideal.sqrt ((e * e : ℝ) : EReal) = (e : EReal) := by
  rw [Ideal.sqrt_coe, if_neg (not_lt.mpr (mul_self_nonneg e)), Real.sqrt_mul_self he]

/-- A root raised to at least `e`, squared, is the square raised to at least `e * e`. -/
theorem clamp_sq {x : EReal} (hx : 0 ≤ x) {e : ℝ} (he : 0 ≤ e) :
    (if Ideal.sqrt x < (e : EReal) then (e : EReal) else Ideal.sqrt x) * (if Ideal.sqrt x < (e : EReal) then (e : EReal) else Ideal.sqrt x)
      = max x ((e * e : ℝ) : EReal) := by
  have he2 : (0 : EReal) ≤ ((e * e : ℝ) : EReal) := by exact_mod_cast mul_self_nonneg e
  have hiff : Ideal.sqrt x < (e : EReal) ↔ x < ((e * e : ℝ) : EReal) := by
    rw [← sqrt_coe_mul he]; exact sqrt_lt hx he2
  by_cases h : x < ((e * e : ℝ) : EReal)
  · rw [if_pos (hiff.mpr h), max_eq_right h.le, EReal.coe_mul]
  · rw [if_neg (mt hiff.mp h), sqrt_mul hx, max_eq_left (not_lt.mp h)]

/-- The squared distance of two points. -/
def dist2 (q k : Fin 3 → EReal) : EReal := ∑ a, (q a - k a) * (q a - k a)

theorem dist2_nonneg (q k : Fin 3 → EReal) : 0 ≤ dist2 q k := Finset.sum_nonneg fun a _ => sq_nonneg _

/-- The places that the stable sort of the roots puts first. -/
def order {n : Nat} (D : Fin n → EReal) : Fin n → Fin n := sortedFrom fun a b => decide (Ideal.sqrt (D a) < Ideal.sqrt (D b))

/-- Where the sorted roots begin with three different numbers, their places are the three nearest. -/
theorem nearest_of_sorted {D : Fin 2048 → EReal} (h0 : ∀ x, 0 ≤ D x) (h1 : Ideal.sqrt (D (order D 0)) < Ideal.sqrt (D (order D 1)))
    (h2 : Ideal.sqrt (D (order D 1)) < Ideal.sqrt (D (order D 2))) (h3 : Ideal.sqrt (D (order D 2)) < ⊤) :
    Nearest D (order D 0) (order D 1) (order D 2) := by
  refine ⟨(sqrt_lt (h0 _) (h0 _)).1 h1, (sqrt_lt (h0 _) (h0 _)).1 h2, (sqrt_lt_top (h0 _)).1 h3, fun x ha hb hc => ?_⟩
  obtain ⟨j, rfl⟩ : ∃ j, order D j = x := sortedFrom_surjective _ x
  have hj : (2 : Fin 2048) < j := by
    have e0 : j ≠ 0 := fun e => ha (by rw [e])
    have e1 : j ≠ 1 := fun e => hb (by rw [e])
    have e2 : j ≠ 2 := fun e => hc (by rw [e])
    have e0' : j.val ≠ 0 := fun e => e0 (Fin.ext e)
    have e1' : j.val ≠ 1 := fun e => e1 (Fin.ext e)
    have e2' : j.val ≠ 2 := fun e => e2 (Fin.ext e)
    rw [Fin.lt_def]
    show 2 < j.val
    omega
  rcases sortedFrom_order (fun x => Ideal.sqrt (D x)) 2 j hj with h | ⟨h, h'⟩
  · exact .inl ((sqrt_lt (h0 _) (h0 _)).1 h)
  · refine .inr ⟨?_, h'⟩
    rw [← sqrt_mul (h0 (order D 2)), ← sqrt_mul (h0 (order D j))]
    exact congrArg (fun z => z * z) h

end Cert.Proof.TopMath

end
-- ==== Proof.TopPay.lean ====
/-
  One point of the search at an entry, over ideal values: three rounds of minimum and mask over a row of squared distances.
-/
module

public import proofs.«01_k».proof.Proof.TopRun
public import proofs.«01_k».proof.Proof.TopMath
public import Idealize.ShloMosaic.Lib.Pointwise

@[expose] public section

set_option maxRecDepth 16384

noncomputable section

namespace Cert.Proof.Top

open Cert.TopIdeal Cert.TopIdeal.Gen Cert.Proof.TopMath
open Idealize.ShloMosaic Idealize.ShloMosaic.TcCoe Idealize.ShloMosaic.Tactic

theorem top_eq : Ideal.ofBits .f32 0x7F800000#32 = (⊤ : EReal) := by
  simp [Ideal.ofBits, Ideal.ieee]

theorem far_eq : Ideal.ofBits .f32 0x45000000#32 = ((2048 : ℝ) : EReal) := by
  simp [Ideal.ofBits, Ideal.ieee, -EReal.coe_mul]; norm_num

theorem named_mask : (Named.named (F := Ideal) κ "mask" (φ := .f32) 0x7F61B1E6#32 : Ideal .f32) = (⊤ : EReal) :=
  IdealRules.named_const.ideal_named_scalar _ _ _ _ rfl

theorem named_eps2 : (Named.named (F := Ideal) κ "eps2" (φ := .f32) 0x2B8CBCCC#32 : Ideal .f32) = ((77371252064649 / 77371252455336267181195264 : ℝ) : EReal) :=
  IdealRules.named_const.ideal_named_scalar _ _ _ _ rfl

/-- The squared distances of a point, of the four vectors it loads. -/
def sq (v0 : FVec Ideal S512x3 .f32) (v4 v14 v25 : FVec Ideal S1x2048 .f32) (r : Fin 512) (x : Fin 2048) : EReal :=
  (v0 (ix2 r 0) - v4 (ix2 0 x)) * (v0 (ix2 r 0) - v4 (ix2 0 x)) + (v0 (ix2 r 1) - v14 (ix2 0 x)) * (v0 (ix2 r 1) - v14 (ix2 0 x))
    + (v0 (ix2 r 2) - v25 (ix2 0 x)) * (v0 (ix2 r 2) - v25 (ix2 0 x))

theorem pay2_at (v0 : FVec Ideal S512x3 .f32) (v4 v14 v25 : FVec Ideal S1x2048 .f32) (r : Fin 512) (x : Fin 2048) :
    k0_pay2 (F := Ideal) v0 v4 v14 v25 (ix2 r x) = sq v0 v4 v14 v25 r x := by
  unfold sq
  pointwise [k0_pay2]

theorem pay3_at (r : Fin 512) (x : Fin 2048) : k0_pay3 (F := Ideal) (ix2 r x) = ((x.val : ℝ) : EReal) := by
  pointwise [k0_pay3]
  show (((BitVec.ofNat 32 x.val).toInt : ℝ) : EReal) = _
  have h : (BitVec.ofNat 32 x.val).toInt = (x.val : Int) := by
    rw [BitVec.toInt_eq_toNat_of_lt (by rw [BitVec.toNat_ofNat]; omega), BitVec.toNat_ofNat, Nat.mod_eq_of_lt (by omega)]
  rw [h, Int.cast_natCast]

/-- The least entry of a row. -/
theorem least_at (v : FVec Ideal S512x2048 .f32) (r : Fin 512) :
    multiReduction (F := Ideal) .minimumf [1] S512 v 0x7F800000#32 reduces_S512x2048_S512 (.inl rfl) rfl (ix1 r) = least fun x => v (ix2 r x) := by
  unfold least
  rw [← top_eq]
  pointwise []

theorem pay4_at (v0 : FVec Ideal S512x3 .f32) (v4 v14 v25 : FVec Ideal S1x2048 .f32) (r : Fin 512) :
    k0_pay4 (F := Ideal) v0 v4 v14 v25 (ix1 r) = least (sq v0 v4 v14 v25 r) := by
  unfold k0_pay4
  refine (least_at _ r).trans (congrArg least (funext fun x => ?_))
  rw [pay2_at]

theorem pay10_at (v43 : FVec Ideal S512x2048 .f32) (v45 : FVec Ideal S512x1 .f32) (r : Fin 512) (x : Fin 2048) :
    k0_pay10 (F := Ideal) v43 v45 (ix2 r x) = BitVec.ofBool (decide (v43 (ix2 r x) = v45 (ix2 r 0))) := by
  pointwise [k0_pay10]

theorem pay11_at (v43 : FVec Ideal S512x2048 .f32) (v45 : FVec Ideal S512x1 .f32) (r : Fin 512) :
    k0_pay11 (F := Ideal) k0_pay3 v43 v45 (ix1 r) = place (fun x => v43 (ix2 r x)) (v45 (ix2 r 0)) := by
  unfold k0_pay11 place
  refine (least_at _ r).trans (congrArg least (funext fun x => ?_))
  pointwise [k0_pay10]
  rw [pay3_at, far_eq]

theorem pay12_at (v43 : FVec Ideal S512x2048 .f32) (v45 : FVec Ideal S512x1 .f32) (r : Fin 512) (x : Fin 2048) :
    k0_pay12 (F := Ideal) v43 v45 (ix2 r x) = mask (fun x => v43 (ix2 r x)) (v45 (ix2 r 0)) x := by
  unfold mask
  pointwise [k0_pay12, k0_pay10]
  rw [named_mask]

theorem pay13_at (v43 : FVec Ideal S512x2048 .f32) (v45 : FVec Ideal S512x1 .f32) (r : Fin 512) :
    k0_pay13 (F := Ideal) v43 v45 (ix1 r) = least (mask (fun x => v43 (ix2 r x)) (v45 (ix2 r 0))) := by
  unfold k0_pay13
  refine (least_at _ r).trans (congrArg least (funext fun x => ?_))
  rw [pay12_at]

theorem pay14_at (v43 : FVec Ideal S512x2048 .f32) (v45 : FVec Ideal S512x1 .f32) (r : Fin 512) :
    k0_pay14 (F := Ideal) k0_pay3 v43 v45 (ix1 r)
      = place (mask (fun x => v43 (ix2 r x)) (v45 (ix2 r 0))) (least (mask (fun x => v43 (ix2 r x)) (v45 (ix2 r 0)))) := by
  unfold k0_pay14 place
  refine (least_at _ r).trans (congrArg least (funext fun x => ?_))
  pointwise []
  rw [pay3_at, far_eq, pay12_at, pay13_at]

theorem pay6_at (v0 : FVec Ideal S512x3 .f32) (v4 v14 v25 : FVec Ideal S1x2048 .f32) (r : Fin 512) :
    k0_pay6 (F := Ideal) v0 v4 v14 v25 (ix1 r) = place (sq v0 v4 v14 v25 r) (least (sq v0 v4 v14 v25 r)) := by
  unfold k0_pay6 place
  refine (least_at _ r).trans (congrArg least (funext fun x => ?_))
  pointwise [k0_pay5]
  rw [pay3_at, far_eq, pay2_at, pay4_at]

theorem pay7_at (v0 : FVec Ideal S512x3 .f32) (v4 v14 v25 : FVec Ideal S1x2048 .f32) (r : Fin 512) (x : Fin 2048) :
    k0_pay7 (F := Ideal) v0 v4 v14 v25 (ix2 r x) = mask (sq v0 v4 v14 v25 r) (least (sq v0 v4 v14 v25 r)) x := by
  unfold mask
  pointwise [k0_pay7, k0_pay5]
  rw [named_mask, pay2_at, pay4_at]

theorem pay8_at (v0 : FVec Ideal S512x3 .f32) (v4 v14 v25 : FVec Ideal S1x2048 .f32) (r : Fin 512) :
    k0_pay8 (F := Ideal) v0 v4 v14 v25 (ix1 r) = least (mask (sq v0 v4 v14 v25 r) (least (sq v0 v4 v14 v25 r))) := by
  unfold k0_pay8
  refine (least_at _ r).trans (congrArg least (funext fun x => ?_))
  rw [pay7_at]

theorem pay9_at (v0 : FVec Ideal S512x3 .f32) (v4 v14 v25 : FVec Ideal S1x2048 .f32) (r : Fin 512) :
    k0_pay9 (F := Ideal) v0 v4 v14 v25 (ix2 r 0) = least (mask (sq v0 v4 v14 v25 r) (least (sq v0 v4 v14 v25 r))) := by
  rw [← pay8_at]
  pointwise [k0_pay9]

/-- A weight before the weights are divided by their sum. -/
def inv (d : EReal) : EReal := Ideal.div 1 (max d ((77371252064649 / 77371252455336267181195264 : ℝ) : EReal))

theorem pay15_at (v35 : FVec Ideal S512 .f32) (r : Fin 512) : k0_pay15 (F := Ideal) v35 (ix1 r) = inv (v35 (ix1 r)) := by
  unfold inv
  pointwise [k0_pay15]
  rw [named_eps2]

theorem pay16_at (v44 : FVec Ideal S512 .f32) (r : Fin 512) : k0_pay16 (F := Ideal) v44 (ix1 r) = inv (v44 (ix1 r)) := by
  unfold inv
  pointwise [k0_pay16]
  rw [named_eps2]

theorem pay17_at (v43 : FVec Ideal S512x2048 .f32) (v45 : FVec Ideal S512x1 .f32) (r : Fin 512) :
    k0_pay17 (F := Ideal) v43 v45 (ix1 r) = inv (least (mask (fun x => v43 (ix2 r x)) (v45 (ix2 r 0)))) := by
  have h : k0_pay17 (F := Ideal) v43 v45 = k0_pay15 (F := Ideal) (k0_pay13 (F := Ideal) v43 v45) := by
    delta k0_pay17 k0_pay15
    rfl
  rw [h, pay15_at, pay13_at]

theorem pay18_at (v35 : FVec Ideal S512 .f32) (v43 : FVec Ideal S512x2048 .f32) (v44 : FVec Ideal S512 .f32) (v45 : FVec Ideal S512x1 .f32) (r : Fin 512) :
    k0_pay18 (F := Ideal) v35 v43 v44 v45 (ix1 r)
      = inv (v35 (ix1 r)) + inv (v44 (ix1 r)) + inv (least (mask (fun x => v43 (ix2 r x)) (v45 (ix2 r 0)))) := by
  rw [← pay15_at, ← pay16_at, ← pay17_at]
  pointwise [k0_pay18]

theorem pay19_at (v35 : FVec Ideal S512 .f32) (v43 : FVec Ideal S512x2048 .f32) (v44 : FVec Ideal S512 .f32) (v45 : FVec Ideal S512x1 .f32) (r : Fin 512) :
    k0_pay19 (F := Ideal) v35 v43 v44 v45 (ix2 r 0) = Ideal.div (inv (v35 (ix1 r))) (k0_pay18 (F := Ideal) v35 v43 v44 v45 (ix1 r)) := by
  rw [← pay15_at]
  pointwise [k0_pay19]

theorem pay20_at (v35 : FVec Ideal S512 .f32) (v43 : FVec Ideal S512x2048 .f32) (v44 : FVec Ideal S512 .f32) (v45 : FVec Ideal S512x1 .f32) (r : Fin 512) :
    k0_pay20 (F := Ideal) v35 v43 v44 v45 (ix2 r 0) = Ideal.div (inv (v44 (ix1 r))) (k0_pay18 (F := Ideal) v35 v43 v44 v45 (ix1 r)) := by
  rw [← pay16_at]
  pointwise [k0_pay20]

theorem pay21_at (v35 : FVec Ideal S512 .f32) (v43 : FVec Ideal S512x2048 .f32) (v44 : FVec Ideal S512 .f32) (v45 : FVec Ideal S512x1 .f32) (r : Fin 512) :
    k0_pay21 (F := Ideal) v35 v43 v44 v45 (ix2 r 0)
      = Ideal.div (inv (least (mask (fun x => v43 (ix2 r x)) (v45 (ix2 r 0))))) (k0_pay18 (F := Ideal) v35 v43 v44 v45 (ix1 r)) := by
  rw [← pay17_at]
  pointwise [k0_pay21]

/-- Turning a small whole number into an integer. -/
theorem fptosi_nat (n : Nat) (h : n < 2048) : FloatOps.fptosi (F := Ideal) (φ := .f32) 32 (((n : ℝ) : EReal)) = BitVec.ofNat 32 n := by
  show Ideal.fptosi 32 ((n : ℝ) : EReal) = _
  have e : max (-((2 ^ (32 - 1) : Nat) : Int)) (min (((2 ^ (32 - 1) : Nat) : Int) - 1) (n : Int)) = (n : Int) := by
    norm_num
    omega
  rw [Ideal.fptosi, Ideal.toIntClamped_coe, if_pos (Nat.cast_nonneg n), Int.floor_natCast, e, BitVec.ofInt_natCast]

theorem pay1_at (v41 v50 v59 : FVec Ideal S512 .f32) (r : Fin 512) (j : Fin 4) :
    k0_pay1 (F := Ideal) v41 v50 v59 (ix2 j r) = FloatOps.fptosi (F := Ideal) (φ := .f32) 32 ((![v41 (ix1 r), v50 (ix1 r), v59 (ix1 r), v41 (ix1 r)] : Fin 4 → EReal) j) := by
  fin_cases j
  all_goals pointwise [k0_pay1]

/-! ## A point's results -/

/-- The squared distances of a point, of its block of queries and of the keys. -/
def sqd (q : Vec Ideal S512x3 .f32) (k : Vec Ideal S8x2048 .f32) (r : Fin 512) (x : Fin 2048) : EReal :=
  (q (ix2 r 0) - k (ix2 0 x)) * (q (ix2 r 0) - k (ix2 0 x)) + (q (ix2 r 1) - k (ix2 1 x)) * (q (ix2 r 1) - k (ix2 1 x))
    + (q (ix2 r 2) - k (ix2 2 x)) * (q (ix2 r 2) - k (ix2 2 x))

theorem ld_rQ (q : Vec Ideal S512x3 .f32) (r : Fin 512) (a : Fin 3) : View.ld q rQ (ix2 r a) = q (ix2 r a) :=
  congrArg q (by idx_ext)
theorem ld_rK0 (k : Vec Ideal S8x2048 .f32) (x : Fin 2048) : View.ld k rK0 (ix2 0 x) = k (ix2 0 x) :=
  congrArg k (by idx_ext)
theorem ld_rK1 (k : Vec Ideal S8x2048 .f32) (x : Fin 2048) : View.ld k rK1 (ix2 0 x) = k (ix2 1 x) :=
  congrArg k (by idx_ext)
theorem ld_rK2 (k : Vec Ideal S8x2048 .f32) (x : Fin 2048) : View.ld k rK2 (ix2 0 x) = k (ix2 2 x) :=
  congrArg k (by idx_ext)

theorem sq_ld (q : Vec Ideal S512x3 .f32) (k : Vec Ideal S8x2048 .f32) (r : Fin 512) :
    sq (View.ld q rQ) (View.ld k rK0) (View.ld k rK1) (View.ld k rK2) r = sqd q k r := by
  funext x
  unfold sq sqd
  rw [ld_rQ, ld_rQ, ld_rQ, ld_rK0, ld_rK1, ld_rK2]

section point

variable {q : Vec Ideal S512x3 .f32} {k : Vec Ideal S8x2048 .f32} {r : Fin 512} {a b c : Fin 2048} (h : Nearest (sqd q k r) a b c)
include h

theorem m0_at : m0 q k (ix1 r) = sqd q k r a := by
  unfold m0
  rw [pay4_at, sq_ld, h.least0]

theorem i0_at : i0 q k (ix1 r) = ((a.val : ℝ) : EReal) := by
  unfold i0
  rw [pay6_at, sq_ld, h.least0, h.place0]

theorem d1_at : (fun x => d1 q k (ix2 r x)) = mask (sqd q k r) (sqd q k r a) := by
  funext x
  unfold d1
  rw [pay7_at, sq_ld, h.least0]

theorem m1_at : m1 q k (ix1 r) = sqd q k r b := by
  unfold m1
  rw [pay8_at, sq_ld, h.least0, h.least1]

theorem m1c_at : m1c q k (ix2 r 0) = sqd q k r b := by
  unfold m1c
  rw [pay9_at, sq_ld, h.least0, h.least1]

theorem near_at (j : Fin 4) : near q k (ix2 j r) = BitVec.ofNat 32 ((![a, b, c, a] : Fin 4 → Fin 2048) j).val := by
  unfold near
  rw [pay1_at, i0_at h, pay11_at, pay14_at, d1_at h, m1c_at h, h.place1, h.least2, h.place2]
  fin_cases j
  · exact fptosi_nat _ a.isLt
  · exact fptosi_nat _ b.isLt
  · exact fptosi_nat _ c.isLt
  · exact fptosi_nat _ a.isLt

theorem sum_at : k0_pay18 (F := Ideal) (m0 q k) (d1 q k) (m1 q k) (m1c q k) (ix1 r) = inv (sqd q k r a) + inv (sqd q k r b) + inv (sqd q k r c) := by
  rw [pay18_at, d1_at h, m1c_at h, h.least2, m0_at h, m1_at h]

theorem wt0_at : wt0 q k (ix2 r 0) = Ideal.div (inv (sqd q k r a)) (inv (sqd q k r a) + inv (sqd q k r b) + inv (sqd q k r c)) := by
  unfold wt0
  rw [pay19_at, sum_at h, m0_at h]

theorem wt1_at : wt1 q k (ix2 r 0) = Ideal.div (inv (sqd q k r b)) (inv (sqd q k r a) + inv (sqd q k r b) + inv (sqd q k r c)) := by
  unfold wt1
  rw [pay20_at, sum_at h, m1_at h]

theorem wt2_at : wt2 q k (ix2 r 0) = Ideal.div (inv (sqd q k r c)) (inv (sqd q k r a) + inv (sqd q k r b) + inv (sqd q k r c)) := by
  unfold wt2
  rw [pay21_at, sum_at h, d1_at h, m1c_at h, h.least2]

end point

/-! ## The columns of the buffer of weights -/

theorem not_mem_col (o o' : Nat) (ho : ∀ a, (![0, o] : Fin 2 → Nat) a + S512x1.size a ≤ S512x8.size a) (r : Fin 512) (ho' : o' < 8) (hne : o ≠ o') :
    (ix2 r ⟨o', ho'⟩ : S512x8.Idx) ∉ (Rect.unit (s := S512x8) ![0, o] S512x1.size ho).set := by
  intro hm
  obtain ⟨x, hx⟩ := (Rect.unit (s := S512x8) ![0, o] S512x1.size ho).exists_idx_of_mem hm
  have h1 := congrArg (fun i : S512x8.Idx => (i 1).val) hx
  have hx1 : (x 1).val < 1 := (x 1).isLt
  have h2 : o + 1 * (x 1).val = o' := h1
  omega

theorem col0_at (X : Vec Ideal S512x8 .f32) (w2 w1 w0 : Vec Ideal S512x1 .f32) (r : Fin 512) :
    Cert.Proof.Mlp.layers X [⟨rC2, w2⟩, ⟨rC1, w1⟩, ⟨rC0, w0⟩] (ix2 r 0) = w0 (ix2 r 0) := by
  refine (rC2.overlay_of_not_mem _ _ (not_mem_col 2 0 _ r (by decide) (by decide))).trans ?_
  refine (rC1.overlay_of_not_mem _ _ (not_mem_col 1 0 _ r (by decide) (by decide))).trans ?_
  exact (congrArg _ (by idx_ext : (ix2 r 0 : S512x8.Idx) = rC0.emb (ix2 r 0))).trans (rC0.overlay_emb _ _ (ix2 r 0))

theorem col1_at (X : Vec Ideal S512x8 .f32) (w2 w1 w0 : Vec Ideal S512x1 .f32) (r : Fin 512) :
    Cert.Proof.Mlp.layers X [⟨rC2, w2⟩, ⟨rC1, w1⟩, ⟨rC0, w0⟩] (ix2 r 1) = w1 (ix2 r 0) := by
  refine (rC2.overlay_of_not_mem _ _ (not_mem_col 2 1 _ r (by decide) (by decide))).trans ?_
  exact (congrArg _ (by idx_ext : (ix2 r 1 : S512x8.Idx) = rC1.emb (ix2 r 0))).trans (rC1.overlay_emb _ _ (ix2 r 0))

theorem col2_at (X : Vec Ideal S512x8 .f32) (w2 w1 w0 : Vec Ideal S512x1 .f32) (r : Fin 512) :
    Cert.Proof.Mlp.layers X [⟨rC2, w2⟩, ⟨rC1, w1⟩, ⟨rC0, w0⟩] (ix2 r 2) = w2 (ix2 r 0) :=
  (congrArg _ (by idx_ext : (ix2 r 2 : S512x8.Idx) = rC2.emb (ix2 r 0))).trans (rC2.overlay_emb _ _ (ix2 r 0))

end Cert.Proof.Top

end
-- ==== Proof.TopRef.lean ====
/-
  The search's reference at an entry: the sorted distances, their places and the weights; and what the precondition says of a row.
-/
module

public import proofs.«01_k».proof.Proof.TopMath
public import proofs.«01_k».proof.Proof.Gen.TopReferenceIdeal.Run
public import proofs.«01_k».proof.Proof.Gen.Pre_three_nearest
public import Idealize.ShloMosaic.Lib.Pointwise
public import Idealize.ShloMosaic.Lib.KernelVsHost

@[expose] public section

set_option maxRecDepth 16384

noncomputable section

namespace Cert.Proof.TopRef

open Cert.TopReferenceIdeal Cert.TopReferenceIdeal.Gen Cert.Proof.TopMath Idealize.ShloMosaic Idealize.ShloMosaic.TcCoe Idealize.ShloMosaic.Tactic

/-- The squared distance between query `r` and key `x`. -/
def sep (k : FVec Ideal S2048x3 .f32) (q : FVec Ideal S8192x3 .f32) (r : Fin 8192) (x : Fin 2048) : EReal :=
  dist2 (fun a => k (ix2 x a)) (fun a => q (ix2 r a))

theorem sep_nonneg (k : FVec Ideal S2048x3 .f32) (q : FVec Ideal S8192x3 .f32) (r : Fin 8192) (x : Fin 2048) : 0 ≤ sep k q r x := dist2_nonneg _ _

/-- The distances, as the reference prints them. -/
def dist (k : FVec Ideal S2048x3 .f32) (q : FVec Ideal S8192x3 .f32) : FVec Ideal S8192x2048 .f32 :=
  Host.sqrt (Host.reduceAdd (mulf (subf (broadcastInDim S8192x2048x3 ![0, 1, 2] bcast_S1x2048x3_S8192x2048x3_0_1_2 (broadcastInDim S1x2048x3 ![1, 2] bcast_S2048x3_S1x2048x3_1_2 k)) (broadcastInDim S8192x2048x3 ![0, 1, 2] bcast_S8192x1x3_S8192x2048x3_0_1_2 (broadcastInDim S8192x1x3 ![0, 2] bcast_S8192x3_S8192x1x3_0_2 q))) (subf (broadcastInDim S8192x2048x3 ![0, 1, 2] bcast_S1x2048x3_S8192x2048x3_0_1_2 (broadcastInDim S1x2048x3 ![1, 2] bcast_S2048x3_S1x2048x3_1_2 k)) (broadcastInDim S8192x2048x3 ![0, 1, 2] bcast_S8192x1x3_S8192x2048x3_0_1_2 (broadcastInDim S8192x1x3 ![0, 2] bcast_S8192x3_S8192x1x3_0_2 q)))) (constant S_ .f32 0x00000000#32) reducesTo_S8192x2048x3_S8192x2048_d2 h_S_)

theorem dist_apply (k : FVec Ideal S2048x3 .f32) (q : FVec Ideal S8192x3 .f32) (r : Fin 8192) (x : Fin 2048) :
    dist k q (ix2 r x) = Ideal.sqrt (sep k q r x) := by
  unfold dist sep dist2
  pointwise []

/-- The comparison of two keys is `<`. -/
theorem cmp_lt (a b : Ideal .f32) : (comparator_f32_d1 a b == 1#1) = decide (a < b) := by
  have h : ∀ x : EReal, (if x = 0 then 0 else x) = x := fun x => by split <;> simp_all
  unfold comparator_f32_d1
  pointwise []
  rw [if_neg (not_not.mpr rfl), if_neg (not_not.mpr rfl), h, h]
  show (BitVec.ofBool (decide (a < b)) == 1#1) = decide (a < b)
  by_cases hab : a < b <;> simp [hab]

theorem cmp_lt_pair (a b : Ideal .f32 × BitVec 32) : (comparator_f32_i32_d1 a b == 1#1) = decide (a.1 < b.1) := cmp_lt a.1 b.1

theorem along_eq (r : Fin 8192) (j a : Fin 2048) : (ix2 r j : S8192x2048.Idx).along 1 a = ix2 r a := by
  idx_ext

/-- A sort along the columns, at an entry. -/
theorem sort_apply {α : Type} (cmp : α → α → BitVec 1) (x : S8192x2048.Idx → α) (r : Fin 8192) (j : Fin 2048) :
    Host.sort S8192x2048 1 cmp x (ix2 r j) = x (ix2 r (sortedFrom (fun a b => cmp (x (ix2 r a)) (x (ix2 r b)) == 1#1) j)) := by
  unfold Host.sort
  rw [dif_pos (by decide)]
  refine (congrArg x (along_eq r j _)).trans ?_
  refine congrArg x (congrArg (ix2 r) ?_)
  refine congrFun (congrArg sortedFrom (funext fun a => funext fun b => ?_)) j
  exact congrArg₂ (fun u v => cmp (x u) (x v) == 1#1) (along_eq r j a) (along_eq r j b)

/-- The sorted distances at an entry. -/
theorem sorted_apply (k : FVec Ideal S2048x3 .f32) (q : FVec Ideal S8192x3 .f32) (r : Fin 8192) (j : Fin 2048) :
    Host.sort S8192x2048 1 comparator_f32_d1 (dist k q) (ix2 r j) = Ideal.sqrt (sep k q r (order (sep k q r) j)) := by
  rw [sort_apply, dist_apply]
  simp only [cmp_lt, dist_apply]
  rfl

/-- Their places at an entry. -/
theorem places_apply (k : FVec Ideal S2048x3 .f32) (q : FVec Ideal S8192x3 .f32) (r : Fin 8192) (j : Fin 2048) :
    (Host.sort2 S8192x2048 1 comparator_f32_i32_d1 (dist k q) (iotaInDim S8192x2048 32 1)).2 (ix2 r j) = BitVec.ofNat 32 (order (sep k q r) j).val := by
  have h : (Host.sort2 S8192x2048 1 comparator_f32_i32_d1 (dist k q) (iotaInDim S8192x2048 32 1)).2 (ix2 r j)
      = (Host.sort S8192x2048 1 comparator_f32_i32_d1 (fun i => (dist k q i, iotaInDim S8192x2048 32 1 i)) (ix2 r j)).2 := rfl
  rw [h, sort_apply]
  simp only [cmp_lt_pair, dist_apply]
  rfl

/-- A gather of columns, at an entry. -/
theorem gather_apply {α : Type} (x : S8192x2048.Idx → α) (idx : IVec S4x1 32) (r : Fin 8192) (j : Fin 4) :
    Host.gather gather_S8192x2048_S4x1_S8192x4_0_1_n_n_1_1_81921 x idx (ix2 r j) = x (ix2 r ⟨min (idx (ix2 j 0)).toInt.toNat 2047, by omega⟩) := by
  set d := gather_S8192x2048_S4x1_S8192x4_0_1_n_n_1_1_81921 with hd
  unfold Host.gather
  refine congrArg x (funext fun a => Fin.ext ?_)
  show d.start (ix2 r j) idx a + d.batchCoord (ix2 r j) a + d.offCoord (ix2 r j) a = _
  rw [GatherDims.batchCoord_eq_zero _ _ _ List.not_mem_nil]
  match a with
  | ⟨0, _⟩ =>
    show d.start (ix2 r j) idx 0 + 0 + d.offCoord (ix2 r j) 0 = r.val
    have h1 : d.start (ix2 r j) idx 0 = 0 := by
      unfold GatherDims.start
      exact dif_neg (by decide)
    have h2 : d.offCoord (ix2 r j) 0 = r.val := by
      unfold GatherDims.offCoord
      rw [dif_pos (by decide)]
      rfl
    rw [h1, h2]
    omega
  | ⟨1, _⟩ =>
    show d.start (ix2 r j) idx 1 + 0 + d.offCoord (ix2 r j) 1 = min (idx (ix2 j 0)).toInt.toNat 2047
    have h1 : d.start (ix2 r j) idx 1 = min (idx (ix2 j 0)).toInt.toNat 2047 := by
      unfold GatherDims.start
      rw [dif_pos (show (1 : Fin 2) ∈ d.startIndexMap from List.mem_singleton.mpr rfl)]
      have hsi : d.siIdx (ix2 r j) ⟨List.idxOf (1 : Fin 2) d.startIndexMap, List.idxOf_lt_length_iff.2 (List.mem_singleton.mpr rfl)⟩ = ix2 j 0 := by
        funext b; refine Fin.ext ?_
        match b with
        | ⟨0, _⟩ => rfl
        | ⟨1, _⟩ => rfl
      rw [hsi]
      rfl
    have h2 : d.offCoord (ix2 r j) 1 = 0 :=
      GatherDims.offCoord_eq_zero _ _ _ (fun h => ((GatherDims.mem_sKept _ _).mp h).1 (List.mem_singleton.mpr rfl))
    rw [h1, h2]
    rfl

theorem turn_apply (x : IVec S8192x4 32) (j : Fin 4) (r : Fin 8192) :
    transpose S4x8192 [1, 0] x transposes_S8192x4_S4x8192_1_0 (ix2 j r) = x (ix2 r j) := by
  pointwise []

/-- Which of the sorted places each row of the result holds. -/
def pick : Fin 4 → Fin 2048 := ![0, 1, 2, 0]

/-- The places returned, as the reference prints them. -/
def places (k : FVec Ideal S2048x3 .f32) (q : FVec Ideal S8192x3 .f32) : IVec S4x8192 32 :=
  transpose S4x8192 [1, 0] (Host.gather gather_S8192x2048_S4x1_S8192x4_0_1_n_n_1_1_81921 ((Host.sort2 S8192x2048 1 comparator_f32_i32_d1 (dist k q) (iotaInDim S8192x2048 32 1)).2) (broadcastInDim S4x1 ![0] bcast_S4_S4x1_0 (select (cmpi .slt ((fun i => lit0 (S4.rowMajor i))) (broadcastInDim S4 ![] bcast_S_S4 (constantI S_ 32 0#32))) (addi ((fun i => lit0 (S4.rowMajor i))) (broadcastInDim S4 ![] bcast_S_S4 (constantI S_ 32 2048#32))) ((fun i => lit0 (S4.rowMajor i)))))) transposes_S8192x4_S4x8192_1_0

theorem places_at (k : FVec Ideal S2048x3 .f32) (q : FVec Ideal S8192x3 .f32) (j : Fin 4) (r : Fin 8192) :
    places k q (ix2 j r) = BitVec.ofNat 32 (order (sep k q r) (pick j)).val := by
  unfold places
  rw [turn_apply, gather_apply, places_apply]
  refine congrArg (fun z => BitVec.ofNat 32 (order (sep k q r) z).val) (Fin.ext ?_)
  fin_cases j <;> rfl

/-- The weights returned, as the reference prints them. -/
def weights (k : FVec Ideal S2048x3 .f32) (q : FVec Ideal S8192x3 .f32) : FVec Ideal S8192x8 .f32 :=
  pad S8192x8 ![0, 0] ![0, 5] ![0, 0] (Host.divf (Host.divf (broadcastInDim S8192x3 ![] bcast_S_S8192x3 (constant S_ .f32 0x3F800000#32)) (mulf (extractStridedSlice S8192x3 ![0, 0] (select (cmpf .olt (Host.sort S8192x2048 1 comparator_f32_d1 (dist k q)) (broadcastInDim S8192x2048 ![] bcast_S_S8192x2048 (constant S_ .f32 0x358637BD#32))) (broadcastInDim S8192x2048 ![] bcast_S_S8192x2048 (id (constant S_ .f32 0x358637BD#32))) (Host.sort S8192x2048 1 comparator_f32_d1 (dist k q))) slices_S8192x2048_S8192x3_0_0) (extractStridedSlice S8192x3 ![0, 0] (select (cmpf .olt (Host.sort S8192x2048 1 comparator_f32_d1 (dist k q)) (broadcastInDim S8192x2048 ![] bcast_S_S8192x2048 (constant S_ .f32 0x358637BD#32))) (broadcastInDim S8192x2048 ![] bcast_S_S8192x2048 (id (constant S_ .f32 0x358637BD#32))) (Host.sort S8192x2048 1 comparator_f32_d1 (dist k q))) slices_S8192x2048_S8192x3_0_0))) (broadcastInDim S8192x3 ![0, 1] bcast_S8192x1_S8192x3_0_1 (broadcastInDim S8192x1 ![0] bcast_S8192_S8192x1_0 (Host.reduceAdd (Host.divf (broadcastInDim S8192x3 ![] bcast_S_S8192x3 (constant S_ .f32 0x3F800000#32)) (mulf (extractStridedSlice S8192x3 ![0, 0] (select (cmpf .olt (Host.sort S8192x2048 1 comparator_f32_d1 (dist k q)) (broadcastInDim S8192x2048 ![] bcast_S_S8192x2048 (constant S_ .f32 0x358637BD#32))) (broadcastInDim S8192x2048 ![] bcast_S_S8192x2048 (id (constant S_ .f32 0x358637BD#32))) (Host.sort S8192x2048 1 comparator_f32_d1 (dist k q))) slices_S8192x2048_S8192x3_0_0) (extractStridedSlice S8192x3 ![0, 0] (select (cmpf .olt (Host.sort S8192x2048 1 comparator_f32_d1 (dist k q)) (broadcastInDim S8192x2048 ![] bcast_S_S8192x2048 (constant S_ .f32 0x358637BD#32))) (broadcastInDim S8192x2048 ![] bcast_S_S8192x2048 (id (constant S_ .f32 0x358637BD#32))) (Host.sort S8192x2048 1 comparator_f32_d1 (dist k q))) slices_S8192x2048_S8192x3_0_0))) (constant S_ .f32 0x00000000#32) reducesTo_S8192x3_S8192_d1 h_S_)))) (sitofp .f32 (constantI S_ 32 0#32)) pads_S8192x3_S8192x8_000_050 h_S_

theorem res_eq (m : (ℓ : Loc nD τ sig) → Buf (Elt Ideal) ℓ) (c : Dev nD) :
    Cert.TopReferenceIdeal.Value.res_main_v27 m c = weights (m ((c.tc : Thread nD τ).loc main_arg0)) (m ((c.tc : Thread nD τ).loc main_arg1)) := rfl

/-- The square root of the least squared distance. -/
theorem eps_eq : Ideal.ofBits .f32 0x358637BD#32 = ((8796093 / 8796093022208 : ℝ) : EReal) := by
  simp [Ideal.ofBits, Ideal.ieee, -EReal.coe_mul]; norm_num

/-- A weight before the weights are divided by their sum. -/
def raw (k : FVec Ideal S2048x3 .f32) (q : FVec Ideal S8192x3 .f32) (r : Fin 8192) (x : Fin 2048) : EReal :=
  Ideal.div 1 (max (sep k q r x) ((77371252064649 / 77371252455336267181195264 : ℝ) : EReal))

theorem weights_at (k : FVec Ideal S2048x3 .f32) (q : FVec Ideal S8192x3 .f32) (r : Fin 8192) (c : Fin 3) :
    weights k q (ix2 r (c.castLE (by decide))) = Ideal.div (raw k q r (order (sep k q r) (c.castLE (by decide))))
      (raw k q r (order (sep k q r) 0) + raw k q r (order (sep k q r) 1) + raw k q r (order (sep k q r) 2)) := by
  unfold weights
  rw [pad_apply_of_inside _ _ _ _ _ _ _ _ (ix2 r c) (fun a => by fin_cases a <;> simp [ix2])]
  pointwise []
  have key : ∀ x : Fin 3, Ideal.div 1 ((if Host.sort S8192x2048 1 comparator_f32_d1 (dist k q) (ix2 r (x.castLE (by decide))) < Ideal.ofBits .f32 0x358637BD#32
        then Ideal.ofBits .f32 0x358637BD#32 else Host.sort S8192x2048 1 comparator_f32_d1 (dist k q) (ix2 r (x.castLE (by decide))))
      * (if Host.sort S8192x2048 1 comparator_f32_d1 (dist k q) (ix2 r (x.castLE (by decide))) < Ideal.ofBits .f32 0x358637BD#32
        then Ideal.ofBits .f32 0x358637BD#32 else Host.sort S8192x2048 1 comparator_f32_d1 (dist k q) (ix2 r (x.castLE (by decide)))))
      = raw k q r (order (sep k q r) (x.castLE (by decide))) := fun x => by
    rw [sorted_apply, eps_eq, clamp_sq (sep_nonneg k q r _) (by norm_num), raw]
    norm_num
  refine congrArg₂ Ideal.div (key c) ?_
  refine (Finset.sum_congr rfl fun x _ => key x).trans ?_
  rw [Fin.sum_univ_three]
  rfl

theorem inf_eq : Ideal.ofBits .f32 0x7F800000#32 = (⊤ : EReal) := by
  simp [Ideal.ofBits, Ideal.ieee]

theorem andi_eq_one : ∀ {a b : BitVec 1}, IntOp.andi a b = 1#1 → a = 1#1 ∧ b = 1#1 := by decide

theorem of_bit {p : Prop} [Decidable p] (h : BitVec.ofBool (decide p) = 1#1) : p := by
  by_contra hp
  rw [decide_eq_false hp] at h
  exact absurd h (by decide)

/-- Under the precondition a row's first three sorted places are its three nearest keys. -/
theorem nearest (k : FVec Ideal S2048x3 .f32) (q : FVec Ideal S8192x3 .f32) (h : Cert.Pre_three_nearest.fn (F := Ideal) k q = fun _ => 1#1) (r : Fin 8192) :
    Nearest (sep k q r) (order (sep k q r) 0) (order (sep k q r) 1) (order (sep k q r) 2) := by
  have hr := congrFun h (ix1 r)
  unfold Cert.Pre_three_nearest.fn at hr
  revert hr
  show (_ : BitVec 1) = 1#1 → _
  pointwise []
  intro hr
  have e0 := (sorted_apply k q r 0).symm
  have e1 := (sorted_apply k q r 1).symm
  have e2 := (sorted_apply k q r 2).symm
  obtain ⟨hr, h2⟩ := andi_eq_one hr
  obtain ⟨h0, h1⟩ := andi_eq_one hr
  refine nearest_of_sorted (sep_nonneg k q r) ?_ ?_ ?_
  · rw [e0, e1]; exact of_bit h0
  · rw [e1, e2]; exact of_bit h1
  · rw [e2, ← Cert.Proof.TopRef.inf_eq]; exact of_bit h2

end Cert.Proof.TopRef

end
-- ==== Proof.TopValues.lean ====
/-
  The search's results over ideal values: every block of neighbours, and the first three columns of every block of weights, are those
  of the reference.
-/
module

public import proofs.«01_k».proof.Proof.TopPay
public import proofs.«01_k».proof.Proof.TopRef
public import Idealize.ShloMosaic.Lib.Pipeline.ValueKit
public import Idealize.ShloMosaic.Lib.Routing.OpsOne

@[expose] public section

noncomputable section

namespace Cert.Proof.Top

open Cert.TopIdeal Cert.TopIdeal.Gen
open Cert.Proof.Mlp (layers)
open Cert.Proof.TopMath (Nearest least mask place order)
open Idealize.ShloMosaic Idealize.ShloMosaic.TcCoe Idealize.ShloMosaic.Tactic
open Idealize.ShloMosaic.Pipeline (Dat RDat Cfg Window)

/-- Row `r` of block `j`. -/
def row (j : Fin 16) (r : Fin 512) : Fin 8192 := ⟨j.val * 512 + r.val, by omega⟩

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![t.val, 0] := (by decide +kernel : ∀ t : Fin grid0.N, _)

theorem lt_16 (t : Fin cfg0.N) : t.val < 16 := lt_of_lt_of_eq t.isLt N_0

variable (m : (ℓ : Loc nD τ sig) → Buf (Elt Ideal) ℓ) (c : Dev nD)

/-- The keys' coordinates, and the queries'. -/
abbrev keys : Vec Ideal S2048x3 .f32 := m ((c.tc : Thread nD τ).loc main_arg0)
abbrev queries : Vec Ideal S8192x3 .f32 := m ((c.tc : Thread nD τ).loc main_arg1)

theorem rd0 (t : Fin cfg0.N) (r : Fin 512) (a : Fin 3) : iblk m c 0 t (ix2 r a) = queries m c (ix2 (row ⟨t.val, lt_16 t⟩ r) a) := by
  have e := idx0_0 t
  blk_simp [iblk]
  rw [V_main_arg1]
  refine congrArg (queries m c) ?_
  unfold row
  blk_ext [e]

/-! ## The keys, one coordinate a row -/

/-- An update lands at its own place. -/
theorem lands (d : ScatterDims S8x2048 S1 S3x2048) (hu : d.updateWindowDims = [0, 1]) (hi : d.insertedWindowDims = []) (hs : d.scatterDimsToOperandDims = [0])
    (idx : IVec S1 32) (hidx : idx (ix1 0) = 0#32) (a : Fin 3) (x : Fin 2048) (b : Fin 8) (y : Fin 2048) :
    d.resultIdx? (ix2 a x) idx = some (ix2 b y) ↔ a.val = b.val ∧ x = y := by
  have hm : (0 : Fin 2) ∈ d.scatterDimsToOperandDims := by rw [hs]; exact List.mem_singleton.2 rfl
  have hkept : d.sKept = [0, 1] := by
    show S8x2048.kept d.insertedWindowDims = _
    rw [hi]
    rfl
  have hwin0 : d.window (ix2 a x) 0 = a.val := by
    unfold ScatterDims.window
    rw [dif_pos (by rw [hkept]; decide)]
    have q : ∀ (l l' : List (Fin 2)) (hl : l = [0, 1]) (hl' : l' = [0, 1]) (h : List.idxOf 0 l' < l.length),
        ((ix2 a x : S3x2048.Idx) l[List.idxOf 0 l']).val = a.val := by rintro _ _ rfl rfl h; rfl
    exact q _ _ hu hkept _
  have hwin1 : d.window (ix2 a x) 1 = x.val := by
    unfold ScatterDims.window
    rw [dif_pos (by rw [hkept]; decide)]
    have q : ∀ (l l' : List (Fin 2)) (hl : l = [0, 1]) (hl' : l' = [0, 1]) (h : List.idxOf 1 l' < l.length),
        ((ix2 a x : S3x2048.Idx) l[List.idxOf 1 l']).val = x.val := by rintro _ _ rfl rfl h; rfl
    exact q _ _ hu hkept _
  have hstart0 : d.start (ix2 a x) idx 0 = 0 := by
    unfold ScatterDims.start
    rw [dif_pos hm]
    have hsi : d.siIdx (ix2 a x) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
    rfl
  have hstart1 : d.start (ix2 a x) idx 1 = 0 := by
    unfold ScatterDims.start
    rw [dif_neg fun h => by rw [hs] at h; exact absurd (List.mem_singleton.1 h) (by decide : (1 : Fin 2) ≠ 0)]
  refine (Routing.resultIdx?_ix2 d (ix2 a x) idx b y).trans ?_
  rw [hstart0, hwin0, hstart1, hwin1, Fin.ext_iff]
  omega

theorem keys_at (a : Fin 3) (x : Fin 2048) :
    V m c main_v3 (ix2 (a.castLE (by decide : 3 ≤ 8)) x) = keys m c (ix2 x a) := by
  entry_read
  have hl := fun (a' : Fin 3) (x' : Fin 2048) => lands scatter_S8x2048_S1_S3x2048_01_n_0_0 rfl rfl rfl
    (broadcastInDim S1 ![] bcast_S_S1 (constantI S_ 32 0#32)) rfl a' x' (a.castLE (by decide : 3 ≤ 8)) x
  refine Routing.scatter_set_hit scatter_S8x2048_S1_S3x2048_01_n_0_0 _ _ _ _ (keys m c (ix2 x a)) (fun j hj => ?_) (ix2 a x) ((hl a x).2 ⟨rfl, rfl⟩)
  obtain ⟨a', x', rfl⟩ : ∃ (a' : Fin 3) (x' : Fin 2048), j = ix2 a' x' := ⟨j 0, j 1, by idx_ext⟩
  obtain ⟨h1, rfl⟩ := (hl a' x').1 hj
  obtain rfl : a' = a := Fin.ext h1
  pointwise []

theorem rd1 (t : Fin cfg0.N) (a : Fin 3) (x : Fin 2048) : iblk m c 1 t (ix2 (a.castLE (by decide : 3 ≤ 8)) x) = keys m c (ix2 x a) := by
  have e := idx0_1 t
  have h : (win0_1.blk t).view.emb (ix2 (a.castLE (by decide : 3 ≤ 8)) x) = (ix2 (a.castLE (by decide : 3 ≤ 8)) x : S8x2048.Idx) := by blk_ext [e]
  blk_simp [iblk]
  rw [h]
  exact keys_at m c a x

/-- A point's squared distances are the reference's. -/
theorem sqd_eq (t : Fin cfg0.N) (r : Fin 512) :
    sqd (iblk m c 0 t) (iblk m c 1 t) r = TopRef.sep (keys m c) (queries m c) (row ⟨t.val, lt_16 t⟩ r) := by
  funext x
  unfold TopRef.sep TopMath.dist2
  rw [Fin.sum_univ_three, TopMath.sq_comm (keys m c (ix2 x 0)), TopMath.sq_comm (keys m c (ix2 x 1)), TopMath.sq_comm (keys m c (ix2 x 2)),
    ← rd1 m c t, ← rd1 m c t, ← rd1 m c t]
  dsimp only
  rw [← rd0, ← rd0, ← rd0]
  rfl

/-! ## The results -/

section results

variable (hpre : Cert.Pre_three_nearest.fn (F := Ideal) (keys m c) (queries m c) = fun _ => 1#1)
include hpre

theorem near_eq (t : Fin cfg0.N) (j : Fin 4) (r : Fin 512) :
    near (iblk m c 0 t) (iblk m c 1 t) (ix2 j r) = TopRef.places (keys m c) (queries m c) (ix2 j (row ⟨t.val, lt_16 t⟩ r)) := by
  have hn := TopRef.nearest (keys m c) (queries m c) hpre (row ⟨t.val, lt_16 t⟩ r)
  rw [← sqd_eq m c t r] at hn
  rw [near_at hn, TopRef.places_at, sqd_eq m c t r]
  generalize order (TopRef.sep (keys m c) (queries m c) (row ⟨t.val, lt_16 t⟩ r)) = o
  refine congrArg (fun z : Fin 2048 => BitVec.ofNat 32 z.val) ?_
  match j with
  | ⟨0, _⟩ => rfl
  | ⟨1, _⟩ => rfl
  | ⟨2, _⟩ => rfl
  | ⟨3, _⟩ => rfl

theorem wts_eq (t : Fin cfg0.N) (X : Vec Ideal S512x8 .f32) (hX : Wts m c t X) (r : Fin 512) (a : Fin 3) :
    X (ix2 r (a.castLE (by decide : 3 ≤ 8))) = TopRef.weights (keys m c) (queries m c) (ix2 (row ⟨t.val, lt_16 t⟩ r) (a.castLE (by decide : 3 ≤ 8))) := by
  obtain ⟨X₀, rfl⟩ := hX
  have hn := TopRef.nearest (keys m c) (queries m c) hpre (row ⟨t.val, lt_16 t⟩ r)
  have hw := TopRef.weights_at (keys m c) (queries m c) (row ⟨t.val, lt_16 t⟩ r) a
  unfold TopRef.raw at hw
  rw [← sqd_eq m c t r] at hn hw
  refine Eq.trans ?_ hw.symm
  match a with
  | ⟨0, _⟩ => exact (col0_at _ _ _ _ r).trans (wt0_at hn)
  | ⟨1, _⟩ => exact (col1_at _ _ _ _ r).trans (wt1_at hn)
  | ⟨2, _⟩ => exact (col2_at _ _ _ _ r).trans (wt2_at hn)

theorem final2 : (dats m c).arrAt 2 cfg0.N = (TopRef.places (keys m c) (queries m c) : Buf (Elt Ideal) ((c.tc : Thread nD τ).loc main_v4_0)) := by
  refine (dats m c).arrAt_eq_of_covers 2 _ (by decide +kernel) fun t hf y => ?_
  have e := idx0_2 t
  blk_simp
  rw [after0_2]
  obtain ⟨j, r, rfl⟩ : ∃ (j : Fin 4) (r : Fin 512), y = ix2 j r := ⟨y 0, y 1, by idx_ext⟩
  refine (near_eq m c hpre t j r).trans ?_
  refine congrArg (TopRef.places (keys m c) (queries m c)) ?_
  unfold row
  blk_ext [e]

theorem final3 (D : Dat τ (Elt Ideal) Unit ℕ (UR sig nD τ) ℕ cfg0 c) (hD : ∀ t, (cfg0.win 3).flush t = true → Wts m c t (D.after 3 t))
    (i : S8192x8.Idx) : (i 1).val < 3 → (D.arrAt 3 cfg0.N : Vec Ideal S8192x8 .f32) i = TopRef.weights (keys m c) (queries m c) i := by
  refine D.arrAt_forall_of_covers 3 (fun i v => (i 1).val < 3 → v = TopRef.weights (keys m c) (queries m c) i) (by decide +kernel) (fun t hf y => ?_) i
  intro hlt
  have e := idx0_3 t
  have hX := wts_eq m c hpre t _ (hD t hf)
  generalize D.after 3 t = X at hX ⊢
  obtain ⟨r, b, rfl⟩ : ∃ (r : Fin 512) (b : Fin 8), y = ix2 r b := ⟨y 0, y 1, by idx_ext⟩
  blk_simp [e] at hlt
  blk_simp
  refine (hX r ⟨b.val, hlt⟩).trans ?_
  refine congrArg (TopRef.weights (keys m c) (queries m c)) ?_
  unfold row
  blk_ext [e]
  rfl

end results

/-! ## The runs -/

variable (ρ : Dev nD → PrngReg)

/-- Every run ends with the reference's neighbours, with its weights in the first three columns, and with the arguments as they were. -/
theorem value_run (hpre : ∀ c : Dev nD, Cert.Pre_three_nearest.fn (F := Ideal) (keys m c) (queries m c) = fun _ => 1#1) :
    θ_run defs (onTc (τ := τ) (main (F := Ideal))) (s₀ m ρ) (fun r => ∀ c : Dev nD,
      r.2.mem ((c.tc : Thread nD τ).loc main_v4_0) = TopRef.places (keys m c) (queries m c)
        ∧ (∀ i : S8192x8.Idx, (i 1).val < 3 → (r.2.mem ((c.tc : Thread nD τ).loc main_v4_1) : Vec Ideal S8192x8 .f32) i = TopRef.weights (keys m c) (queries m c) i)
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r hr c => by
    obtain ⟨after, hL, hA⟩ := RDat.FramePost.exists_exact hr.1 c
    refine ⟨?_, fun i hi => ?_, args_of m hr.1 c⟩
    · exact ((((dats m c).toR.override_arrAt (by rfl) _ _).trans ((dats m c).toR_arrAt_iff 2 _ _)).1 ((hr.1 c).1 2)).trans (final2 m c (hpre c))
    · refine (congrFun (hA 3) i).trans ?_
      exact final3 m c (hpre c) ((rdats m c).withAfter after) (fun t hf => (dats m c).toRRel_leaves (Rl := Held m c) (w := 3) (by rfl) (hL 3 t hf)) i hi)
    (run_main_quiescent m ρ)

end Cert.Proof.Top

end
-- ==== Proof.lean ====
/-
  The claims. For the gather: one run of the kernel over any float values, with its result's contents, gives both frames and both
  value claims; one run of the reference over any float values gives the rest. For the layers: one run of the kernel over any float
  values gives the frames, and with its result's contents over ideal values the value claim.
-/
module

public import proofs.«01_k».proof.Defs
public import proofs.«01_k».proof.Proof.Gen.Kernel
public import proofs.«01_k».proof.Proof.Values
public import proofs.«01_k».proof.Proof.Gen.Mlp
public import proofs.«01_k».proof.Proof.MlpSame
public import proofs.«01_k».proof.Proof.TopValues
public import proofs.«01_k».proof.Proof.Gen.Top
public import proofs.«01_k».proof.Proof.Gen.Pre_three_nearest
public import proofs.«01_k».proof.Proof.Gen.On_columns_written

@[expose] public section

noncomputable section

namespace Cert.Proof

open Idealize.ShloMosaic Idealize.SL.Sem Cert.Proof.Launch Cert.Proof.Values

variable {F : FTy → Type} [FloatOps F] [∀ e, Nonempty (Elt F e)]

/-- The kernel's run at row numbers in range: the result is the gathered rows, the arguments end unchanged. -/
theorem kernel_run (m : (ℓ : Loc Cert.KernelIdeal.nD Cert.KernelIdeal.τ Cert.KernelIdeal.sig) → Buf (Elt F) ℓ) (ρ : Dev Cert.KernelIdeal.nD → PrngReg)
    (h : ∀ d : Dev Cert.KernelIdeal.nD, RowsOK (m (idx4Loc d) : Cert.KernelIdeal.S4x8192.Idx → BitVec 32)) :
    θ_run (Cert.KernelIdeal.defs (F := F)) (Cert.KernelIdeal.threads (F := F)) ⟨m, fun _ => 0, ρ⟩ fun r => ∀ c : Dev Cert.KernelIdeal.nD,
      r.2.mem (resLoc c) = (picked (m (featsLoc c) : Cert.KernelIdeal.S2048x256.Idx → F .f32) (m (idx4Loc c) : Cert.KernelIdeal.S4x8192.Idx → BitVec 32) : Buf (Elt F) (resLoc c))
      ∧ r.2.mem (featsLoc c) = m (featsLoc c) ∧ r.2.mem (idx4Loc c) = m (idx4Loc c) :=
  (θ_run Cert.KernelIdeal.defs _ _).mono (fun _ hr c => ⟨(hr.1 c).2.2.trans (resV_eq m c), (hr.1 c).1, (hr.1 c).2.1⟩)
    (run_main m ρ (inRange_of m h))

/-- The kernel runs, its arguments end unchanged, every semaphore counter reads zero again. -/
theorem kernel_frame (m : (ℓ : Loc Cert.KernelIdeal.nD Cert.KernelIdeal.τ Cert.KernelIdeal.sig) → Buf (Elt F) ℓ) (ρ : Dev Cert.KernelIdeal.nD → PrngReg)
    (h : ∀ d : Dev Cert.KernelIdeal.nD, RowsOK (m (idx4Loc d) : Cert.KernelIdeal.S4x8192.Idx → BitVec 32)) :
    θ_run (Cert.KernelIdeal.defs (F := F)) (Cert.KernelIdeal.threads (F := F)) ⟨m, fun _ => 0, ρ⟩ fun r =>
      (∀ c : Dev Cert.KernelIdeal.nD, r.2.mem (featsLoc c) = m (featsLoc c) ∧ r.2.mem (idx4Loc c) = m (idx4Loc c)) ∧ r.2.sem = fun _ => 0 :=
  (θ_run Cert.KernelIdeal.defs _ _).mono (fun _ hr => ⟨fun c => ⟨(hr.1 c).1, (hr.1 c).2.1⟩, hr.2⟩) (run_main m ρ (inRange_of m h))

omit [∀ e, Nonempty (Elt F e)] in
/-- The reference runs, its arguments end unchanged; it has no semaphores. -/
theorem reference_frame (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => (h c).2, sem_eq_zero_of_no_sems (by decide) r.2⟩)
    (Cert.ReferenceIdeal.Value.run m ρ)

/-- The kernel's frame at bit values. -/
theorem frame_Kernel : Cert.quiescent_Kernel := fun m ρ h =>
  kernel_frame (F := Bits) m ρ fun d => rowsOK_of_pre (F := Bits) _ _ (h d)
/-- The kernel's frame at ideal values. -/
theorem frame_KernelIdeal : Cert.quiescent_KernelIdeal := fun m ρ h =>
  kernel_frame (F := Ideal) m ρ fun d => rowsOK_of_pre (F := Ideal) _ _ (h d)
/-- The reference's frame at ideal values, with no precondition; under the precondition; and at bit values. -/
theorem frame_ReferenceIdeal : Cert.quiescent_ReferenceIdeal := fun m ρ _ => reference_frame (F := Ideal) m ρ
theorem frame_ReferenceIdeal_pre : Cert.quiescent_ReferenceIdeal_pre_in_range := fun m ρ _ => reference_frame (F := Ideal) m ρ
theorem frame_Reference : Cert.quiescent_Reference := fun m ρ _ => reference_frame (F := Bits) m ρ

/-- Kernel and reference end with the same result, at ideal values. -/
theorem same_ideal : Cert.algebraic_KernelIdeal_ReferenceIdeal := by
  intro m g m' g' hpre hargs
  have hI : ∀ d : Dev Cert.KernelIdeal.nD, RowsOK (m (idx4Loc d) : Cert.KernelIdeal.S4x8192.Idx → BitVec 32) := fun d => rowsOK_of_pre (F := Ideal) _ _ (hpre d)
  refine ⟨_, kernel_run (F := Ideal) m g hI, ?_⟩
  refine (θ_run Cert.ReferenceIdeal.defs _ _).mono (fun r hr c => ⟨(hr c).1.trans ?_, (hr c).2⟩)
    (reference_run (F := Ideal) m' g' fun c => by rw [(hargs c).2]; exact hI c)
  rw [(hargs c).1, (hargs c).2]

/-- Kernel and reference end with the same result, bit for bit. -/
theorem same_bits : Cert.bitexact_Kernel_Reference := by
  intro m g m' g' hpre hargs
  have hI : ∀ d : Dev Cert.KernelIdeal.nD, RowsOK (m (idx4Loc d) : Cert.KernelIdeal.S4x8192.Idx → BitVec 32) := fun d => rowsOK_of_pre (F := Bits) _ _ (hpre d)
  refine ⟨_, kernel_run (F := Bits) m g hI, ?_⟩
  refine (θ_run Cert.ReferenceIdeal.defs _ _).mono (fun r hr c => ⟨(hr c).1.trans ?_, (hr c).2⟩)
    (reference_run (F := Bits) m' g' fun c => (congrArg RowsOK (hargs c).2).mpr (hI c))
  exact congrArg₂ picked (hargs c).1 (hargs c).2

omit [∀ e, Nonempty (Elt F e)] in
/-- The layers' kernel's body is the same text in its two programs. -/
theorem mlp_body_same : Cert.Mlp.cc0__mlp_kernel (F := F) = Cert.MlpIdeal.cc0__mlp_kernel (F := F) := by
  with_unfolding_all rfl

set_option maxRecDepth 100000 in
set_option maxHeartbeats 4000000 in
omit [∀ e, Nonempty (Elt F e)] in
/-- So are their tables of bodies. -/
theorem mlp_bodies_same : Cert.Mlp.defs₀ (F := F) = Cert.MlpIdeal.defs₀ (F := F) := by
  delta Cert.Mlp.defs₀ Cert.MlpIdeal.defs₀
  rw [mlp_body_same]
  refine congrArg Defs.onTc (funext fun l => funext fun x => ?_)
  match l, x with
  | 0, (t, s) => rfl

omit [∀ e, Nonempty (Elt F e)] in
/-- So are they with the pipelines' own bodies. -/
theorem mlp_defs_same : Cert.Mlp.defs (F := F) = Cert.MlpIdeal.defs (F := F) :=
  congrArg (Pipeline.defs Cert.MlpIdeal.pcfgs) mlp_bodies_same

/-- The layers' kernel's frame at bit values, at ideal values, and there under the precondition. -/
theorem frame_Mlp : Cert.quiescent_Mlp := by
  intro m ρ _
  rw [mlp_defs_same]
  exact Mlp.frame (F := Bits) m ρ
theorem frame_MlpIdeal : Cert.quiescent_MlpIdeal := fun m ρ _ => Mlp.frame (F := Ideal) m ρ
theorem frame_MlpIdeal_pre : Cert.quiescent_MlpIdeal_pre_mlp_finite := fun m ρ _ => Mlp.frame (F := Ideal) m ρ

omit [∀ e, Nonempty (Elt F e)] in
/-- The layers' reference runs, its arguments end unchanged; it has no semaphores. -/
theorem mlp_reference_frame (m : (ℓ : Loc Cert.MlpReferenceIdeal.nD Cert.MlpReferenceIdeal.τ Cert.MlpReferenceIdeal.sig) → Buf (Elt F) ℓ) (ρ : Dev Cert.MlpReferenceIdeal.nD → PrngReg) :
    θ_run (Cert.MlpReferenceIdeal.defs (F := F)) (onTc (τ := Cert.MlpReferenceIdeal.τ) (Cert.MlpReferenceIdeal.main (F := F))) ⟨m, fun _ => 0, ρ⟩ fun r =>
      (∀ c : Dev Cert.MlpReferenceIdeal.nD,
        r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
        ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
        ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
        ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
        ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
        ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
        ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
        ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
        ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
        ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
        ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
        ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
        ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12)
        ∧ r.2.mem ((c.tc : Thread Cert.MlpReferenceIdeal.nD Cert.MlpReferenceIdeal.τ).loc Cert.MlpReferenceIdeal.main_arg13) = m ((c.tc : Thread Cert.MlpReferenceIdeal.nD Cert.MlpReferenceIdeal.τ).loc Cert.MlpReferenceIdeal.main_arg13))
      ∧ r.2.sem = fun _ => 0 :=
  (θ_run Cert.MlpReferenceIdeal.defs _ _).mono (fun r h => ⟨fun c => (h c).2, sem_eq_zero_of_no_sems (by decide) r.2⟩)
    (Cert.MlpReferenceIdeal.Value.run m ρ)

/-- The layers' reference's frame at ideal values, and there under the precondition. -/
theorem frame_MlpReferenceIdeal : Cert.quiescent_MlpReferenceIdeal := fun m ρ _ => mlp_reference_frame (F := Ideal) m ρ
theorem frame_MlpReferenceIdeal_pre : Cert.quiescent_MlpReferenceIdeal_pre_mlp_finite := fun m ρ _ => mlp_reference_frame (F := Ideal) m ρ

/-- The layers: kernel and reference end with the same result, at ideal values and real arguments. -/
theorem same_mlp : Cert.algebraic_MlpIdeal_MlpReferenceIdeal_pre_mlp_finite := by
  intro m g m' g' hpre hargs
  refine ⟨_, Mlp.value_run m g, ?_⟩
  refine (θ_run Cert.MlpReferenceIdeal.defs _ _).mono (fun r hr c => ⟨(hr c).1.trans ?_, (hr c).2⟩) (Cert.MlpReferenceIdeal.Value.run m' g')
  obtain ⟨h0, h1, h2, h3, h4, h5, h6, h7, h8, h9, h10, h11, h12, h13⟩ := hargs c
  rw [MlpRef.result_eq, h0, h1, h2, h3, h4, h5, h6, h7, h8, h9, h10, h11, h12, h13]
  exact Mlp.value_same m c (hpre c)

/-- The reading of named constants at bits: the bits the program is written with. -/
abbrev written : Named Bits where
  named _ _ {φ} w := Scalar.ofBits φ w

/-- So read, the search's body is the same in its two programs. -/
theorem top_body_same : Cert.Top.cc0__top3_kernel (F := Bits) = @Cert.TopIdeal.cc0__top3_kernel Bits _ written _ := by
  with_unfolding_all rfl

set_option maxRecDepth 100000 in
set_option maxHeartbeats 4000000 in
/-- So are its tables of bodies. -/
theorem top_bodies_same : Cert.Top.defs₀ (F := Bits) = @Cert.TopIdeal.defs₀ Bits _ written _ := by
  delta Cert.Top.defs₀ Cert.TopIdeal.defs₀
  rw [top_body_same]
  refine congrArg Defs.onTc (funext fun l => funext fun x => ?_)
  match l, x with
  | 0, (t, s) => rfl

/-- So are they with the pipeline's own body. -/
theorem top_defs_same : Cert.Top.defs (F := Bits) = @Cert.TopIdeal.defs Bits _ written _ :=
  congrArg (Pipeline.defs Cert.TopIdeal.pcfgs) top_bodies_same

/-- The search's frame at bit values, at ideal values, and there under the precondition. -/
theorem frame_Top : Cert.quiescent_Top := by
  intro m ρ _
  rw [top_defs_same]
  exact @Top.frame_run Bits _ written m ρ
theorem frame_TopIdeal : Cert.quiescent_TopIdeal := fun m ρ _ => Top.frame_run (F := Ideal) m ρ
theorem frame_TopIdeal_pre : Cert.quiescent_TopIdeal_pre_three_nearest := fun m ρ _ => Top.frame_run (F := Ideal) m ρ

/-- The search's reference runs, its arguments end unchanged; it has no semaphores. -/
theorem top_reference_frame (m : (ℓ : Loc Cert.TopReferenceIdeal.nD Cert.TopReferenceIdeal.τ Cert.TopReferenceIdeal.sig) → Buf (Elt Ideal) ℓ) (ρ : Dev Cert.TopReferenceIdeal.nD → PrngReg) :
    θ_run (Cert.TopReferenceIdeal.defs (F := Ideal)) (onTc (τ := Cert.TopReferenceIdeal.τ) (Cert.TopReferenceIdeal.main (F := Ideal))) ⟨m, fun _ => 0, ρ⟩ fun r =>
      (∀ c : Dev Cert.TopReferenceIdeal.nD,
        r.2.mem ((c.tc : Thread Cert.TopReferenceIdeal.nD Cert.TopReferenceIdeal.τ).loc Cert.TopReferenceIdeal.main_arg0) = m ((c.tc : Thread Cert.TopReferenceIdeal.nD Cert.TopReferenceIdeal.τ).loc Cert.TopReferenceIdeal.main_arg0)
        ∧ r.2.mem ((c.tc : Thread Cert.TopReferenceIdeal.nD Cert.TopReferenceIdeal.τ).loc Cert.TopReferenceIdeal.main_arg1) = m ((c.tc : Thread Cert.TopReferenceIdeal.nD Cert.TopReferenceIdeal.τ).loc Cert.TopReferenceIdeal.main_arg1))
      ∧ r.2.sem = fun _ => 0 :=
  (θ_run Cert.TopReferenceIdeal.defs _ _).mono (fun r h => ⟨fun c => (h c).2.2, sem_eq_zero_of_no_sems (by decide) r.2⟩)
    (Cert.TopReferenceIdeal.Value.run m ρ)

/-- The search's reference's frame at ideal values, and there under the precondition. -/
theorem frame_TopReferenceIdeal : Cert.quiescent_TopReferenceIdeal := fun m ρ _ => top_reference_frame m ρ
theorem frame_TopReferenceIdeal_pre : Cert.quiescent_TopReferenceIdeal_pre_three_nearest := fun m ρ _ => top_reference_frame m ρ

/-- The two constants' ideal values, named. -/
theorem named_Top : Cert.preserves_Top_TopIdeal :=
  ⟨IdealRules.named_const.statement _ _ _ _ _ rfl, IdealRules.named_const.statement _ _ _ _ _ rfl⟩

/-- Where the mask is set, the column is one of the first three. -/
theorem column_lt (k : Cert.TopIdeal.S2048x3.Idx → EReal) (q : Cert.TopIdeal.S8192x3.Idx → EReal) (i : Cert.TopIdeal.S8192x8.Idx)
    (h : (Cert.On_columns_written.fn (F := Ideal) k q).2 i = 1#1) : (i 1).val < 3 := by
  have hi : (i 1).val < 8 := (i 1).isLt
  change BitVec.ofBool ((BitVec.ofNat 32 (i 1).val).slt 3#32) = 1#1 at h
  generalize (i 1).val = n at h hi ⊢
  interval_cases n <;> first | decide | exact absurd h (by decide)

/-- The search: kernel and reference end with the same neighbours, and with the same weights in the columns that are written. -/
theorem same_top : Cert.algebraic_TopIdeal_TopReferenceIdeal_on_columns_written_pre_three_nearest := by
  intro m g m' g' hpre hargs
  refine ⟨fun c => TopRef.places (Top.keys m c) (Top.queries m c), fun c => TopRef.weights (Top.keys m c) (Top.queries m c), ?_, ?_⟩
  · exact (θ_run Cert.TopIdeal.defs _ _).mono (fun r hr c => ⟨fun i _ => congrFun (hr c).1 i, fun i hi => (hr c).2.1 i (column_lt _ _ i hi), (hr c).2.2⟩)
      (Top.value_run m g hpre)
  · refine (θ_run Cert.TopReferenceIdeal.defs _ _).mono (fun r hr c => ⟨fun i _ => ?_, fun i _ => ?_, (hr c).2.2⟩) (Cert.TopReferenceIdeal.Value.run m' g')
    · refine (congrFun (hr c).1 i).trans ?_
      show TopRef.places _ _ i = _
      rw [(hargs c).1, (hargs c).2]
    · refine (congrFun (hr c).2.1 i).trans ?_
      rw [TopRef.res_eq, (hargs c).1, (hargs c).2]

/-- Every claim of the certificate. -/
theorem claim : Cert.Claim :=
  ⟨Cert.Kernel.Gen.facts, Cert.KernelIdeal.Gen.facts, Cert.ReferenceIdeal.Gen.facts, Cert.Reference.Gen.facts, Cert.Mlp.Gen.facts, Cert.MlpIdeal.Gen.facts, Cert.MlpReferenceIdeal.Gen.facts,
    Cert.Top.Gen.facts, Cert.TopIdeal.Gen.facts, Cert.TopReferenceIdeal.Gen.facts,
    Cert.Pre_in_range.Gen.facts, Cert.Pre_mlp_finite.Gen.facts, Cert.Pre_three_nearest.Gen.facts, Cert.On_columns_written.Gen.facts,
    frame_Kernel, frame_KernelIdeal, frame_ReferenceIdeal, frame_ReferenceIdeal_pre, frame_Reference,
    frame_Mlp, frame_MlpIdeal, frame_MlpIdeal_pre, frame_MlpReferenceIdeal, frame_MlpReferenceIdeal_pre,
    frame_Top, frame_TopIdeal, frame_TopIdeal_pre, frame_TopReferenceIdeal, frame_TopReferenceIdeal_pre,
    trivial, same_ideal, same_bits, trivial, same_mlp, named_Top, same_top⟩

end Cert.Proof

end
